-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_expert_valid_KernelIdeal [hPre_expert_valid_KernelIdeal : Cert.Pre_expert_valid_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_expert_valid_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_valid_ReferenceIdeal [hPre_expert_valid_ReferenceIdeal : Cert.Pre_expert_valid_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_valid_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_expert_valid_KernelIdeal [hKernelIdeal : Cert.KernelIdeal.Facts] [hPre_expert_valid_KernelIdeal : Cert.Pre_expert_valid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_expert_valid_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_expert_valid_ReferenceIdeal [hReferenceIdeal : Cert.ReferenceIdeal.Facts] [hPre_expert_valid_ReferenceIdeal : Cert.Pre_expert_valid_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_valid_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_expert_valid_KernelIdeal [hKernelIdeal : Cert.KernelIdeal.Facts] [hReferenceIdeal : Cert.ReferenceIdeal.Facts] [hPre_expert_valid_KernelIdeal : Cert.Pre_expert_valid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_expert_valid_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_expert_valid_KernelIdeal : Cert.Pre_expert_valid_KernelIdeal.Facts) (hPre_expert_valid_ReferenceIdeal : Cert.Pre_expert_valid_ReferenceIdeal.Facts),
    quiescent_Kernel (hKernel := hKernel)
    ∧ quiescent_KernelIdeal (hKernelIdeal := hKernelIdeal)
    ∧ quiescent_KernelIdeal_pre_expert_valid_KernelIdeal (hKernelIdeal := hKernelIdeal) (hPre_expert_valid_KernelIdeal := hPre_expert_valid_KernelIdeal)
    ∧ quiescent_ReferenceIdeal (hReferenceIdeal := hReferenceIdeal)
    ∧ quiescent_ReferenceIdeal_pre_expert_valid_ReferenceIdeal (hReferenceIdeal := hReferenceIdeal) (hPre_expert_valid_ReferenceIdeal := hPre_expert_valid_ReferenceIdeal)
    ∧ preserves_Kernel_KernelIdeal
    ∧ algebraic_KernelIdeal_ReferenceIdeal_pre_expert_valid_KernelIdeal (hKernelIdeal := hKernelIdeal) (hReferenceIdeal := hReferenceIdeal) (hPre_expert_valid_KernelIdeal := hPre_expert_valid_KernelIdeal)
-- ==== Pre_expert_valid_KernelIdeal.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bcast_S_S512x1 : S_.BroadcastsInDim S512x1 (![] : Fin 0 → Fin S512x1.rank)

variable [Facts]

def fn {F : FTy → Type} [FloatOps F] (main_arg0 : FVec F S512x256 .bf16) (main_arg1 : FVec F S256x32 .bf16) (main_arg2 : IVec S512x1 32) (main_arg3 : FVec F S4x256x512 .bf16) (main_arg4 : FVec F S256x512 .bf16) : IVec S512x1 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32#32
  let main_v2 : IVec S512x1 32 := broadcastInDim S512x1 ![] bcast_S_S512x1 main_c_0
  let main_v3 : IVec S512x1 1 := cmpi .slt main_arg2 main_v2
  let main_v4 : IVec S512x1 1 := andi main_v1 main_v3
  main_v4
-- ==== Pre_expert_valid_ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S_ : Shape := ⟨0, ![]⟩

class Facts : Prop where
  bcast_S_S512x1 : S_.BroadcastsInDim S512x1 (![] : Fin 0 → Fin S512x1.rank)

variable [Facts]

def fn {F : FTy → Type} [FloatOps F] (main_arg0 : FVec F S512x256 .bf16) (main_arg1 : FVec F S256x32 .bf16) (main_arg2 : IVec S512x1 32) (main_arg3 : FVec F S32x256x512 .bf16) (main_arg4 : FVec F S256x512 .bf16) : IVec S512x1 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 32#32
  let main_v2 : IVec S512x1 32 := broadcastInDim S512x1 ![] bcast_S_S512x1 main_c_0
  let main_v3 : IVec S512x1 1 := cmpi .slt main_arg2 main_v2
  let main_v4 : IVec S512x1 1 := andi main_v1 main_v3
  main_v4
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S2x512x256 : Shape := ⟨3, ![2, 512, 256]⟩
abbrev S2x7x64x256 : Shape := ⟨4, ![2, 7, 64, 256]⟩
abbrev S2x64x256 : Shape := ⟨3, ![2, 64, 256]⟩
abbrev S2x7 : Shape := ⟨2, ![2, 7]⟩
abbrev S_ : Shape := ⟨0, ![]⟩
abbrev S512x32 : Shape := ⟨2, ![512, 32]⟩
abbrev S512 : Shape := ⟨1, ![512]⟩
abbrev S1x256x256 : Shape := ⟨3, ![1, 256, 256]⟩
abbrev S256x256 : Shape := ⟨2, ![256, 256]⟩
abbrev S1x512x256 : Shape := ⟨3, ![1, 512, 256]⟩
abbrev S1x1 : Shape := ⟨2, ![1, 1]⟩
abbrev S1x7x64x256 : Shape := ⟨4, ![1, 7, 64, 256]⟩
abbrev S7x64x256 : Shape := ⟨3, ![7, 64, 256]⟩
abbrev S1x64x256 : Shape := ⟨3, ![1, 64, 256]⟩
abbrev S64x256 : Shape := ⟨2, ![64, 256]⟩
abbrev S1x1x64x256 : Shape := ⟨4, ![1, 1, 64, 256]⟩
abbrev S64x512 : Shape := ⟨2, ![64, 512]⟩

abbrev nBuf : Space → Nat
  | .hbm => 6
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x32, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S512x512, .f32⟩
  | .local _ .vmem, ⟨6, _⟩ => ⟨S2x512x256, .f32⟩
  | .local _ .vmem, ⟨7, _⟩ => ⟨S2x512x256, .bf16⟩
  | .local _ .vmem, ⟨8, _⟩ => ⟨S2x7x64x256, .bf16⟩
  | .local _ .vmem, ⟨9, _⟩ => ⟨S2x64x256, .bf16⟩
  | .local _ .vmem, ⟨10, _⟩ => ⟨S2x512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v80 : BitVec 32 := Scalar.addi v2 c1_i32_49
  let c8_i32_50 : BitVec 32 := 8#32
  let v81 : BitVec 32 := Scalar.remsi v80 c8_i32_50
  let c64_i32_51 : BitVec 32 := 64#32
  let v82 : BitVec 32 := Scalar.muli v81 c64_i32_51
  v82
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_54 : BitVec 32 := 2#32
  let v86 : BitVec 32 := Scalar.addi v2 c2_i32_54
  let c8_i32_55 : BitVec 32 := 8#32
  let v87 : BitVec 32 := Scalar.remsi v86 c8_i32_55
  let c64_i32_56 : BitVec 32 := 64#32
  let v88 : BitVec 32 := Scalar.muli v87 c64_i32_56
  v88
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_59 : BitVec 32 := 3#32
  let v92 : BitVec 32 := Scalar.addi v2 c3_i32_59
  let c8_i32_60 : BitVec 32 := 8#32
  let v93 : BitVec 32 := Scalar.remsi v92 c8_i32_60
  let c64_i32_61 : BitVec 32 := 64#32
  let v94 : BitVec 32 := Scalar.muli v93 c64_i32_61
  v94
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v98 : BitVec 32 := Scalar.addi v2 c4_i32_64
  let c8_i32_65 : BitVec 32 := 8#32
  let v99 : BitVec 32 := Scalar.remsi v98 c8_i32_65
  let c64_i32_66 : BitVec 32 := 64#32
  let v100 : BitVec 32 := Scalar.muli v99 c64_i32_66
  v100
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_69 : BitVec 32 := 5#32
  let v104 : BitVec 32 := Scalar.addi v2 c5_i32_69
  let c8_i32_70 : BitVec 32 := 8#32
  let v105 : BitVec 32 := Scalar.remsi v104 c8_i32_70
  let c64_i32_71 : BitVec 32 := 64#32
  let v106 : BitVec 32 := Scalar.muli v105 c64_i32_71
  v106
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_74 : BitVec 32 := 6#32
  let v110 : BitVec 32 := Scalar.addi v2 c6_i32_74
  let c8_i32_75 : BitVec 32 := 8#32
  let v111 : BitVec 32 := Scalar.remsi v110 c8_i32_75
  let c64_i32_76 : BitVec 32 := 64#32
  let v112 : BitVec 32 := Scalar.muli v111 c64_i32_76
  v112
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_79 : BitVec 32 := 7#32
  let v116 : BitVec 32 := Scalar.addi v2 c7_i32_79
  let c8_i32_80 : BitVec 32 := 8#32
  let v117 : BitVec 32 := Scalar.remsi v116 c8_i32_80
  let c64_i32_81 : BitVec 32 := 64#32
  let v118 : BitVec 32 := Scalar.muli v117 c64_i32_81
  v118
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_84 : BitVec 32 := 1#32
  let v122 : BitVec 32 := Scalar.addi v2 c1_i32_84
  let c8_i32_85 : BitVec 32 := 8#32
  let v123 : BitVec 32 := Scalar.remsi v122 c8_i32_85
  let c64_i32_86 : BitVec 32 := 64#32
  let v124 : BitVec 32 := Scalar.muli v123 c64_i32_86
  v124
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v128 : BitVec 32 := Scalar.addi v2 c2_i32_89
  let c8_i32_90 : BitVec 32 := 8#32
  let v129 : BitVec 32 := Scalar.remsi v128 c8_i32_90
  let c64_i32_91 : BitVec 32 := 64#32
  let v130 : BitVec 32 := Scalar.muli v129 c64_i32_91
  v130
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_94 : BitVec 32 := 3#32
  let v134 : BitVec 32 := Scalar.addi v2 c3_i32_94
  let c8_i32_95 : BitVec 32 := 8#32
  let v135 : BitVec 32 := Scalar.remsi v134 c8_i32_95
  let c64_i32_96 : BitVec 32 := 64#32
  let v136 : BitVec 32 := Scalar.muli v135 c64_i32_96
  v136
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v140 : BitVec 32 := Scalar.addi v2 c4_i32_99
  let c8_i32_100 : BitVec 32 := 8#32
  let v141 : BitVec 32 := Scalar.remsi v140 c8_i32_100
  let c64_i32_101 : BitVec 32 := 64#32
  let v142 : BitVec 32 := Scalar.muli v141 c64_i32_101
  v142
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_104 : BitVec 32 := 5#32
  let v146 : BitVec 32 := Scalar.addi v2 c5_i32_104
  let c8_i32_105 : BitVec 32 := 8#32
  let v147 : BitVec 32 := Scalar.remsi v146 c8_i32_105
  let c64_i32_106 : BitVec 32 := 64#32
  let v148 : BitVec 32 := Scalar.muli v147 c64_i32_106
  v148
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_109 : BitVec 32 := 6#32
  let v152 : BitVec 32 := Scalar.addi v2 c6_i32_109
  let c8_i32_110 : BitVec 32 := 8#32
  let v153 : BitVec 32 := Scalar.remsi v152 c8_i32_110
  let c64_i32_111 : BitVec 32 := 64#32
  let v154 : BitVec 32 := Scalar.muli v153 c64_i32_111
  v154
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_114 : BitVec 32 := 7#32
  let v158 : BitVec 32 := Scalar.addi v2 c7_i32_114
  let c8_i32_115 : BitVec 32 := 8#32
  let v159 : BitVec 32 := Scalar.remsi v158 c8_i32_115
  let c64_i32_116 : BitVec 32 := 64#32
  let v160 : BitVec 32 := Scalar.muli v159 c64_i32_116
  v160
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult26 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_off1 (d0 : Dev nD) (c1_i32_49 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v80 : BitVec 32 := Scalar.addi v2 c1_i32_49
  let c8_i32_50 : BitVec 32 := 8#32
  let v81 : BitVec 32 := Scalar.remsi v80 c8_i32_50
  let c64_i32_51 : BitVec 32 := 64#32
  let v82 : BitVec 32 := Scalar.muli v81 c64_i32_51
  let v83 : BitVec 32 := v82
  let c0_i32_181 : BitVec 32 := 0#32
  ![v83.toNat, 0]
def k0_off2 (d0 : Dev nD) (c1_i32_49 : BitVec 32) : Fin 3 → Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v80 : BitVec 32 := Scalar.addi v2 c1_i32_49
  let c8_i32_50 : BitVec 32 := 8#32
  let v81 : BitVec 32 := Scalar.remsi v80 c8_i32_50
  let c64_i32_51 : BitVec 32 := 64#32
  let v82 : BitVec 32 := Scalar.muli v81 c64_i32_51
  let v83 : BitVec 32 := v82
  let c0_i32_180 : BitVec 32 := 0#32
  ![0, v83.toNat, 0]
def k0_dev8 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_52 : BitVec 32 := 1#32
  let v84 : BitVec 32 := Scalar.addi v2 c1_i32_52
  let c8_i32_53 : BitVec 32 := 8#32
  let v85 : BitVec 32 := Scalar.remsi v84 c8_i32_53
  let c1_i32_172 : BitVec 32 := 1#32
  let v235 : BitVec 32 := Scalar.muli v85 c1_i32_172
  let v236 : BitVec 32 := Scalar.addi c0_i32_173 v235
  v236.toNat
def k0_dev9 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let v90 : BitVec 32 := Scalar.addi v2 c2_i32_57
  let c8_i32_58 : BitVec 32 := 8#32
  let v91 : BitVec 32 := Scalar.remsi v90 c8_i32_58
  let c1_i32_189 : BitVec 32 := 1#32
  let v248 : BitVec 32 := Scalar.muli v91 c1_i32_189
  let v249 : BitVec 32 := Scalar.addi c0_i32_190 v248
  v249.toNat
def k0_dev10 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v96 : BitVec 32 := Scalar.addi v2 c3_i32_62
  let c8_i32_63 : BitVec 32 := 8#32
  let v97 : BitVec 32 := Scalar.remsi v96 c8_i32_63
  let c1_i32_206 : BitVec 32 := 1#32
  let v261 : BitVec 32 := Scalar.muli v97 c1_i32_206
  let v262 : BitVec 32 := Scalar.addi c0_i32_207 v261
  v262.toNat
def k0_dev11 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v102 : BitVec 32 := Scalar.addi v2 c4_i32_67
  let c8_i32_68 : BitVec 32 := 8#32
  let v103 : BitVec 32 := Scalar.remsi v102 c8_i32_68
  let c1_i32_223 : BitVec 32 := 1#32
  let v274 : BitVec 32 := Scalar.muli v103 c1_i32_223
  let v275 : BitVec 32 := Scalar.addi c0_i32_224 v274
  v275.toNat
def k0_dev12 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v108 : BitVec 32 := Scalar.addi v2 c5_i32_72
  let c8_i32_73 : BitVec 32 := 8#32
  let v109 : BitVec 32 := Scalar.remsi v108 c8_i32_73
  let c1_i32_240 : BitVec 32 := 1#32
  let v287 : BitVec 32 := Scalar.muli v109 c1_i32_240
  let v288 : BitVec 32 := Scalar.addi c0_i32_241 v287
  v288.toNat
def k0_dev13 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_77 : BitVec 32 := 6#32
  let v114 : BitVec 32 := Scalar.addi v2 c6_i32_77
  let c8_i32_78 : BitVec 32 := 8#32
  let v115 : BitVec 32 := Scalar.remsi v114 c8_i32_78
  let c1_i32_257 : BitVec 32 := 1#32
  let v300 : BitVec 32 := Scalar.muli v115 c1_i32_257
  let v301 : BitVec 32 := Scalar.addi c0_i32_258 v300
  v301.toNat
def k0_dev14 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_82 : BitVec 32 := 7#32
  let v120 : BitVec 32 := Scalar.addi v2 c7_i32_82
  let c8_i32_83 : BitVec 32 := 8#32
  let v121 : BitVec 32 := Scalar.remsi v120 c8_i32_83
  let c1_i32_274 : BitVec 32 := 1#32
  let v313 : BitVec 32 := Scalar.muli v121 c1_i32_274
  let v314 : BitVec 32 := Scalar.addi c0_i32_275 v313
  v314.toNat
def k0_off3 (d0 : Dev nD) (c1_i32_84 : BitVec 32) : Fin 3 → Nat :=
  let c1_i32_303 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v122 : BitVec 32 := Scalar.addi v2 c1_i32_84
  let c8_i32_85 : BitVec 32 := 8#32
  let v123 : BitVec 32 := Scalar.remsi v122 c8_i32_85
  let c64_i32_86 : BitVec 32 := 64#32
  let v124 : BitVec 32 := Scalar.muli v123 c64_i32_86
  let v125 : BitVec 32 := v124
  let c0_i32_318 : BitVec 32 := 0#32
  ![1, v125.toNat, 0]
def k0_dev15 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_87 : BitVec 32 := 1#32
  let v126 : BitVec 32 := Scalar.addi v2 c1_i32_87
  let c8_i32_88 : BitVec 32 := 8#32
  let v127 : BitVec 32 := Scalar.remsi v126 c8_i32_88
  let c1_i32_310 : BitVec 32 := 1#32
  let v355 : BitVec 32 := Scalar.muli v127 c1_i32_310
  let v356 : BitVec 32 := Scalar.addi c0_i32_311 v355
  v356.toNat
def k0_dev16 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_92 : BitVec 32 := 2#32
  let v132 : BitVec 32 := Scalar.addi v2 c2_i32_92
  let c8_i32_93 : BitVec 32 := 8#32
  let v133 : BitVec 32 := Scalar.remsi v132 c8_i32_93
  let c1_i32_327 : BitVec 32 := 1#32
  let v368 : BitVec 32 := Scalar.muli v133 c1_i32_327
  let v369 : BitVec 32 := Scalar.addi c0_i32_328 v368
  v369.toNat
def k0_dev17 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v138 : BitVec 32 := Scalar.addi v2 c3_i32_97
  let c8_i32_98 : BitVec 32 := 8#32
  let v139 : BitVec 32 := Scalar.remsi v138 c8_i32_98
  let c1_i32_344 : BitVec 32 := 1#32
  let v381 : BitVec 32 := Scalar.muli v139 c1_i32_344
  let v382 : BitVec 32 := Scalar.addi c0_i32_345 v381
  v382.toNat
def k0_dev18 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v144 : BitVec 32 := Scalar.addi v2 c4_i32_102
  let c8_i32_103 : BitVec 32 := 8#32
  let v145 : BitVec 32 := Scalar.remsi v144 c8_i32_103
  let c1_i32_361 : BitVec 32 := 1#32
  let v394 : BitVec 32 := Scalar.muli v145 c1_i32_361
  let v395 : BitVec 32 := Scalar.addi c0_i32_362 v394
  v395.toNat
def k0_dev19 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_107 : BitVec 32 := 5#32
  let v150 : BitVec 32 := Scalar.addi v2 c5_i32_107
  let c8_i32_108 : BitVec 32 := 8#32
  let v151 : BitVec 32 := Scalar.remsi v150 c8_i32_108
  let c1_i32_378 : BitVec 32 := 1#32
  let v407 : BitVec 32 := Scalar.muli v151 c1_i32_378
  let v408 : BitVec 32 := Scalar.addi c0_i32_379 v407
  v408.toNat
def k0_dev20 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_112 : BitVec 32 := 6#32
  let v156 : BitVec 32 := Scalar.addi v2 c6_i32_112
  let c8_i32_113 : BitVec 32 := 8#32
  let v157 : BitVec 32 := Scalar.remsi v156 c8_i32_113
  let c1_i32_395 : BitVec 32 := 1#32
  let v420 : BitVec 32 := Scalar.muli v157 c1_i32_395
  let v421 : BitVec 32 := Scalar.addi c0_i32_396 v420
  v421.toNat
def k0_dev21 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_117 : BitVec 32 := 7#32
  let v162 : BitVec 32 := Scalar.addi v2 c7_i32_117
  let c8_i32_118 : BitVec 32 := 8#32
  let v163 : BitVec 32 := Scalar.remsi v162 c8_i32_118
  let c1_i32_412 : BitVec 32 := 1#32
  let v433 : BitVec 32 := Scalar.muli v163 c1_i32_412
  let v434 : BitVec 32 := Scalar.addi c0_i32_413 v433
  v434.toNat
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  let v452 : BitVec 32 := v79
  let v453 : Index := Scalar.indexCast v452
  let c0_428 : Index := 0#32
  ![v453.toNat, 0]
def k0_mult30 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_off5 (d0 : Dev nD) : Fin 3 → Nat :=
  let c0_432 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  let v459 : BitVec 32 := v79
  let v460 : Index := Scalar.indexCast v459
  let c0_433 : Index := 0#32
  ![0, v460.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  let v164 : BitVec 32 := v79
  let c0_i32_591 : BitVec 32 := 0#32
  ![v164.toNat, 0]
def k0_off7 (d0 : Dev nD) : Fin 3 → Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  let v164 : BitVec 32 := v79
  let c0_i32_590 : BitVec 32 := 0#32
  ![0, v164.toNat, 0]
def k0_dev22 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_119 : BitVec 32 := 1#32
  let v165 : BitVec 32 := Scalar.addi v2 c1_i32_119
  let c8_i32_120 : BitVec 32 := 8#32
  let v166 : BitVec 32 := Scalar.remsi v165 c8_i32_120
  let c1_i32_587 : BitVec 32 := 1#32
  let v574 : BitVec 32 := Scalar.muli v166 c1_i32_587
  let v575 : BitVec 32 := Scalar.addi c0_i32_588 v574
  v575.toNat
def k0_dev23 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_121 : BitVec 32 := 2#32
  let v168 : BitVec 32 := Scalar.addi v2 c2_i32_121
  let c8_i32_122 : BitVec 32 := 8#32
  let v169 : BitVec 32 := Scalar.remsi v168 c8_i32_122
  let c1_i32_600 : BitVec 32 := 1#32
  let v585 : BitVec 32 := Scalar.muli v169 c1_i32_600
  let v586 : BitVec 32 := Scalar.addi c0_i32_601 v585
  v586.toNat
def k0_dev24 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v171 : BitVec 32 := Scalar.addi v2 c3_i32_123
  let c8_i32_124 : BitVec 32 := 8#32
  let v172 : BitVec 32 := Scalar.remsi v171 c8_i32_124
  let c1_i32_613 : BitVec 32 := 1#32
  let v596 : BitVec 32 := Scalar.muli v172 c1_i32_613
  let v597 : BitVec 32 := Scalar.addi c0_i32_614 v596
  v597.toNat
def k0_dev25 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_125 : BitVec 32 := 4#32
  let v174 : BitVec 32 := Scalar.addi v2 c4_i32_125
  let c8_i32_126 : BitVec 32 := 8#32
  let v175 : BitVec 32 := Scalar.remsi v174 c8_i32_126
  let c1_i32_626 : BitVec 32 := 1#32
  let v607 : BitVec 32 := Scalar.muli v175 c1_i32_626
  let v608 : BitVec 32 := Scalar.addi c0_i32_627 v607
  v608.toNat
def k0_dev26 (d0 : Dev nD) : Nat :=
  let c0_i32_640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_127 : BitVec 32 := 5#32
  let v177 : BitVec 32 := Scalar.addi v2 c5_i32_127
  let c8_i32_128 : BitVec 32 := 8#32
  let v178 : BitVec 32 := Scalar.remsi v177 c8_i32_128
  let c1_i32_639 : BitVec 32 := 1#32
  let v618 : BitVec 32 := Scalar.muli v178 c1_i32_639
  let v619 : BitVec 32 := Scalar.addi c0_i32_640 v618
  v619.toNat
def k0_dev27 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_129 : BitVec 32 := 6#32
  let v180 : BitVec 32 := Scalar.addi v2 c6_i32_129
  let c8_i32_130 : BitVec 32 := 8#32
  let v181 : BitVec 32 := Scalar.remsi v180 c8_i32_130
  let c1_i32_652 : BitVec 32 := 1#32
  let v629 : BitVec 32 := Scalar.muli v181 c1_i32_652
  let v630 : BitVec 32 := Scalar.addi c0_i32_653 v629
  v630.toNat
def k0_dev28 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_131 : BitVec 32 := 7#32
  let v183 : BitVec 32 := Scalar.addi v2 c7_i32_131
  let c8_i32_132 : BitVec 32 := 8#32
  let v184 : BitVec 32 := Scalar.remsi v183 c8_i32_132
  let c1_i32_665 : BitVec 32 := 1#32
  let v640 : BitVec 32 := Scalar.muli v184 c1_i32_665
  let v641 : BitVec 32 := Scalar.addi c0_i32_666 v640
  v641.toNat
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  let v651 : BitVec 32 := v79
  let v652 : Index := Scalar.indexCast v651
  let c0_672 : Index := 0#32
  ![v652.toNat, 0]
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_off9 (d0 : Dev nD) : Fin 3 → Nat :=
  let c1_673 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  let v654 : BitVec 32 := v79
  let v655 : Index := Scalar.indexCast v654
  let c0_674 : Index := 0#32
  ![1, v655.toNat, 0]
def k0_off10 (d0 : Dev nD) : Fin 3 → Nat :=
  let c1_i32_826 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  let v185 : BitVec 32 := v79
  let c0_i32_834 : BitVec 32 := 0#32
  ![1, v185.toNat, 0]
def k0_dev29 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v186 : BitVec 32 := Scalar.addi v2 c1_i32_133
  let c8_i32_134 : BitVec 32 := 8#32
  let v187 : BitVec 32 := Scalar.remsi v186 c8_i32_134
  let c1_i32_831 : BitVec 32 := 1#32
  let v769 : BitVec 32 := Scalar.muli v187 c1_i32_831
  let v770 : BitVec 32 := Scalar.addi c0_i32_832 v769
  v770.toNat
def k0_dev30 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v189 : BitVec 32 := Scalar.addi v2 c2_i32_135
  let c8_i32_136 : BitVec 32 := 8#32
  let v190 : BitVec 32 := Scalar.remsi v189 c8_i32_136
  let c1_i32_844 : BitVec 32 := 1#32
  let v780 : BitVec 32 := Scalar.muli v190 c1_i32_844
  let v781 : BitVec 32 := Scalar.addi c0_i32_845 v780
  v781.toNat
def k0_dev31 (d0 : Dev nD) : Nat :=
  let c0_i32_858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_137 : BitVec 32 := 3#32
  let v192 : BitVec 32 := Scalar.addi v2 c3_i32_137
  let c8_i32_138 : BitVec 32 := 8#32
  let v193 : BitVec 32 := Scalar.remsi v192 c8_i32_138
  let c1_i32_857 : BitVec 32 := 1#32
  let v791 : BitVec 32 := Scalar.muli v193 c1_i32_857
  let v792 : BitVec 32 := Scalar.addi c0_i32_858 v791
  v792.toNat
def k0_dev32 (d0 : Dev nD) : Nat :=
  let c0_i32_871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_139 : BitVec 32 := 4#32
  let v195 : BitVec 32 := Scalar.addi v2 c4_i32_139
  let c8_i32_140 : BitVec 32 := 8#32
  let v196 : BitVec 32 := Scalar.remsi v195 c8_i32_140
  let c1_i32_870 : BitVec 32 := 1#32
  let v802 : BitVec 32 := Scalar.muli v196 c1_i32_870
  let v803 : BitVec 32 := Scalar.addi c0_i32_871 v802
  v803.toNat
def k0_dev33 (d0 : Dev nD) : Nat :=
  let c0_i32_884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_141 : BitVec 32 := 5#32
  let v198 : BitVec 32 := Scalar.addi v2 c5_i32_141
  let c8_i32_142 : BitVec 32 := 8#32
  let v199 : BitVec 32 := Scalar.remsi v198 c8_i32_142
  let c1_i32_883 : BitVec 32 := 1#32
  let v813 : BitVec 32 := Scalar.muli v199 c1_i32_883
  let v814 : BitVec 32 := Scalar.addi c0_i32_884 v813
  v814.toNat
def k0_dev34 (d0 : Dev nD) : Nat :=
  let c0_i32_897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_143 : BitVec 32 := 6#32
  let v201 : BitVec 32 := Scalar.addi v2 c6_i32_143
  let c8_i32_144 : BitVec 32 := 8#32
  let v202 : BitVec 32 := Scalar.remsi v201 c8_i32_144
  let c1_i32_896 : BitVec 32 := 1#32
  let v824 : BitVec 32 := Scalar.muli v202 c1_i32_896
  let v825 : BitVec 32 := Scalar.addi c0_i32_897 v824
  v825.toNat
def k0_dev35 (d0 : Dev nD) : Nat :=
  let c0_i32_910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_145 : BitVec 32 := 7#32
  let v204 : BitVec 32 := Scalar.addi v2 c7_i32_145
  let c8_i32_146 : BitVec 32 := 8#32
  let v205 : BitVec 32 := Scalar.remsi v204 c8_i32_146
  let c1_i32_909 : BitVec 32 := 1#32
  let v835 : BitVec 32 := Scalar.muli v205 c1_i32_909
  let v836 : BitVec 32 := Scalar.addi c0_i32_910 v835
  v836.toNat
def k0_mult33 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  v79
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v79 : BitVec 32 := Scalar.muli v2 c64_i32
  let v846 : BitVec 32 := v79
  let v847 : Index := Scalar.indexCast v846
  let c256_916 : Index := 256#32
  ![v847.toNat, 256]
def k0_mult34 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_917 : BitVec 32 := 1#32
  let v849 : BitVec 32 := Scalar.subi v2 c1_i32_917
  let c8_i32_918 : BitVec 32 := 8#32
  let v850 : BitVec 32 := Scalar.addi v849 c8_i32_918
  let c8_i32_919 : BitVec 32 := 8#32
  let v851 : BitVec 32 := Scalar.remsi v850 c8_i32_919
  let c64_i32_933 : BitVec 32 := 64#32
  let v861 : BitVec 32 := Scalar.muli v851 c64_i32_933
  v861
def k0_off12 (d0 : Dev nD) (c1_i32_917 : BitVec 32) : Fin 3 → Nat :=
  let c0_934 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v849 : BitVec 32 := Scalar.subi v2 c1_i32_917
  let c8_i32_918 : BitVec 32 := 8#32
  let v850 : BitVec 32 := Scalar.addi v849 c8_i32_918
  let c8_i32_919 : BitVec 32 := 8#32
  let v851 : BitVec 32 := Scalar.remsi v850 c8_i32_919
  let c64_i32_933 : BitVec 32 := 64#32
  let v861 : BitVec 32 := Scalar.muli v851 c64_i32_933
  let v862 : BitVec 32 := v861
  let v863 : Index := Scalar.indexCast v862
  let c0_935 : Index := 0#32
  ![0, v863.toNat, 0]
def k0_mult35 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_917 : BitVec 32 := 1#32
  let v849 : BitVec 32 := Scalar.subi v2 c1_i32_917
  let c8_i32_918 : BitVec 32 := 8#32
  let v850 : BitVec 32 := Scalar.addi v849 c8_i32_918
  let c8_i32_919 : BitVec 32 := 8#32
  let v851 : BitVec 32 := Scalar.remsi v850 c8_i32_919
  let c64_i32_936 : BitVec 32 := 64#32
  let v867 : BitVec 32 := Scalar.muli v851 c64_i32_936
  v867
def k0_off13 (d0 : Dev nD) (c1_i32_917 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v849 : BitVec 32 := Scalar.subi v2 c1_i32_917
  let c8_i32_918 : BitVec 32 := 8#32
  let v850 : BitVec 32 := Scalar.addi v849 c8_i32_918
  let c8_i32_919 : BitVec 32 := 8#32
  let v851 : BitVec 32 := Scalar.remsi v850 c8_i32_919
  let c64_i32_936 : BitVec 32 := 64#32
  let v867 : BitVec 32 := Scalar.muli v851 c64_i32_936
  let v868 : BitVec 32 := v867
  let v869 : Index := Scalar.indexCast v868
  let c0_937 : Index := 0#32
  ![v869.toNat, 0]
def k0_mult36 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_938 : BitVec 32 := 2#32
  let v871 : BitVec 32 := Scalar.subi v2 c2_i32_938
  let c8_i32_939 : BitVec 32 := 8#32
  let v872 : BitVec 32 := Scalar.addi v871 c8_i32_939
  let c8_i32_940 : BitVec 32 := 8#32
  let v873 : BitVec 32 := Scalar.remsi v872 c8_i32_940
  let c64_i32_954 : BitVec 32 := 64#32
  let v883 : BitVec 32 := Scalar.muli v873 c64_i32_954
  v883
def k0_mult37 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_938 : BitVec 32 := 2#32
  let v871 : BitVec 32 := Scalar.subi v2 c2_i32_938
  let c8_i32_939 : BitVec 32 := 8#32
  let v872 : BitVec 32 := Scalar.addi v871 c8_i32_939
  let c8_i32_940 : BitVec 32 := 8#32
  let v873 : BitVec 32 := Scalar.remsi v872 c8_i32_940
  let c64_i32_957 : BitVec 32 := 64#32
  let v889 : BitVec 32 := Scalar.muli v873 c64_i32_957
  v889
def k0_mult38 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_959 : BitVec 32 := 3#32
  let v893 : BitVec 32 := Scalar.subi v2 c3_i32_959
  let c8_i32_960 : BitVec 32 := 8#32
  let v894 : BitVec 32 := Scalar.addi v893 c8_i32_960
  let c8_i32_961 : BitVec 32 := 8#32
  let v895 : BitVec 32 := Scalar.remsi v894 c8_i32_961
  let c64_i32_975 : BitVec 32 := 64#32
  let v905 : BitVec 32 := Scalar.muli v895 c64_i32_975
  v905
def k0_mult39 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_959 : BitVec 32 := 3#32
  let v893 : BitVec 32 := Scalar.subi v2 c3_i32_959
  let c8_i32_960 : BitVec 32 := 8#32
  let v894 : BitVec 32 := Scalar.addi v893 c8_i32_960
  let c8_i32_961 : BitVec 32 := 8#32
  let v895 : BitVec 32 := Scalar.remsi v894 c8_i32_961
  let c64_i32_978 : BitVec 32 := 64#32
  let v911 : BitVec 32 := Scalar.muli v895 c64_i32_978
  v911
def k0_mult40 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_980 : BitVec 32 := 4#32
  let v915 : BitVec 32 := Scalar.subi v2 c4_i32_980
  let c8_i32_981 : BitVec 32 := 8#32
  let v916 : BitVec 32 := Scalar.addi v915 c8_i32_981
  let c8_i32_982 : BitVec 32 := 8#32
  let v917 : BitVec 32 := Scalar.remsi v916 c8_i32_982
  let c64_i32_996 : BitVec 32 := 64#32
  let v927 : BitVec 32 := Scalar.muli v917 c64_i32_996
  v927
def k0_mult41 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_980 : BitVec 32 := 4#32
  let v915 : BitVec 32 := Scalar.subi v2 c4_i32_980
  let c8_i32_981 : BitVec 32 := 8#32
  let v916 : BitVec 32 := Scalar.addi v915 c8_i32_981
  let c8_i32_982 : BitVec 32 := 8#32
  let v917 : BitVec 32 := Scalar.remsi v916 c8_i32_982
  let c64_i32_999 : BitVec 32 := 64#32
  let v933 : BitVec 32 := Scalar.muli v917 c64_i32_999
  v933
def k0_mult42 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1001 : BitVec 32 := 5#32
  let v937 : BitVec 32 := Scalar.subi v2 c5_i32_1001
  let c8_i32_1002 : BitVec 32 := 8#32
  let v938 : BitVec 32 := Scalar.addi v937 c8_i32_1002
  let c8_i32_1003 : BitVec 32 := 8#32
  let v939 : BitVec 32 := Scalar.remsi v938 c8_i32_1003
  let c64_i32_1017 : BitVec 32 := 64#32
  let v949 : BitVec 32 := Scalar.muli v939 c64_i32_1017
  v949
def k0_mult43 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1001 : BitVec 32 := 5#32
  let v937 : BitVec 32 := Scalar.subi v2 c5_i32_1001
  let c8_i32_1002 : BitVec 32 := 8#32
  let v938 : BitVec 32 := Scalar.addi v937 c8_i32_1002
  let c8_i32_1003 : BitVec 32 := 8#32
  let v939 : BitVec 32 := Scalar.remsi v938 c8_i32_1003
  let c64_i32_1020 : BitVec 32 := 64#32
  let v955 : BitVec 32 := Scalar.muli v939 c64_i32_1020
  v955
def k0_mult44 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1022 : BitVec 32 := 6#32
  let v959 : BitVec 32 := Scalar.subi v2 c6_i32_1022
  let c8_i32_1023 : BitVec 32 := 8#32
  let v960 : BitVec 32 := Scalar.addi v959 c8_i32_1023
  let c8_i32_1024 : BitVec 32 := 8#32
  let v961 : BitVec 32 := Scalar.remsi v960 c8_i32_1024
  let c64_i32_1038 : BitVec 32 := 64#32
  let v971 : BitVec 32 := Scalar.muli v961 c64_i32_1038
  v971
def k0_mult45 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1022 : BitVec 32 := 6#32
  let v959 : BitVec 32 := Scalar.subi v2 c6_i32_1022
  let c8_i32_1023 : BitVec 32 := 8#32
  let v960 : BitVec 32 := Scalar.addi v959 c8_i32_1023
  let c8_i32_1024 : BitVec 32 := 8#32
  let v961 : BitVec 32 := Scalar.remsi v960 c8_i32_1024
  let c64_i32_1041 : BitVec 32 := 64#32
  let v977 : BitVec 32 := Scalar.muli v961 c64_i32_1041
  v977
def k0_mult46 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1043 : BitVec 32 := 7#32
  let v981 : BitVec 32 := Scalar.subi v2 c7_i32_1043
  let c8_i32_1044 : BitVec 32 := 8#32
  let v982 : BitVec 32 := Scalar.addi v981 c8_i32_1044
  let c8_i32_1045 : BitVec 32 := 8#32
  let v983 : BitVec 32 := Scalar.remsi v982 c8_i32_1045
  let c64_i32_1059 : BitVec 32 := 64#32
  let v993 : BitVec 32 := Scalar.muli v983 c64_i32_1059
  v993
def k0_mult47 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1043 : BitVec 32 := 7#32
  let v981 : BitVec 32 := Scalar.subi v2 c7_i32_1043
  let c8_i32_1044 : BitVec 32 := 8#32
  let v982 : BitVec 32 := Scalar.addi v981 c8_i32_1044
  let c8_i32_1045 : BitVec 32 := 8#32
  let v983 : BitVec 32 := Scalar.remsi v982 c8_i32_1045
  let c64_i32_1062 : BitVec 32 := 64#32
  let v999 : BitVec 32 := Scalar.muli v983 c64_i32_1062
  v999
def k0_mult48 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1064 : BitVec 32 := 1#32
  let v1003 : BitVec 32 := Scalar.subi v2 c1_i32_1064
  let c8_i32_1065 : BitVec 32 := 8#32
  let v1004 : BitVec 32 := Scalar.addi v1003 c8_i32_1065
  let c8_i32_1066 : BitVec 32 := 8#32
  let v1005 : BitVec 32 := Scalar.remsi v1004 c8_i32_1066
  let c64_i32_1080 : BitVec 32 := 64#32
  let v1015 : BitVec 32 := Scalar.muli v1005 c64_i32_1080
  v1015
def k0_off14 (d0 : Dev nD) (c1_i32_1064 : BitVec 32) : Fin 3 → Nat :=
  let c1_1081 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1003 : BitVec 32 := Scalar.subi v2 c1_i32_1064
  let c8_i32_1065 : BitVec 32 := 8#32
  let v1004 : BitVec 32 := Scalar.addi v1003 c8_i32_1065
  let c8_i32_1066 : BitVec 32 := 8#32
  let v1005 : BitVec 32 := Scalar.remsi v1004 c8_i32_1066
  let c64_i32_1080 : BitVec 32 := 64#32
  let v1015 : BitVec 32 := Scalar.muli v1005 c64_i32_1080
  let v1016 : BitVec 32 := v1015
  let v1017 : Index := Scalar.indexCast v1016
  let c0_1082 : Index := 0#32
  ![1, v1017.toNat, 0]
def k0_mult49 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1064 : BitVec 32 := 1#32
  let v1003 : BitVec 32 := Scalar.subi v2 c1_i32_1064
  let c8_i32_1065 : BitVec 32 := 8#32
  let v1004 : BitVec 32 := Scalar.addi v1003 c8_i32_1065
  let c8_i32_1066 : BitVec 32 := 8#32
  let v1005 : BitVec 32 := Scalar.remsi v1004 c8_i32_1066
  let c64_i32_1083 : BitVec 32 := 64#32
  let v1021 : BitVec 32 := Scalar.muli v1005 c64_i32_1083
  v1021
def k0_off15 (d0 : Dev nD) (c1_i32_1064 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1003 : BitVec 32 := Scalar.subi v2 c1_i32_1064
  let c8_i32_1065 : BitVec 32 := 8#32
  let v1004 : BitVec 32 := Scalar.addi v1003 c8_i32_1065
  let c8_i32_1066 : BitVec 32 := 8#32
  let v1005 : BitVec 32 := Scalar.remsi v1004 c8_i32_1066
  let c64_i32_1083 : BitVec 32 := 64#32
  let v1021 : BitVec 32 := Scalar.muli v1005 c64_i32_1083
  let v1022 : BitVec 32 := v1021
  let v1023 : Index := Scalar.indexCast v1022
  let c256_1084 : Index := 256#32
  ![v1023.toNat, 256]
def k0_mult50 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1085 : BitVec 32 := 2#32
  let v1025 : BitVec 32 := Scalar.subi v2 c2_i32_1085
  let c8_i32_1086 : BitVec 32 := 8#32
  let v1026 : BitVec 32 := Scalar.addi v1025 c8_i32_1086
  let c8_i32_1087 : BitVec 32 := 8#32
  let v1027 : BitVec 32 := Scalar.remsi v1026 c8_i32_1087
  let c64_i32_1101 : BitVec 32 := 64#32
  let v1037 : BitVec 32 := Scalar.muli v1027 c64_i32_1101
  v1037
def k0_mult51 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1085 : BitVec 32 := 2#32
  let v1025 : BitVec 32 := Scalar.subi v2 c2_i32_1085
  let c8_i32_1086 : BitVec 32 := 8#32
  let v1026 : BitVec 32 := Scalar.addi v1025 c8_i32_1086
  let c8_i32_1087 : BitVec 32 := 8#32
  let v1027 : BitVec 32 := Scalar.remsi v1026 c8_i32_1087
  let c64_i32_1104 : BitVec 32 := 64#32
  let v1043 : BitVec 32 := Scalar.muli v1027 c64_i32_1104
  v1043
def k0_mult52 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1106 : BitVec 32 := 3#32
  let v1047 : BitVec 32 := Scalar.subi v2 c3_i32_1106
  let c8_i32_1107 : BitVec 32 := 8#32
  let v1048 : BitVec 32 := Scalar.addi v1047 c8_i32_1107
  let c8_i32_1108 : BitVec 32 := 8#32
  let v1049 : BitVec 32 := Scalar.remsi v1048 c8_i32_1108
  let c64_i32_1122 : BitVec 32 := 64#32
  let v1059 : BitVec 32 := Scalar.muli v1049 c64_i32_1122
  v1059
def k0_mult53 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1106 : BitVec 32 := 3#32
  let v1047 : BitVec 32 := Scalar.subi v2 c3_i32_1106
  let c8_i32_1107 : BitVec 32 := 8#32
  let v1048 : BitVec 32 := Scalar.addi v1047 c8_i32_1107
  let c8_i32_1108 : BitVec 32 := 8#32
  let v1049 : BitVec 32 := Scalar.remsi v1048 c8_i32_1108
  let c64_i32_1125 : BitVec 32 := 64#32
  let v1065 : BitVec 32 := Scalar.muli v1049 c64_i32_1125
  v1065
def k0_mult54 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1127 : BitVec 32 := 4#32
  let v1069 : BitVec 32 := Scalar.subi v2 c4_i32_1127
  let c8_i32_1128 : BitVec 32 := 8#32
  let v1070 : BitVec 32 := Scalar.addi v1069 c8_i32_1128
  let c8_i32_1129 : BitVec 32 := 8#32
  let v1071 : BitVec 32 := Scalar.remsi v1070 c8_i32_1129
  let c64_i32_1143 : BitVec 32 := 64#32
  let v1081 : BitVec 32 := Scalar.muli v1071 c64_i32_1143
  v1081
def k0_mult55 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1127 : BitVec 32 := 4#32
  let v1069 : BitVec 32 := Scalar.subi v2 c4_i32_1127
  let c8_i32_1128 : BitVec 32 := 8#32
  let v1070 : BitVec 32 := Scalar.addi v1069 c8_i32_1128
  let c8_i32_1129 : BitVec 32 := 8#32
  let v1071 : BitVec 32 := Scalar.remsi v1070 c8_i32_1129
  let c64_i32_1146 : BitVec 32 := 64#32
  let v1087 : BitVec 32 := Scalar.muli v1071 c64_i32_1146
  v1087
def k0_mult56 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1148 : BitVec 32 := 5#32
  let v1091 : BitVec 32 := Scalar.subi v2 c5_i32_1148
  let c8_i32_1149 : BitVec 32 := 8#32
  let v1092 : BitVec 32 := Scalar.addi v1091 c8_i32_1149
  let c8_i32_1150 : BitVec 32 := 8#32
  let v1093 : BitVec 32 := Scalar.remsi v1092 c8_i32_1150
  let c64_i32_1164 : BitVec 32 := 64#32
  let v1103 : BitVec 32 := Scalar.muli v1093 c64_i32_1164
  v1103
def k0_mult57 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1148 : BitVec 32 := 5#32
  let v1091 : BitVec 32 := Scalar.subi v2 c5_i32_1148
  let c8_i32_1149 : BitVec 32 := 8#32
  let v1092 : BitVec 32 := Scalar.addi v1091 c8_i32_1149
  let c8_i32_1150 : BitVec 32 := 8#32
  let v1093 : BitVec 32 := Scalar.remsi v1092 c8_i32_1150
  let c64_i32_1167 : BitVec 32 := 64#32
  let v1109 : BitVec 32 := Scalar.muli v1093 c64_i32_1167
  v1109
def k0_mult58 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1169 : BitVec 32 := 6#32
  let v1113 : BitVec 32 := Scalar.subi v2 c6_i32_1169
  let c8_i32_1170 : BitVec 32 := 8#32
  let v1114 : BitVec 32 := Scalar.addi v1113 c8_i32_1170
  let c8_i32_1171 : BitVec 32 := 8#32
  let v1115 : BitVec 32 := Scalar.remsi v1114 c8_i32_1171
  let c64_i32_1185 : BitVec 32 := 64#32
  let v1125 : BitVec 32 := Scalar.muli v1115 c64_i32_1185
  v1125
def k0_mult59 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1169 : BitVec 32 := 6#32
  let v1113 : BitVec 32 := Scalar.subi v2 c6_i32_1169
  let c8_i32_1170 : BitVec 32 := 8#32
  let v1114 : BitVec 32 := Scalar.addi v1113 c8_i32_1170
  let c8_i32_1171 : BitVec 32 := 8#32
  let v1115 : BitVec 32 := Scalar.remsi v1114 c8_i32_1171
  let c64_i32_1188 : BitVec 32 := 64#32
  let v1131 : BitVec 32 := Scalar.muli v1115 c64_i32_1188
  v1131
def k0_mult60 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1190 : BitVec 32 := 7#32
  let v1135 : BitVec 32 := Scalar.subi v2 c7_i32_1190
  let c8_i32_1191 : BitVec 32 := 8#32
  let v1136 : BitVec 32 := Scalar.addi v1135 c8_i32_1191
  let c8_i32_1192 : BitVec 32 := 8#32
  let v1137 : BitVec 32 := Scalar.remsi v1136 c8_i32_1192
  let c64_i32_1206 : BitVec 32 := 64#32
  let v1147 : BitVec 32 := Scalar.muli v1137 c64_i32_1206
  v1147
def k0_mult61 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1190 : BitVec 32 := 7#32
  let v1135 : BitVec 32 := Scalar.subi v2 c7_i32_1190
  let c8_i32_1191 : BitVec 32 := 8#32
  let v1136 : BitVec 32 := Scalar.addi v1135 c8_i32_1191
  let c8_i32_1192 : BitVec 32 := 8#32
  let v1137 : BitVec 32 := Scalar.remsi v1136 c8_i32_1192
  let c64_i32_1209 : BitVec 32 := 64#32
  let v1153 : BitVec 32 := Scalar.muli v1137 c64_i32_1209
  v1153
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩
abbrev S512x512 : Shape := ⟨2, ![512, 512]⟩
abbrev S512x256x512 : Shape := ⟨3, ![512, 256, 512]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S32x256x512, .bf16⟩
  | .hbm, ⟨4, _⟩ => ⟨S256x512, .bf16⟩
  | .hbm, ⟨5, _⟩ => ⟨S512x256, .f32⟩
  | .hbm, ⟨6, _⟩ => ⟨S256x32, .f32⟩
  | .hbm, ⟨7, _⟩ => ⟨S32x256x512, .f32⟩
  | .hbm, ⟨8, _⟩ => ⟨S256x512, .f32⟩
  | .hbm, ⟨9, _⟩ => ⟨S512x32, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x32, .f32⟩
  | .hbm, ⟨14, _⟩ => ⟨S512x32, .f32⟩
  | .hbm, ⟨15, _⟩ => ⟨S512x32, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S512x32, .f32⟩
  | .hbm, ⟨20, _⟩ => ⟨S512x32, .f32⟩
  | .hbm, ⟨21, _⟩ => ⟨S512x512, .f32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S512x256x512, .f32⟩
  | .hbm, ⟨32, _⟩ => ⟨S512x512, .f32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S_, .i32⟩
  | .hbm, ⟨37, _⟩ => ⟨S512x1, .i32⟩
  | .hbm, ⟨38, _⟩ => ⟨S512x1, .i32⟩
  | .hbm, ⟨39, _⟩ => ⟨S512x1, .i32⟩
  | .hbm, ⟨40, _⟩ => ⟨S512x1x1, .i32⟩
  | .hbm, ⟨41, _⟩ => ⟨S1, .i32⟩
  | .hbm, ⟨42, _⟩ => ⟨S_, .i32⟩
  | .hbm, ⟨43, _⟩ => ⟨S512x1x1, .i32⟩
  | .hbm, ⟨44, _⟩ => ⟨S512x1x1, .i1⟩
  | .hbm, ⟨45, _⟩ => ⟨S1x1x1, .i32⟩
  | .hbm, ⟨46, _⟩ => ⟨S512x1x1, .i32⟩
  | .hbm, ⟨47, _⟩ => ⟨S512x1x1, .i1⟩
  | .hbm, ⟨48, _⟩ => ⟨S512x1x1, .i1⟩
  | .hbm, ⟨49, _⟩ => ⟨S_, .i1⟩
  | .hbm, ⟨50, _⟩ => ⟨S512x1, .i1⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S512x512, .f32⟩
  | .hbm, ⟨56, _⟩ => ⟨S512x512, .f32⟩
  | .hbm, ⟨57, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.IdViews.lean ====
/-
The kernel's scratch buffers cut into the blocks its transfers move: the memrefs the printed program takes as the ends of
its transfers, the elements each covers, and what a transfer lands, all by index.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

/-! ## The ring of devices -/

set_option backward.proofsInPublic true in
/-- The device `r + 1` places after `c`. -/
def pr (c : Dev nD) (r : Fin 7) : Dev nD := ⟨(c.val + (1 + r.val)) % 8, Nat.mod_lt _ (by decide)⟩
set_option backward.proofsInPublic true in
/-- The device `r + 1` places before `c`. -/
def bk (c : Dev nD) (r : Fin 7) : Dev nD := ⟨(c.val + (7 - r.val)) % 8, Nat.mod_lt _ (by decide)⟩

theorem bk_pr (c : Dev nD) (r : Fin 7) : bk (pr c r) r = c := by revert c r; decide
theorem pr_bk (c : Dev nD) (r : Fin 7) : pr (bk c r) r = c := by revert c r; decide
theorem pr_rev (c : Dev nD) (r : Fin 7) : pr c r.rev = bk c r := by revert c r; decide
theorem bk_rev (c : Dev nD) (r : Fin 7) : bk c r.rev = pr c r := by revert c r; decide
theorem pr_ne (c : Dev nD) (r : Fin 7) : pr c r ≠ c := by revert c r; decide
theorem pr_inj (c : Dev nD) : ∀ r r' : Fin 7, pr c r = pr c r' → r = r' := by revert c; decide
theorem bk_inj (c : Dev nD) : ∀ r r' : Fin 7, bk c r = bk c r' → r = r' := by revert c; decide
theorem bk_ne (c : Dev nD) (r : Fin 7) : bk c r ≠ c := by revert c r; decide
/-- Every device is `c` or one of the seven after it. -/
theorem pr_cover (c t : Dev nD) : t = c ∨ ∃ r, pr c r = t := by revert c t; decide
theorem bk_cover (c t : Dev nD) : t = c ∨ ∃ r, bk c r = t := by revert c t; decide

/-! ## The scratch memrefs -/

abbrev accM : Memref sig .tc .vmem S2x512x256 .f32 := Memref.whole cc0_scratch0
abbrev stM : Memref sig .tc .vmem S2x512x256 .bf16 := Memref.whole cc0_scratch1
abbrev laM : Memref sig .tc .vmem S2x7x64x256 .bf16 := Memref.whole cc0_scratch2
abbrev seM : Memref sig .tc .vmem S2x64x256 .bf16 := Memref.whole cc0_scratch3
abbrev agM : Memref sig .tc .vmem S2x512x256 .bf16 := Memref.whole cc0_scratch4

theorem rows_inb (s : Fin 2) (t : Dev nD) : ∀ a, (![s.val, 64 * t.val, 0] : Fin 3 → ℕ) a + S1x64x256.size a ≤ S2x512x256.size a := by
  revert s t; decide
theorem slot_inb (s : Fin 2) (r : Fin 7) : ∀ a, (![s.val, r.val, 0, 0] : Fin 4 → ℕ) a + S1x1x64x256.size a ≤ S2x7x64x256.size a := by
  revert s r; decide
theorem half_inb (s : Fin 2) : ∀ a, (![s.val, 0, 0] : Fin 3 → ℕ) a + S1x64x256.size a ≤ S2x64x256.size a := by
  revert s; decide

/-- Rows `64 t …` of stream `s` of a `2 × 512 × 256` scratch buffer, as a transfer names them. -/
abbrev rowsOf (M : Memref sig .tc .vmem S2x512x256 .bf16) (s : Fin 2) (t : Dev nD) : Memref sig .tc .vmem S64x256 .bf16 :=
  (M.slice (Rect.unit (s := S2x512x256) ![s.val, 64 * t.val, 0] S1x64x256.size (rows_inb s t)) (fun _ => rfl)).squeeze S64x256 squeezes_S1x64x256_S64x256
/-- The landing slot of stream `s`, sender `r + 1` places back. -/
abbrev slotOf (s : Fin 2) (r : Fin 7) : Memref sig .tc .vmem S64x256 .bf16 :=
  (laM.slice (Rect.unit (s := S2x7x64x256) ![s.val, r.val, 0, 0] S1x1x64x256.size (slot_inb s r)) (fun _ => rfl)).squeeze S64x256 squeezes_S1x1x64x256_S64x256
/-- Stream `s` of the segment buffer. -/
abbrev segOf (s : Fin 2) : Memref sig .tc .vmem S64x256 .bf16 :=
  (seM.slice (Rect.unit (s := S2x64x256) ![s.val, 0, 0] S1x64x256.size (half_inb s)) (fun _ => rfl)).squeeze S64x256 squeezes_S1x64x256_S64x256

/-! ## The elements under each -/

/-- The elements of rows `64 t …` of stream `s`. -/
def rowsSet (s : Fin 2) (t : Dev nD) : Finset S2x512x256.Idx := Finset.univ.filter fun i => (i 0).val = s.val ∧ (i 1).val / 64 = t.val
def slotSet (s : Fin 2) (r : Fin 7) : Finset S2x7x64x256.Idx := Finset.univ.filter fun i => (i 0).val = s.val ∧ (i 1).val = r.val
def segSet (s : Fin 2) : Finset S2x64x256.Idx := Finset.univ.filter fun i => (i 0).val = s.val
/-- All of stream `s`. -/
def strSet (s : Fin 2) : Finset S2x512x256.Idx := Finset.univ.filter fun i => (i 0).val = s.val

theorem rect_rows (s : Fin 2) (t : Dev nD) :
    (Rect.unit (s := S2x512x256) ![s.val, 64 * t.val, 0] S1x64x256.size (rows_inb s t)).set = rowsSet s t := by
  ext i
  rw [Rect.mem_set_unit]
  simp only [rowsSet, Finset.mem_filter, Finset.mem_univ, true_and]
  have h2 : (i 2).val < 256 := (i 2).isLt
  constructor
  · intro h
    have h0 := h 0
    have h1 := h 1
    simp at h0 h1
    omega
  · intro h a
    fin_cases a <;> simp <;> omega

theorem rect_slot (s : Fin 2) (r : Fin 7) :
    (Rect.unit (s := S2x7x64x256) ![s.val, r.val, 0, 0] S1x1x64x256.size (slot_inb s r)).set = slotSet s r := by
  ext i
  rw [Rect.mem_set_unit]
  simp only [slotSet, Finset.mem_filter, Finset.mem_univ, true_and]
  have h2 : (i 2).val < 64 := (i 2).isLt
  have h3 : (i 3).val < 256 := (i 3).isLt
  constructor
  · intro h
    have h0 := h 0
    have h1 := h 1
    simp at h0 h1
    omega
  · intro h a
    fin_cases a <;> simp <;> omega

theorem rect_seg (s : Fin 2) :
    (Rect.unit (s := S2x64x256) ![s.val, 0, 0] S1x64x256.size (half_inb s)).set = segSet s := by
  ext i
  rw [Rect.mem_set_unit]
  simp only [segSet, Finset.mem_filter, Finset.mem_univ, true_and]
  have h1 : (i 1).val < 64 := (i 1).isLt
  have h2 : (i 2).val < 256 := (i 2).isLt
  constructor
  · intro h
    have h0 := h 0
    simp at h0
    omega
  · intro h a
    fin_cases a <;> simp <;> omega

theorem set_st (s : Fin 2) (t : Dev nD) : (rowsOf stM s t).view.set = rowsSet s t := by
  rw [← rect_rows]; exact (View.set_reshape _ _).trans (View.set_slice_whole _ _)
theorem set_ag (s : Fin 2) (t : Dev nD) : (rowsOf agM s t).view.set = rowsSet s t := by
  rw [← rect_rows]; exact (View.set_reshape _ _).trans (View.set_slice_whole _ _)
theorem set_slot (s : Fin 2) (r : Fin 7) : (slotOf s r).view.set = slotSet s r := by
  rw [← rect_slot]; exact (View.set_reshape _ _).trans (View.set_slice_whole _ _)
theorem set_seg (s : Fin 2) : (segOf s).view.set = segSet s := by
  rw [← rect_seg]; exact (View.set_reshape _ _).trans (View.set_slice_whole _ _)

/-! ## Where each memref's element `(a, b)` lies -/

theorem row_lt (t : Dev nD) (a : Fin 64) : 64 * t.val + a.val < 512 := by
  have := t.isLt; have := a.isLt; simp only [nD] at *; omega
/-- Row `a` of the rows of device `t`. -/
def rowOf (t : Dev nD) (a : Fin 64) : Fin 512 := ⟨64 * t.val + a.val, row_lt t a⟩
theorem rowOf_val (t : Dev nD) (a : Fin 64) : (rowOf t a).val = 64 * t.val + a.val := rfl

theorem ix2_eta (x : S64x256.Idx) : x = ix2 (x 0 : Fin 64) (x 1 : Fin 256) := by
  funext a; fin_cases a <;> rfl

theorem emb_rows (M : Memref sig .tc .vmem S2x512x256 .bf16) (s : Fin 2) (t : Dev nD) (a : Fin 64) (b : Fin 256) :
    (rowsOf M s t).view.emb (ix2 a b) = M.view.emb (ix3 s (rowOf t a) b) := by
  show M.view.emb ((Rect.unit (s := S2x512x256) ![s.val, 64 * t.val, 0] S1x64x256.size (rows_inb s t)).emb (Shape.reshapeEquiv _ (ix2 a b))) = _
  congr 1
  rw [reshapeEquiv_ix2_1ab]
  funext k
  fin_cases k <;> refine Fin.ext ?_ <;> simp [rowOf]

theorem emb_slot (s : Fin 2) (r : Fin 7) (a : Fin 64) (b : Fin 256) :
    (slotOf s r).view.emb (ix2 a b) = (ix4 s r a b : S2x7x64x256.Idx) := by
  show ((Rect.unit (s := S2x7x64x256) ![s.val, r.val, 0, 0] S1x1x64x256.size (slot_inb s r)).emb (Shape.reshapeEquiv _ (ix2 a b))) = _
  rw [reshapeEquiv_ix2_11ab]
  funext k
  fin_cases k <;> refine Fin.ext ?_ <;> simp

theorem emb_seg (s : Fin 2) (a : Fin 64) (b : Fin 256) :
    (segOf s).view.emb (ix2 a b) = (ix3 s a b : S2x64x256.Idx) := by
  show ((Rect.unit (s := S2x64x256) ![s.val, 0, 0] S1x64x256.size (half_inb s)).emb (Shape.reshapeEquiv _ (ix2 a b))) = _
  rw [reshapeEquiv_ix2_1ab]
  funext k
  fin_cases k <;> refine Fin.ext ?_ <;> simp

/-! ## What a transfer lands -/

variable {Val : EltTy → Type}

/-- A reduce-scatter transfer from rows `64 t …` of the sender's stage lands those rows in the slot. -/
theorem land_slot (s : Fin 2) (r : Fin 7) (t : Dev nD) (fs : S2x512x256.Idx → Val .bf16) (fd : S2x7x64x256.Idx → Val .bf16)
    (i : S2x7x64x256.Idx) (hi : i ∈ slotSet s r) :
    (slotOf s r).view.write Val fd ((rowsOf stM s t).view.read Val fs) Finset.univ i = fs (ix3 s (rowOf t (i 2)) (i 3)) := by
  simp only [slotSet, Finset.mem_filter, Finset.mem_univ, true_and] at hi
  have hi' : i = ix4 s r (i 2 : Fin 64) (i 3 : Fin 256) := by
    funext k
    fin_cases k
    · exact Fin.ext hi.1
    · exact Fin.ext hi.2
    · rfl
    · rfl
  have key : ∀ (a : Fin 64) (b : Fin 256),
      (slotOf s r).view.write Val fd ((rowsOf stM s t).view.read Val fs) Finset.univ (ix4 s r a b) = fs (ix3 s (rowOf t a) b) := fun a b => by
    rw [← emb_slot, View.write_emb_of_mem _ _ (Finset.mem_univ _), View.read_apply, emb_rows]
    rfl
  exact (congrArg _ hi').trans (key _ _)

/-- An all-gather transfer of the sender's segment lands it in the sender's rows. -/
theorem land_rows (s : Fin 2) (t : Dev nD) (fs : S2x64x256.Idx → Val .bf16) (fd : S2x512x256.Idx → Val .bf16)
    (i : S2x512x256.Idx) (hi : i ∈ rowsSet s t) :
    (rowsOf agM s t).view.write Val fd ((segOf s).view.read Val fs) Finset.univ i
      = fs (ix3 s (⟨(i 1).val % 64, Nat.mod_lt _ (by decide)⟩ : Fin 64) (i 2)) := by
  simp only [rowsSet, Finset.mem_filter, Finset.mem_univ, true_and] at hi
  have hi' : i = ix3 s (rowOf t ⟨(i 1).val % 64, Nat.mod_lt _ (by decide)⟩) (i 2 : Fin 256) := by
    funext k
    fin_cases k
    · exact Fin.ext hi.1
    · refine Fin.ext ?_
      show (i 1).val = 64 * t.val + (i 1).val % 64
      omega
    · rfl
  have key : ∀ (a : Fin 64) (b : Fin 256),
      (rowsOf agM s t).view.write Val fd ((segOf s).view.read Val fs) Finset.univ (ix3 s (rowOf t a) b) = fs (ix3 s a b) := fun a b => by
    have e := emb_rows agM s t a b
    have e' : agM.view.emb (ix3 s (rowOf t a) b) = ix3 s (rowOf t a) b := rfl
    rw [← e', ← e, View.write_emb_of_mem _ _ (Finset.mem_univ _), View.read_apply, emb_seg]
    rfl
  exact (congrArg _ hi').trans (key _ _)

/-! ## The buffers as unions of their blocks -/

theorem rows_cover (s : Fin 2) : (Finset.univ : Finset (Dev nD)).biUnion (rowsSet s) = strSet s := by
  ext i
  have h1 : (i 1).val < 512 := (i 1).isLt
  simp only [Finset.mem_biUnion, Finset.mem_univ, true_and, rowsSet, strSet, Finset.mem_filter]
  constructor
  · rintro ⟨t, h, -⟩; exact h
  · intro h; exact ⟨⟨(i 1).val / 64, by simp only [nD]; omega⟩, h, rfl⟩
theorem rows_disj (s : Fin 2) (t t' : Dev nD) (h : t ≠ t') : Disjoint (rowsSet s t) (rowsSet s t') := by
  rw [Finset.disjoint_left]; intro i hi hi'
  simp only [rowsSet, Finset.mem_filter, Finset.mem_univ, true_and] at hi hi'
  exact h (Fin.ext (hi.2.symm.trans hi'.2))
theorem str_cover : strSet 0 ∪ strSet 1 = Finset.univ := by
  ext i
  have h0 : (i 0).val < 2 := (i 0).isLt
  simp [strSet]; omega
theorem str_disj : Disjoint (strSet 0) (strSet 1) := by
  rw [Finset.disjoint_left]; intro i hi hi'
  simp [strSet] at hi hi'; omega
theorem seg_cover : segSet 0 ∪ segSet 1 = Finset.univ := by
  ext i
  have h0 : (i 0).val < 2 := (i 0).isLt
  simp [segSet]; omega
theorem seg_disj : Disjoint (segSet 0) (segSet 1) := by
  rw [Finset.disjoint_left]; intro i hi hi'
  simp [segSet] at hi hi'; omega
theorem slots_cover : (Finset.univ : Finset (Fin 2 × Fin 7)).biUnion (fun p => slotSet p.1 p.2) = Finset.univ := by
  ext i
  simp only [Finset.mem_biUnion, Finset.mem_univ, true_and, iff_true, slotSet, Finset.mem_filter]
  exact ⟨(i 0, i 1), rfl, rfl⟩
theorem slots_disj (p p' : Fin 2 × Fin 7) (h : p ≠ p') : Disjoint (slotSet p.1 p.2) (slotSet p'.1 p'.2) := by
  rw [Finset.disjoint_left]; intro i hi hi'
  simp only [slotSet, Finset.mem_filter, Finset.mem_univ, true_and] at hi hi'
  exact h (Prod.ext (Fin.ext (hi.1.symm.trans hi'.1)) (Fin.ext (hi.2.symm.trans hi'.2)))

end Cert.KernelIdeal.Hand

end
-- ==== Proof.IdVals.lean ====
/-
What each buffer of the kernel holds once it is written, as functions of the five operand blocks the devices are given:
the staged partial sums, the landing slots, the totals, the gathered segments and the result.
-/
module

public import proofs.«01_k».proof.Proof.IdViews

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

abbrev a0M : Memref sig .tc .vmem S512x256 .bf16 := Memref.whole cc0_stg0_0
abbrev a1M : Memref sig .tc .vmem S256x32 .bf16 := Memref.whole cc0_stg1_0
abbrev a2M : Memref sig .tc .vmem S512x1 .i32 := Memref.whole cc0_stg2_0
abbrev a3M : Memref sig .tc .vmem S4x256x512 .bf16 := Memref.whole cc0_stg3_0
abbrev a4M : Memref sig .tc .vmem S256x512 .bf16 := Memref.whole cc0_stg4_0
abbrev a5M : Memref sig .tc .vmem S512x512 .f32 := Memref.whole cc0_stg5_0

/-- The five operand blocks of every device. -/
structure Ins (F : FTy → Type) where
  x : Dev nD → Vec F S512x256 .bf16
  w : Dev nD → Vec F S256x32 .bf16
  i : Dev nD → Vec F S512x1 .i32
  e : Dev nD → Vec F S4x256x512 .bf16
  h : Dev nD → Vec F S256x512 .bf16

theorem xrow_inb (t : Dev nD) : ∀ a, (![64 * t.val, 0] : Fin 2 → ℕ) a + S64x256.size a ≤ S512x256.size a := by
  revert t; decide
theorem orow_inb (s : Fin 2) (t : Dev nD) : ∀ a, (![64 * t.val, 256 * s.val] : Fin 2 → ℕ) a + S64x256.size a ≤ S512x512.size a := by
  revert s t; decide

/-- Rows `64 t …` of stream `s` of a scratch buffer, as a load or store names them. -/
abbrev rowsR (s : Fin 2) (t : Dev nD) : Rect S2x512x256 := Rect.unit (s := S2x512x256) ![s.val, 64 * t.val, 0] S1x64x256.size (rows_inb s t)
abbrev slotR (s : Fin 2) (r : Fin 7) : Rect S2x7x64x256 := Rect.unit (s := S2x7x64x256) ![s.val, r.val, 0, 0] S1x1x64x256.size (slot_inb s r)
abbrev outR (s : Fin 2) (t : Dev nD) : Rect S512x512 := Rect.unit (s := S512x512) ![64 * t.val, 256 * s.val] S64x256.size (orow_inb s t)

section
variable (A : Ins F) (c : Dev nD)

/-- The group number the kernel reads off its device number. -/
def grp : BitVec 32 := Scalar.remsi (Scalar.divsi (Dev.word c) 1#32) 8#32
def xL : Vec F S512x256 .bf16 := a0M.view.readAt (Elt F) (Rect.unit (s := S512x256) ![0, 0] S512x256.size inb_S512x256_S512x256_0_0).toLoadRect (A.x c)
def wL : Vec F S256x32 .bf16 := a1M.view.readAt (Elt F) (Rect.unit (s := S256x32) ![0, 0] S256x32.size inb_S256x32_S256x32_0_0).toLoadRect (A.w c)
def iL : Vec F S512x1 .i32 := a2M.view.readAt (Elt F) (Rect.unit (s := S512x1) ![0, 0] S512x1.size inb_S512x1_S512x1_0_0).toLoadRect (A.i c)
def hL : Vec F S256x512 .bf16 := a4M.view.readAt (Elt F) (Rect.unit (s := S256x512) ![0, 0] S256x512.size inb_S256x512_S256x512_0_0).toLoadRect (A.h c)

theorem exp_inb (k : Fin 4) (s : Fin 2) : ∀ a, (![k.val, 0, 256 * s.val] : Fin 3 → ℕ) a + S1x256x256.size a ≤ S4x256x512.size a := by
  revert k s; decide
/-- The column half `s` of the device's expert `k`. -/
def eL (k : Fin 4) (s : Fin 2) : Vec F S1x256x256 .bf16 :=
  a3M.view.readAt (Elt F) (Rect.unit (s := S4x256x512) ![k.val, 0, 256 * s.val] S1x256x256.size (exp_inb k s)).toLoadRect (A.e c)

/-- The four gates: the gate of the device's expert `k`, row by row. -/
def gate : Fin 4 → FVec F S512x1 .f32
  | 0 => k0_pay4 (grp c) (xL A c) (wL A c) (iL A c)
  | 1 => k0_pay5 (grp c) (k0_pay2 (F := F) (iL A c)) (k0_pay3 (xL A c) (wL A c) (iL A c))
  | 2 => k0_pay6 (grp c) (k0_pay2 (F := F) (iL A c)) (k0_pay3 (xL A c) (wL A c) (iL A c))
  | 3 => k0_pay7 (grp c) (k0_pay2 (F := F) (iL A c)) (k0_pay3 (xL A c) (wL A c) (iL A c))

/-- The device's partial sums, column half 0 then 1. -/
def part0 : FVec F S512x256 .f32 :=
  k0_pay8 (k0_pay1 (xL A c)) (gate A c 0) (gate A c 1) (gate A c 2) (gate A c 3) (eL A c 0 0) (eL A c 1 0) (eL A c 2 0) (eL A c 3 0)
def part0h : FVec F S512x256 .bf16 :=
  k0_pay9 (k0_pay1 (xL A c)) (gate A c 0) (gate A c 1) (gate A c 2) (gate A c 3) (eL A c 0 0) (eL A c 1 0) (eL A c 2 0) (eL A c 3 0)
def part1 : FVec F S512x256 .f32 :=
  k0_pay13 (k0_pay1 (xL A c)) (gate A c 1) (gate A c 2) (gate A c 3) (k0_pay11 (k0_pay1 (xL A c)) (gate A c 0) (eL A c 0 1))
    (k0_pay12 (eL A c 1 1)) (eL A c 2 1) (eL A c 3 1)
def stg0 : FVec F S1x512x256 .bf16 := k0_pay10 (part0h A c)
def stg1 : FVec F S1x512x256 .bf16 :=
  k0_pay14 (k0_pay1 (xL A c)) (gate A c 1) (gate A c 2) (gate A c 3) (k0_pay11 (k0_pay1 (xL A c)) (gate A c 0) (eL A c 0 1))
    (k0_pay12 (eL A c 1 1)) (eL A c 2 1) (eL A c 3 1)

/-- The stage buffer, both streams written. -/
def stC : Vec F S2x512x256 .bf16 := fun i =>
  if (i 0).val = 0 then stg0 A c (ix3 0 (i 1 : Fin 512) (i 2 : Fin 256)) else stg1 A c (ix3 0 (i 1 : Fin 512) (i 2 : Fin 256))
/-- The accumulator buffer. -/
def accC : Vec F S2x512x256 .f32 := fun i =>
  if (i 0).val = 0 then k0_pay15 (part0 A c) (ix3 0 (i 1 : Fin 512) (i 2 : Fin 256)) else k0_pay16 (part1 A c) (ix3 0 (i 1 : Fin 512) (i 2 : Fin 256))
/-- The landing buffer: slot `(s, r)` is the sender's stage, stream `s`, rows of this device. -/
def laC : Vec F S2x7x64x256 .bf16 := fun i =>
  stC A (bk c (i 1 : Fin 7)) (ix3 (i 0 : Fin 2) (rowOf c (i 2 : Fin 64)) (i 3 : Fin 256))
/-- Slot `(s, r)` as loaded. -/
def laL (s : Fin 2) (r : Fin 7) : Vec F S1x1x64x256 .bf16 := laM.view.readAt (Elt F) (slotR s r).toLoadRect (laC A c)
def accL (s : Fin 2) : Vec F S1x64x256 .f32 := accM.view.readAt (Elt F) (rowsR s c).toLoadRect (accC A c)
/-- The device's own rows of `x` as loaded. -/
def xrL : Vec F S64x256 .bf16 := a0M.view.readAt (Elt F) (Rect.unit (s := S512x256) ![64 * c.val, 0] S64x256.size (xrow_inb c)).toLoadRect (A.x c)

def shared : FVec F S64x512 .f32 := k0_pay17 (xrL A c) (hL A c)
def tot0a : FVec F S64x256 .f32 := k0_pay18 (xrL A c) (hL A c) (accL A c 0)
def tot0b : FVec F S64x256 .f32 := k0_pay19 (tot0a A c) (laL A c 0 0) (laL A c 0 1)
def tot0c : FVec F S64x256 .f32 := k0_pay20 (tot0b A c) (laL A c 0 2)
def tot0d : FVec F S64x256 .f32 := k0_pay21 (tot0c A c) (laL A c 0 3) (laL A c 0 4)
def tot0e : FVec F S64x256 .f32 := k0_pay22 (tot0d A c) (laL A c 0 5)
def tot0f : FVec F S64x256 .bf16 := k0_pay23 (laL A c 0 6)
def tot1a : FVec F S64x256 .f32 := k0_pay26 (shared A c) (accL A c 1) (laL A c 1 0)
def tot1b : FVec F S64x256 .f32 := k0_pay27 (tot1a A c) (laL A c 1 1)
def tot1c : FVec F S64x256 .f32 := k0_pay28 (tot1b A c) (laL A c 1 2) (laL A c 1 3)
def tot1d : FVec F S64x256 .f32 := k0_pay29 (tot1c A c) (laL A c 1 4) (laL A c 1 5)
/-- The device's total of its own rows, column half `s`. -/
def tot : Fin 2 → FVec F S64x256 .f32
  | 0 => k0_pay24 (tot0e A c) (tot0f A c)
  | 1 => k0_pay30 (tot1d A c) (laL A c 1 6)
def seg0 : FVec F S1x64x256 .bf16 := k0_pay25 (tot0e A c) (tot0f A c)
def seg1 : FVec F S1x64x256 .bf16 := k0_pay31 (tot1d A c) (laL A c 1 6)
/-- The segment buffer, both streams written. -/
def seC : Vec F S2x64x256 .bf16 := fun i =>
  if (i 0).val = 0 then seg0 A c (ix3 0 (i 1 : Fin 64) (i 2 : Fin 256)) else seg1 A c (ix3 0 (i 1 : Fin 64) (i 2 : Fin 256))

omit [FloatOps F] in
theorem row_dev_lt (i : S2x512x256.Idx) : (i 1).val / 64 < nD := by
  have h1 : (i 1).val < 512 := (i 1).isLt
  simp only [nD]; omega
/-- The gather buffer: row block `t` is device `t`'s segment (the same on every device). -/
def agC : Vec F S2x512x256 .bf16 := fun i =>
  seC A ⟨(i 1).val / 64, row_dev_lt i⟩ (ix3 (i 0 : Fin 2) (⟨(i 1).val % 64, Nat.mod_lt _ (by decide)⟩ : Fin 64) (i 2 : Fin 256))
/-- Row block `t` of the gather buffer, as loaded. -/
def agL (s : Fin 2) (t : Dev nD) : Vec F S1x64x256 .bf16 := agM.view.readAt (Elt F) (rowsR s t).toLoadRect (agC A)
/-- The block of the result at rows `64 t …`, column half `s`, on device `c`: its own total, the others as gathered. -/
def outB (s : Fin 2) (t : Dev nD) : Vec F S64x256 .f32 := if t = c then tot A c s else k0_pay32 (agL A s t)

omit [FloatOps F] in
theorem out_dev_lt (i : S512x512.Idx) : (i 0).val / 64 < nD := by
  have h1 : (i 0).val < 512 := (i 0).isLt
  simp only [nD]; omega
omit [FloatOps F] in
theorem out_half_lt (i : S512x512.Idx) : (i 1).val / 256 < 2 := by
  have h1 : (i 1).val < 512 := (i 1).isLt
  omega
/-- The kernel's result on device `c`. -/
def outC : Vec F S512x512 .f32 := fun i =>
  outB A c ⟨(i 1).val / 256, out_half_lt i⟩ ⟨(i 0).val / 64, out_dev_lt i⟩
    (ix2 (⟨(i 0).val % 64, Nat.mod_lt _ (by decide)⟩ : Fin 64) (⟨(i 1).val % 256, Nat.mod_lt _ (by decide)⟩ : Fin 256))

end

/-! ## What the stores leave -/

/-- The elements of the result's block at rows `64 t …`, column half `s`. -/
def outSet (s : Fin 2) (t : Dev nD) : Finset S512x512.Idx := Finset.univ.filter fun i => (i 0).val / 64 = t.val ∧ (i 1).val / 256 = s.val

variable {Val : EltTy → Type}

theorem str_inb (s : Fin 2) : ∀ a, (![s.val, 0, 0] : Fin 3 → ℕ) a + S1x512x256.size a ≤ S2x512x256.size a := by
  revert s; decide
abbrev strR (s : Fin 2) : Rect S2x512x256 := Rect.unit (s := S2x512x256) ![s.val, 0, 0] S1x512x256.size (str_inb s)
abbrev segR (s : Fin 2) : Rect S2x64x256 := Rect.unit (s := S2x64x256) ![s.val, 0, 0] S1x64x256.size (half_inb s)

theorem rect_str (s : Fin 2) : (strR s).set = strSet s := by
  ext i
  rw [Rect.mem_set_unit]
  simp only [strSet, Finset.mem_filter, Finset.mem_univ, true_and]
  have h1 : (i 1).val < 512 := (i 1).isLt
  have h2 : (i 2).val < 256 := (i 2).isLt
  constructor
  · intro h
    have h0 := h 0
    simp at h0
    omega
  · intro h a
    fin_cases a <;> simp <;> omega

theorem rect_out (s : Fin 2) (t : Dev nD) : (outR s t).set = outSet s t := by
  ext i
  rw [Rect.mem_set_unit]
  simp only [outSet, Finset.mem_filter, Finset.mem_univ, true_and]
  have h0 : (i 0).val < 512 := (i 0).isLt
  have h1 : (i 1).val < 512 := (i 1).isLt
  constructor
  · intro h
    have h0 := h 0
    have h1 := h 1
    simp at h0 h1
    omega
  · intro h a
    fin_cases a <;> simp <;> omega

theorem emb_str (s : Fin 2) (a : Fin 512) (b : Fin 256) : (strR s).emb (ix3 (0 : Fin 1) a b) = (ix3 s a b : S2x512x256.Idx) := by
  funext k
  fin_cases k <;> refine Fin.ext ?_ <;> simp
theorem emb_segR (s : Fin 2) (a : Fin 64) (b : Fin 256) : (segR s).emb (ix3 (0 : Fin 1) a b) = (ix3 s a b : S2x64x256.Idx) := by
  funext k
  fin_cases k <;> refine Fin.ext ?_ <;> simp

theorem str_eta (s : Fin 2) (i : S2x512x256.Idx) (hi : i ∈ strSet s) : i = ix3 s (i 1 : Fin 512) (i 2 : Fin 256) := by
  simp only [strSet, Finset.mem_filter, Finset.mem_univ, true_and] at hi
  funext k
  fin_cases k
  · exact Fin.ext hi
  · rfl
  · rfl
theorem seg_eta (s : Fin 2) (i : S2x64x256.Idx) (hi : i ∈ segSet s) : i = ix3 s (i 1 : Fin 64) (i 2 : Fin 256) := by
  simp only [segSet, Finset.mem_filter, Finset.mem_univ, true_and] at hi
  funext k
  fin_cases k
  · exact Fin.ext hi
  · rfl
  · rfl

/-- A store of stream `s` of the stage leaves the stored value in that stream; -/
theorem st_write (s : Fin 2) (f : S2x512x256.Idx → Val .bf16) (v : S1x512x256.Idx → Val .bf16) (i : S2x512x256.Idx) (hi : i ∈ strSet s) :
    (stM.access (strR s)).write Val f v Finset.univ i = v (ix3 (0 : Fin 1) (i 1 : Fin 512) (i 2 : Fin 256)) := by
  have key : ∀ (a : Fin 512) (b : Fin 256), (stM.access (strR s)).write Val f v Finset.univ (ix3 s a b) = v (ix3 (0 : Fin 1) a b) := fun a b => by
    rw [← emb_str s a b]
    exact View.write_emb_of_mem (v := stM.access (strR s)) f v (Finset.mem_univ _)
  exact (congrArg _ (str_eta s i hi)).trans (key _ _)
/-- of the accumulator likewise, -/
theorem acc_write (s : Fin 2) (f : S2x512x256.Idx → Val .f32) (v : S1x512x256.Idx → Val .f32) (i : S2x512x256.Idx) (hi : i ∈ strSet s) :
    (accM.access (strR s)).write Val f v Finset.univ i = v (ix3 (0 : Fin 1) (i 1 : Fin 512) (i 2 : Fin 256)) := by
  have key : ∀ (a : Fin 512) (b : Fin 256), (accM.access (strR s)).write Val f v Finset.univ (ix3 s a b) = v (ix3 (0 : Fin 1) a b) := fun a b => by
    rw [← emb_str s a b]
    exact View.write_emb_of_mem (v := accM.access (strR s)) f v (Finset.mem_univ _)
  exact (congrArg _ (str_eta s i hi)).trans (key _ _)
/-- and what was there outside it. -/
theorem acc_write_off (s : Fin 2) (f : S2x512x256.Idx → Val .f32) (v : S1x512x256.Idx → Val .f32) (i : S2x512x256.Idx) (hi : i ∉ strSet s) :
    (accM.access (strR s)).write Val f v Finset.univ i = f i :=
  View.write_of_not_mem (v := accM.access (strR s)) f v Finset.univ (by
    intro h; exact hi (by rw [← rect_str]; exact (View.set_slice_whole cc0_scratch0 (strR s)) ▸ h))
/-- A store of stream `s` of the segment buffer. -/
theorem se_write (s : Fin 2) (f : S2x64x256.Idx → Val .bf16) (v : S1x64x256.Idx → Val .bf16) (i : S2x64x256.Idx) (hi : i ∈ segSet s) :
    (seM.access (segR s)).write Val f v Finset.univ i = v (ix3 (0 : Fin 1) (i 1 : Fin 64) (i 2 : Fin 256)) := by
  have key : ∀ (a : Fin 64) (b : Fin 256), (seM.access (segR s)).write Val f v Finset.univ (ix3 s a b) = v (ix3 (0 : Fin 1) a b) := fun a b => by
    rw [← emb_segR s a b]
    exact View.write_emb_of_mem (v := seM.access (segR s)) f v (Finset.mem_univ _)
  exact (congrArg _ (seg_eta s i hi)).trans (key _ _)
theorem emb_out (s : Fin 2) (t : Dev nD) (i : S512x512.Idx) (hi : i ∈ outSet s t) :
    (outR s t).emb (ix2 (⟨(i 0).val % 64, Nat.mod_lt _ (by decide)⟩ : Fin 64) (⟨(i 1).val % 256, Nat.mod_lt _ (by decide)⟩ : Fin 256)) = i := by
  simp only [outSet, Finset.mem_filter, Finset.mem_univ, true_and] at hi
  funext k
  fin_cases k <;> refine Fin.ext ?_ <;> simp <;> omega
/-- A store of a block of the result: inside the block the stored value, -/
theorem out_write (s : Fin 2) (t : Dev nD) (f : S512x512.Idx → Val .f32) (v : S64x256.Idx → Val .f32) (i : S512x512.Idx) (hi : i ∈ outSet s t) :
    (a5M.access (outR s t)).write Val f v Finset.univ i
      = v (ix2 (⟨(i 0).val % 64, Nat.mod_lt _ (by decide)⟩ : Fin 64) (⟨(i 1).val % 256, Nat.mod_lt _ (by decide)⟩ : Fin 256)) :=
  (congrArg _ (emb_out s t i hi).symm).trans (View.write_emb_of_mem (v := a5M.access (outR s t)) f v (Finset.mem_univ _))
/-- outside it what was there. -/
theorem out_write_off (s : Fin 2) (t : Dev nD) (f : S512x512.Idx → Val .f32) (v : S64x256.Idx → Val .f32) (i : S512x512.Idx) (hi : i ∉ outSet s t) :
    (a5M.access (outR s t)).write Val f v Finset.univ i = f i :=
  View.write_of_not_mem (v := a5M.access (outR s t)) f v Finset.univ (by
    intro h; exact hi (by rw [← rect_out]; exact (View.set_slice_whole cc0_stg5_0 (outR s t)) ▸ h))

end Cert.KernelIdeal.Hand

end
-- ==== Proof.IdSched.lean ====
/-
The protocol of the kernel: the cells, what each hands over, who owes what, and the order of the waits.

The barrier cell of a device is signalled once by each of the seven others, each signal handing over the landing blocks the
signaller has for that device; it waits for all seven before its first transfer. A reduce-scatter transfer takes rows of the
sender's stage into a landing slot, an all-gather transfer the sender's segment into its rows of the gather buffer; each has
its own send cell on the sender and receive cell on the receiver, raised once, by one credit.
-/
module

public import proofs.«01_k».proof.Proof.IdVals

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := (SemArray.scalar (sig.barrier 0 rfl) : Sems sig S_).sem
theorem dsem_lt (k : Fin 4) (s : Fin 2) (r : Fin 7) : 6 + 14 * k.val + 7 * s.val + r.val < sig.nDmaSem := by revert k s r; decide
/-- The transfer semaphore of kind `k` (0 scatter send, 1 scatter receive, 2 gather send, 3 gather receive), stream `s`, place `r`. -/
def dsem (k : Fin 4) (s : Fin 2) (r : Fin 7) : DmaSem sig := ⟨6 + 14 * k.val + 7 * s.val + r.val, dsem_lt k s r⟩
abbrev barCell (c : Dev nD) : GSem nD τ sig := ((c : Thread nD τ), .reg barS)
abbrev dcell (c : Dev nD) (k : Fin 4) (s : Fin 2) (r : Fin 7) : GSem nD τ sig := ((c : Thread nD τ), .dma (dsem k s r))

/-- The kind, the stream and the place a transfer semaphore is of. -/
def kOf (q : DmaSem sig) : Fin 4 := ⟨(q.val - 6) / 14 % 4, Nat.mod_lt _ (by decide)⟩
def sOf (q : DmaSem sig) : Fin 2 := ⟨(q.val - 6) / 7 % 2, Nat.mod_lt _ (by decide)⟩
def rOf (q : DmaSem sig) : Fin 7 := ⟨(q.val - 6) % 7, Nat.mod_lt _ (by decide)⟩
theorem kOf_dsem (k : Fin 4) (s : Fin 2) (r : Fin 7) : kOf (dsem k s r) = k := by revert k s r; decide
theorem sOf_dsem (k : Fin 4) (s : Fin 2) (r : Fin 7) : sOf (dsem k s r) = s := by revert k s r; decide
theorem rOf_dsem (k : Fin 4) (s : Fin 2) (r : Fin 7) : rOf (dsem k s r) = r := by revert k s r; decide

/-- One transfer's credit. -/
abbrev N : ℕ := (slotOf 0 0).view.dmaCredit
theorem N_pos : 0 < N := View.dmaCredit_pos _ (by decide)

/-! ## What the cells hand over -/

section
variable (A : Ins F) (c : Dev nD)

/-- Rows of device `t` of the stage of `c`, stream `s`, at its contents; -/
def stPt (s : Fin 2) (t : Dev nD) : sProp 𝕄 := ((c : Thread nD τ).loc cc0_scratch1) ↦[rowsSet s t]{fullShare} stC A c
/-- a landing slot of `c`, at any contents; -/
def slPt (s : Fin 2) (r : Fin 7) (f : Vec F S2x7x64x256 .bf16) : sProp 𝕄 := ((c : Thread nD τ).loc cc0_scratch2) ↦[slotSet s r]{fullShare} f
/-- a share of stream `s` of the segment buffer of `c`, at its contents; -/
def sePt (s : Fin 2) (q : PosShare TreeShare) : sProp 𝕄 := ((c : Thread nD τ).loc cc0_scratch3) ↦[segSet s]{q} seC A c
/-- rows of device `t` of the gather buffer of `c`, at any contents. -/
def agPt (s : Fin 2) (t : Dev nD) (f : Vec F S2x512x256 .bf16) : sProp 𝕄 := ((c : Thread nD τ).loc cc0_scratch4) ↦[rowsSet s t]{fullShare} f

instance stPt_storable (s t) : BI.Storable (upEmb : UEmb _ 𝕄) (stPt A c s t) := by unfold stPt; infer_instance
instance slPt_storable (s r) (f) : BI.Storable (upEmb : UEmb _ 𝕄) (slPt (F := F) c s r f) := by unfold slPt; infer_instance
instance sePt_storable (s q) : BI.Storable (upEmb : UEmb _ 𝕄) (sePt A c s q) := by unfold sePt; infer_instance
instance agPt_storable (s t) (f) : BI.Storable (upEmb : UEmb _ 𝕄) (agPt (F := F) c s t f) := by unfold agPt; infer_instance

/-- What is left of a share after `n` halves are given away. -/
def qr : ℕ → PosShare TreeShare
  | 0 => fullShare
  | n + 1 => (qr n).right
/-- The share of the segment the transfer at place `r` reads: seven that make up the whole. -/
def shr (r : Fin 7) : PosShare TreeShare := if r.val < 6 then (qr r.val).left else qr 6

/-- What device `c` hands to the device `r + 1` places after it with its signal: the landing slots and the gather rows that
    device is to write, of both streams. -/
def giv (r : Fin 7) : sProp 𝕄 :=
  iprop((∃ f, slPt c 0 r.rev f) ∗ (∃ f, slPt c 1 r.rev f) ∗ (∃ f, agPt c 0 (pr c r) f) ∗ (∃ f, agPt c 1 (pr c r) f))
instance giv_storable (r) : BI.Storable (upEmb : UEmb _ 𝕄) (giv (F := F) c r) := by unfold giv; infer_instance

/-- What a transfer's cell hands its owner: a send cell the source back, a receive cell the landed block. -/
def dmaPay (k : Fin 4) (s : Fin 2) (r : Fin 7) : sProp 𝕄 :=
  if k = 0 then stPt A c s (pr c r) else if k = 1 then slPt c s r (laC A c) else if k = 2 then sePt A c s (shr r) else agPt c s (bk c r) (agC A)
instance dmaPay_storable (k s r) : BI.Storable (upEmb : UEmb _ 𝕄) (dmaPay A c k s r) := by
  unfold dmaPay; (repeat' split) <;> infer_instance

end

/-- Round 0 only: a barrier cell has seven duties of one unit, a transfer cell one duty of a transfer's credit. -/
def Rd (A : Ins F) : Rounds.Schedule (GSem nD τ sig) (Fin 7) 𝕄 where
  duties g r := if r = 0 ∧ g.1.2 = .tc then (match g.2 with | .reg _ => Finset.univ | .dma q => if 6 ≤ q.val then {0} else ∅) else ∅
  unitless _ := False
  amount g _ _ := match g.2 with | .reg _ => 1 | .dma _ => N
  payload g _ d := match g.2 with | .reg _ => giv (bk g.1.1 d) d | .dma q => dmaPay A g.1.1 (kOf q) (sOf q) (rOf q)
  amount_pos g _ _ _ := by
    rcases g with ⟨t, b | q⟩
    · exact Nat.one_pos
    · exact N_pos

instance Rd_payload_storable (A : Ins F) (g : GSem nD τ sig) (r : ℕ) (d : Fin 7) :
    BI.Storable (upEmb : UEmb _ 𝕄) ((Rd (F := F) A).payload g r d) := by
  rcases g with ⟨t, b | q⟩
  · show BI.Storable upEmb (giv (bk t.1 d) d); infer_instance
  · show BI.Storable upEmb (dmaPay A t.1 (kOf q) (sOf q) (rOf q)); infer_instance

section Tables
variable (A : Ins F) (c : Dev nD)

theorem duties_bar : (Rd A).duties (barCell c) 0 = Finset.univ := by dsimp only [Rd]; exact if_pos ⟨rfl, rfl⟩
theorem dsem_ge (k : Fin 4) (s : Fin 2) (r : Fin 7) : 6 ≤ (dsem k s r).val := by show 6 ≤ 6 + 14 * k.val + 7 * s.val + r.val; omega
theorem duties_dma (k s r) : (Rd A).duties (dcell c k s r) 0 = {0} := by
  dsimp only [Rd]; rw [if_pos ⟨rfl, rfl⟩]; exact if_pos (dsem_ge k s r)
theorem duties_later (g : GSem nD τ sig) : ∀ r, 1 ≤ r → (Rd A).duties g r = ∅ := fun r hr => by
  dsimp only [Rd]; exact if_neg fun h => by omega
theorem amount_bar (d : Fin 7) : (Rd A).amount (barCell c) 0 d = 1 := rfl
theorem amount_dma (k s r) (d : Fin 7) : (Rd A).amount (dcell c k s r) 0 d = N := rfl
theorem expect_bar : (Rd A).expect (barCell c) 0 = 7 := by
  unfold Schedule.expect Schedule.amountOf
  rw [duties_bar, Finset.sum_congr rfl fun d _ => amount_bar A c d]; rfl
theorem expect_dma (k s r) : (Rd A).expect (dcell c k s r) 0 = N := by
  unfold Schedule.expect Schedule.amountOf; rw [duties_dma, Finset.sum_singleton, amount_dma]
theorem payload_bar (d : Fin 7) : (Rd A).payload (barCell c) 0 d = giv (bk c d) d := rfl
theorem payload_dma (k s r) (d : Fin 7) : (Rd A).payload (dcell c k s r) 0 d = dmaPay A c k s r := by
  show dmaPay A c (kOf (dsem k s r)) (sOf (dsem k s r)) (rOf (dsem k s r)) = _
  rw [kOf_dsem, sOf_dsem, rOf_dsem]
theorem rest_bar : bigSep ((Rd A).duties (barCell c) 0 \ ∅) (fun d => (Rd A).payload (barCell c) 0 d) = bigSep Finset.univ fun d => giv (F := F) (bk c d) d := by
  rw [Finset.sdiff_empty, duties_bar]; rfl
theorem rest_dma (k s r) : bigSep ((Rd A).duties (dcell c k s r) 0 \ ∅) (fun d => (Rd A).payload (dcell c k s r) 0 d) = dmaPay A c k s r := by
  rw [Finset.sdiff_empty, duties_dma, bigSep_singleton, payload_dma]

end Tables

/-! ## What a device owes, in the order it pays; the levels -/

/-- A payment: the signal to the device at place `r`, or a transfer of stream `s` to it. -/
inductive Ob where
  | bar (r : Fin 7)
  | rs (s : Fin 2) (r : Fin 7)
  | ag (s : Fin 2) (r : Fin 7)
deriving DecidableEq

/-- The cell it raises, -/
def obCell (c : Dev nD) : Ob → GSem nD τ sig
  | .bar r => barCell (pr c r)
  | .rs s r => dcell (pr c r) 1 s r
  | .ag s r => dcell (pr c r) 3 s r
/-- by how much, -/
def obAmt : Ob → ℕ
  | .bar _ => 1
  | _ => N
/-- and that cell's level. -/
def obLv : Ob → ℕ
  | .bar _ => 1
  | .rs _ _ => 2
  | .ag _ _ => 3

def seven : List (Fin 7) := [0, 1, 2, 3, 4, 5, 6]
/-- The payments still due from place `n` on. -/
def obBar (n : ℕ) : List Ob := (seven.drop n).map .bar
def obRs (s : Fin 2) (n : ℕ) : List Ob := (seven.drop n).map (.rs s)
def obAg (s : Fin 2) (n : ℕ) : List Ob := (seven.drop n).map (.ag s)
def obAll : List Ob := obBar 0 ++ (obRs 0 0 ++ (obRs 1 0 ++ (obAg 0 0 ++ obAg 1 0)))

def oSum (c : Dev nD) : List Ob → CellTallies nD τ sig Unit
  | [] => 0
  | x :: l => oSum c l + tallyAt (obCell c x) () (obAmt x)

def O₀ (c : Dev nD) : CellTallies nD τ sig Unit := oSum c obAll

def L (g : GSem nD τ sig) : Finset Unit := if g.1.2 = .tc then {()} else ∅
def lvS : SemLoc sig → ℕ
  | .reg _ => 1
  | .dma q => if kOf q = 1 then 2 else if kOf q = 3 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem obCell_tc (c : Dev nD) (x : Ob) : (obCell c x).1.2 = .tc := by cases x <;> rfl
theorem lv_obCell (c : Dev nD) (x : Ob) : lv (obCell c x) () = obLv x := by
  cases x with
  | bar r => rfl
  | rs s r => show (if kOf (dsem 1 s r) = 1 then 2 else if kOf (dsem 1 s r) = 3 then 3 else 0) = 2; rw [kOf_dsem]; rfl
  | ag s r => show (if kOf (dsem 3 s r) = 1 then 2 else if kOf (dsem 3 s r) = 3 then 3 else 0) = 3; rw [kOf_dsem]; rfl

theorem oSum_pos {c : Dev nD} {l : List Ob} {g : GSem nD τ sig} {u : Unit} (h : 0 < oSum c l g u) : ∃ x ∈ l, g = obCell c x := by
  induction l with
  | nil => exact absurd h (Nat.lt_irrefl 0)
  | cons x l ih =>
    unfold oSum at h
    rw [Pi.add_apply, Finsupp.add_apply, tallyAt_apply] at h
    by_cases hx : g = obCell c x ∧ u = ()
    · exact ⟨x, List.mem_cons_self .., hx.1⟩
    · rw [if_neg hx, Nat.add_zero] at h
      obtain ⟨y, hy, hg⟩ := ih h
      exact ⟨y, List.mem_cons_of_mem _ hy, hg⟩

/-- A device may wait at a cell below every cell it still has to raise. -/
theorem mayWait (c : Dev nD) (sm : SemLoc sig) (l : List Ob) (h : ∀ x ∈ l, lvS sm < obLv x) :
    (levAts L lv : sProp 𝕄) ⊢ MayWait (c : Thread nD τ) sm () (oSum c l) :=
  MayOwe.of_cut (L := L) (lev := lv) (lvS sm) (fun p hp => by rw [Finset.mem_singleton.mp hp, L_tc]; exact Finset.mem_singleton_self _)
    (fun g u hg => by
      obtain ⟨x, -, rfl⟩ := oSum_pos hg
      unfold L; rw [if_pos (obCell_tc c x)]; exact Finset.mem_singleton_self _)
    (fun p hp => by rw [Finset.mem_singleton.mp hp]; exact le_rfl)
    (fun g u hg => by
      obtain ⟨x, hx, rfl⟩ := oSum_pos hg
      exact (h x hx).trans_eq (lv_obCell c x).symm)

/-! ## Seven places, the first `n` done -/

/-- `Ψ` at the first `n` places, `Φ` at the rest. -/
def pool (n : ℕ) (Φ Ψ : Fin 7 → sProp 𝕄) : sProp 𝕄 := bigSep Finset.univ fun r => if r.val < n then Ψ r else Φ r

theorem pool_start (Φ Ψ : Fin 7 → sProp 𝕄) : bigSep Finset.univ Φ ⊢ pool 0 Φ Ψ := by
  unfold pool; exact Entails.of_eq (bigSep_congr fun r _ => (if_neg (Nat.not_lt_zero _)).symm)
theorem pool_end (Φ Ψ : Fin 7 → sProp 𝕄) : pool 7 Φ Ψ ⊢ bigSep Finset.univ Ψ := by
  unfold pool; exact Entails.of_eq (bigSep_congr fun r _ => if_pos r.isLt)
theorem pool_step (r : Fin 7) (Φ Ψ : Fin 7 → sProp 𝕄) : pool r.val Φ Ψ ⊢ iprop(Φ r ∗ (Ψ r -∗ pool (r.val + 1) Φ Ψ)) := by
  unfold pool
  rw [bigSep_univ_at _ r, if_neg (Nat.lt_irrefl _), bigSep_univ_at (fun x : Fin 7 => if x.val < r.val + 1 then Ψ x else Φ x) r, if_pos (Nat.lt_succ_self _)]
  rw [bigSep_congr (s := Finset.univ.erase r) (Φ := fun x : Fin 7 => if x.val < r.val then Ψ x else Φ x) (Ψ := fun x : Fin 7 => if x.val < r.val + 1 then Ψ x else Φ x) (fun x hx => by
    have hne : x.val ≠ r.val := fun h => (Finset.ne_of_mem_erase hx) (Fin.ext h)
    by_cases h : x.val < r.val
    · rw [if_pos h, if_pos (by omega)]
    · rw [if_neg h, if_neg (by omega)])]
  iintro ⟨H, HR⟩
  isplitl [H]; · iexact H
  iintro H
  isplitl [H] <;> iassumption
theorem pool_get (n : ℕ) (r : Fin 7) (h : r.val < n) (Φ Ψ : Fin 7 → sProp 𝕄) : pool n Φ Ψ ⊢ iprop(Ψ r ∗ (Ψ r -∗ pool n Φ Ψ)) := by
  unfold pool
  rw [bigSep_univ_at _ r, if_pos h]
  iintro ⟨H, HR⟩
  isplitl [H]; · iexact H
  iintro H
  isplitl [H] <;> iassumption

end Cert.KernelIdeal.Hand

end
-- ==== Proof.IdSteps.lean ====
/-
The effects of the body, one rule each: the signal, the transfers, the waits, and the loads and stores on the blocks the
protocol moves.
-/
module

public import proofs.«01_k».proof.Proof.IdSched

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
/-- The program `p` run by device `c`, ending in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The records -/

abbrev CI : Type := Option (Fin 4 × Fin 2 × Fin 7)
/-- A device's cells: its barrier cell and its fifty-six transfer cells. -/
def csem : CI → SemLoc sig
  | none => .reg barS
  | some (k, s, r) => .dma (dsem k s r)
abbrev kcell (ck : Dev nD × CI) : GSem nD τ sig := ((ck.1 : Thread nD τ), csem ck.2)

/-- Every cell's invariant and that its round 0 is reached, and the levels. -/
def Inv (A : Ins F) (K : Dev nD × CI → ℕ) : sProp 𝕄 :=
  iprop((bigSep Finset.univ fun ck : Dev nD × CI => cellInv ER (Rd A) (K ck) (kcell ck))
    ∗ (bigSep Finset.univ fun ck : Dev nD × CI => reached ER (kcell ck) 0) ∗ levAts L lv)
instance Inv_persistent (A : Ins F) (K : Dev nD × CI → ℕ) : BI.Persistent (Inv A K) := by unfold Inv; infer_instance

variable (A : Ins F) (K : Dev nD × CI → ℕ) (c : Dev nD)

theorem inv_cell (ck : Dev nD × CI) : Inv A K ⊢ cellInv ER (Rd A) (K ck) (kcell ck) := by
  unfold Inv; exact sep_elim_left.trans (bigSep_elim (Finset.mem_univ ck))
theorem inv_reached (ck : Dev nD × CI) : Inv A K ⊢ reached ER (kcell ck) 0 := by
  unfold Inv; exact (sep_elim_right.trans sep_elim_left).trans (bigSep_elim (Finset.mem_univ ck))
theorem inv_lev : Inv A K ⊢ levAts L lv := by
  unfold Inv; exact sep_elim_right.trans sep_elim_right

/-- What device `c` still has to pay. -/
def owesE (l : List Ob) : sProp 𝕄 := iprop(∃ W, owes (c : Thread nD τ) (oSum c l) W)
theorem owesE_out (l : List Ob) : owesE (F := F) c l ⊢ iprop(∃ W, owes (c : Thread nD τ) (oSum c l) W) := by unfold owesE; exact BI.Entails.refl _

/-- Before a signal: the token of its duty and what it hands over. -/
def barIn (r : Fin 7) : sProp 𝕄 := iprop(dutyTok ER (barCell (pr c r)) 0 r ∗ giv c r)
/-- Tokens of a transfer of kind `k` (0 scatter, 2 gather): its two duties and the device's place at its send cell. -/
def tk (k k' : Fin 4) (s : Fin 2) (r : Fin 7) : sProp 𝕄 :=
  iprop(dutyTok ER (dcell c k s r) 0 0 ∗ dutyTok ER (dcell (pr c r) k' s r) 0 0 ∗ atPos ER (dcell c k s r) 0 ∅ 0)
/-- Before a scatter transfer: the rows to send, the slot to fill, the tokens; -/
def rsIn (s : Fin 2) (r : Fin 7) : sProp 𝕄 := iprop(stPt A c s (pr c r) ∗ (∃ f, slPt (pr c r) s r f) ∗ tk c 0 1 s r)
/-- before a gather transfer: a share of the segment, the rows to fill, the tokens. -/
def agIn (s : Fin 2) (r : Fin 7) : sProp 𝕄 := iprop(sePt A c s (shr r) ∗ (∃ f, agPt (pr c r) s c f) ∗ tk c 2 3 s r)
/-- Before a wait: the credit and the place; -/
def wIn (k : Fin 4) (s : Fin 2) (r : Fin 7) : sProp 𝕄 := iprop(cred (tallyAt (dcell c k s r) () N) ∗ atPos ER (dcell c k s r) 0 ∅ 0)
/-- after it: the closed cell and what it handed over. -/
def wOut (k : Fin 4) (s : Fin 2) (r : Fin 7) : sProp 𝕄 := iprop(semVal (dcell c k s r) 0 ∗ dmaPay A c k s r)

/-- A signal to the device `r + 1` places on. -/
theorem step_signal (r : Fin 7) (l : List Ob) {d : Dev nD} (hd : d = pr c r) {k' : ℕ} (hk : 1 = k') {α : Type}
    {Q : α → sProp 𝕄} {k : PUnit → Prog (TpuEff nD τ sig (Elt F) Λ₀ .tc) α} :
    iprop(Inv A K ∗ owesE c (.bar r :: l) ∗ pool r.val (barIn (F := F) c) (fun _ => iprop(emp)))
      ⊢ iprop(((owesE c l ∗ pool (r.val + 1) (barIn (F := F) c) (fun _ => iprop(emp))) -∗ WP c (k ⟨⟩) Q)
        -∗ WP c (.op (.semSignal (Dev.tc d : Thread nD τ) barS k') k) Q) := by
  subst hd
  iintro ⟨#HI, Ho, HP⟩ Hk
  ihave Ho := (owesE_out c _) $$ Ho
  icases Ho with ⟨%W, Ho⟩
  ihave HP := (pool_step r _ _) $$ HP
  unfold barIn
  icases HP with ⟨⟨Ht, Hg⟩, HP⟩
  iapply (Rounds.wp_signal 𝒱₀ ER (Rd A) (c : Thread nD τ) none (dst := (pr c r : Thread nD τ)) (κ := K (pr c r, none))
      (d := r) (by rw [duties_bar]; exact Finset.mem_univ _) ((amount_bar A (pr c r) r).trans hk) () (oSum c l) (by subst hk; rfl))
    $$ [Ho Ht Hg]
  · isplitr; · iapply (inv_cell A K (pr c r, none)); iexact HI
    isplitl [Ho]; · iexact Ho
    isplitl [Ht]; · iexact Ht
    isplitl [Hg]; · rw [payload_bar, bk_pr]; iexact Hg
    iapply (inv_reached A K (pr c r, none)); iexact HI
  iintro Ho
  iapply Hk
  isplitl [Ho]; · (unfold owesE; iexists W; iexact Ho)
  iapply HP; iempintro

/-- A wait on one of the device's transfer cells: the cell closes and hands over what it holds. -/
theorem step_wait (k : Fin 4) (s : Fin 2) (r : Fin 7) (l : List Ob) (hl : ∀ x ∈ l, lvS (.dma (dsem k s r)) < obLv x)
    {q : DmaSem sig} (hq : q = dsem k s r) {sp sp' : Space} {s1 s2 : Shape} {e1 e2 : EltTy} {κ' : Kind}
    {src : Memref sig .tc sp' s2 e2} {dst : Memref sig κ' sp s1 e1} {hsrc : src.view.WordExact} {hdst : dst.view.WordExact}
    (hN : dst.view.dmaCredit = N) {α : Type} {Q : α → sProp 𝕄} {kk : PUnit → Prog (TpuEff nD τ sig (Elt F) Λ₀ .tc) α} :
    iprop(Inv A K ∗ owesE c l ∗ pool r.val (wIn (F := F) c k s) (wOut A c k s))
      ⊢ iprop(((owesE c l ∗ pool (r.val + 1) (wIn (F := F) c k s) (wOut A c k s)) -∗ WP c (kk ⟨⟩) Q)
        -∗ WP c (.op (.waitDma2 q src dst hsrc hdst) kk) Q) := by
  subst hq
  iintro ⟨#HI, Ho, HP⟩ Hk
  ihave Ho := (owesE_out c _) $$ Ho
  icases Ho with ⟨%W, Ho⟩
  ihave HP := (pool_step r _ _) $$ HP
  icases HP with ⟨Hin, HP⟩
  unfold wIn
  icases Hin with ⟨Hc, Ha⟩
  iapply (Rounds.wp_wait_rest_token 𝒱₀ ER (Rd A) (c : Thread nD τ) none (κ := K (c, some (k, s, r)))
      (wpE_waitDma2_eq 𝒱₀ (c : Thread nD τ) none Set.univ) (Set.mem_univ _) () (O := oSum c l) (W := W) (R := 0) (m := 0) (T := ∅)
      (by rw [Nat.zero_add, hN, expect_dma])) $$ [Hc Ho Ha]
  · isplitr; · iapply (inv_cell A K (c, some (k, s, r))); iexact HI
    isplitl [Hc]; · rw [hN]; iexact Hc
    isplitl [Ho]; · iexact Ho
    isplitr; · iapply (mayWait c _ l hl); iapply (inv_lev A K); iexact HI
    iexact Ha
  iintro ⟨Ho, Ha, -, Hpay⟩
  ihave Hpay := (Entails.of_eq (rest_dma A c k s r)) $$ Hpay
  imod (Rounds.cell_close ER (Rd A) (Set.mem_univ (K (c, some (k, s, r)))) (fun h => h) (R := 0 + 1) (duties_later A (dcell c k s r))) $$ [Ha] with Hz
  · isplitr; · iapply (inv_cell A K (c, some (k, s, r))); iexact HI
    iexact Ha
  iapply Hk
  isplitl [Ho]; · (unfold owesE; iexists _; iexact Ho)
  iapply HP
  unfold wOut
  isplitl [Hz] <;> iassumption

/-- The wait for all seven signals: every block the device is to write is handed over. -/
theorem step_bar (l : List Ob) (hl : ∀ x ∈ l, 1 < obLv x) {k' : ℕ} (hk : 7 = k') {α : Type} {Q : α → sProp 𝕄}
    {kk : PUnit → Prog (TpuEff nD τ sig (Elt F) Λ₀ .tc) α} :
    iprop(Inv A K ∗ owesE c l ∗ cred (tallyAt (barCell c) () 7) ∗ atPos ER (barCell c) 0 ∅ 0)
      ⊢ iprop(((owesE c l ∗ semVal (barCell c) 0 ∗ bigSep Finset.univ fun d => giv (F := F) (bk c d) d) -∗ WP c (kk ⟨⟩) Q)
        -∗ WP c (.op (.semWait barS k') kk) Q) := by
  subst hk
  iintro ⟨#HI, Ho, Hc, Ha⟩ Hk
  ihave Ho := (owesE_out c _) $$ Ho
  icases Ho with ⟨%W, Ho⟩
  iapply (Rounds.wp_wait_rest_token 𝒱₀ ER (Rd A) (c : Thread nD τ) none (κ := K (c, none))
      (wpE_semWait_eq 𝒱₀ (c : Thread nD τ) none Set.univ) (Set.mem_univ _) () (O := oSum c l) (W := W) (R := 0) (m := 0) (T := ∅)
      (by rw [Nat.zero_add, expect_bar])) $$ [Hc Ho Ha]
  · isplitr; · iapply (inv_cell A K (c, none)); iexact HI
    isplitl [Hc]; · iexact Hc
    isplitl [Ho]; · iexact Ho
    isplitr; · iapply (mayWait c (.reg barS) l hl); iapply (inv_lev A K); iexact HI
    iexact Ha
  iintro ⟨Ho, Ha, -, Hpay⟩
  ihave Hpay := (Entails.of_eq (rest_bar A c)) $$ Hpay
  imod (Rounds.cell_close ER (Rd A) (Set.mem_univ (K (c, none))) (fun h => h) (R := 0 + 1) (duties_later A (barCell c))) $$ [Ha] with Hz
  · isplitr; · iapply (inv_cell A K (c, none)); iexact HI
    iexact Ha
  iapply Hk
  isplitl [Ho]; · (unfold owesE; iexists _; iexact Ho)
  isplitl [Hz] <;> iassumption

/-- A scatter transfer of stream `s` to the device `r + 1` places on. -/
theorem step_rs (s : Fin 2) (r : Fin 7) (l : List Ob) {off : Fin 3 → ℕ} {hin} (hoff : off = ![s.val, 64 * (pr c r).val, 0])
    {d : Dev nD} (hd : d = pr c r) {sS sR : DmaSem sig} (h1 : sS = dsem 0 s r) (h2 : sR = dsem 1 s r)
    {dst : Memref sig (Dev.tc d : Thread nD τ).2.kind .vmem S64x256 .bf16} (hdst : dst = slotOf s r)
    {hsc : dst.view.ref.isScScratch = false}
    {hw1 : ((stM.slice (Rect.unit (s := S2x512x256) off S1x64x256.size hin) (fun _ => rfl)).squeeze S64x256 squeezes_S1x64x256_S64x256).view.WordExact}
    {hw2 : dst.view.WordExact}
    {hsem : DmaTarget.Typed .vmem (.dma sR) (.remote (Dev.tc d : Thread nD τ) dst (.dma sS) hsc)}
    {α : Type} {Q : α → sProp 𝕄} {k : PUnit → Prog (TpuEff nD τ sig (Elt F) Λ₀ .tc) α} :
    iprop(Inv A K ∗ owesE c (.rs s r :: l) ∗ pool r.val (rsIn A c s) (wIn (F := F) c 0 s))
      ⊢ iprop(((owesE c l ∗ pool (r.val + 1) (rsIn A c s) (wIn (F := F) c 0 s)) -∗ WP c (k ⟨⟩) Q)
        -∗ WP c (.op (.enqueueDma ((stM.slice (Rect.unit (s := S2x512x256) off S1x64x256.size hin) (fun _ => rfl)).squeeze S64x256 squeezes_S1x64x256_S64x256)
            (.remote (Dev.tc d : Thread nD τ) dst (.dma sS) hsc) (.dma sR) hw1 hw2 hsem) k) Q) := by
  subst hd hoff h1 h2 hdst
  iintro ⟨#HI, Ho, HP⟩ Hk
  ihave Ho := (owesE_out c _) $$ Ho
  icases Ho with ⟨%W, Ho⟩
  ihave HP := (pool_step r _ _) $$ HP
  icases HP with ⟨Hin, HP⟩
  unfold rsIn tk
  icases Hin with ⟨Hs, ⟨%fd, Hd⟩, Ht1, Ht2, Ha⟩
  iapply (Rounds.wp_send_pointsTo 𝒱₀ ER (Rd A) (c : Thread nD τ) none (c' := (pr c r : Thread nD τ)) (src := rowsOf stM s (pr c r)) (dst := slotOf s r)
      (κ₁ := K (c, some (0, s, r))) (κ₂ := K (pr c r, some (1, s, r)))
      (r₁ := 0) (r₂ := 0) (d₁ := 0) (d₂ := 0) (q := fullShare) (fs := stC A c) (fd := fd)
      (by rw [duties_dma]; exact Finset.mem_singleton_self _) (by rw [duties_dma]; exact Finset.mem_singleton_self _)
      () () N rfl (amount_dma A c 0 s r 0) (amount_dma A (pr c r) 1 s r 0) (oSum c l) rfl (W := W)
      (by rw [payload_dma, set_st]; exact BI.Entails.refl _)
      (by
        rw [payload_dma, set_slot]
        refine Entails.of_eq (pointsTo_congr fun i hi => ?_)
        refine (land_slot s r (pr c r) (stC A c) fd i hi).trans ?_
        simp only [slotSet, Finset.mem_filter, Finset.mem_univ, true_and] at hi
        have e0 : (i 0 : Fin 2) = s := Fin.ext hi.1
        have e1 : (i 1 : Fin 7) = r := Fin.ext hi.2
        show _ = stC A (bk (pr c r) (i 1 : Fin 7)) (ix3 (i 0 : Fin 2) (rowOf (pr c r) (i 2 : Fin 64)) (i 3 : Fin 256))
        rw [e0, e1, bk_pr])) $$ [Hs Hd Ho Ht1 Ht2]
  · isplitr; · iapply (inv_cell A K (c, some (0, s, r))); iexact HI
    isplitr; · iapply (inv_cell A K (pr c r, some (1, s, r))); iexact HI
    isplitl [Hs]; · rw [set_st]; unfold stPt; iexact Hs
    isplitl [Hd]; · rw [set_slot]; unfold slPt; iexact Hd
    isplitl [Ho]; · iexact Ho
    isplitl [Ht1]; · iexact Ht1
    isplitr; · iapply (inv_reached A K (c, some (0, s, r))); iexact HI
    isplitl [Ht2]; · iexact Ht2
    iapply (inv_reached A K (pr c r, some (1, s, r))); iexact HI
  iintro ⟨Hc, Ho⟩
  iapply Hk
  isplitl [Ho]; · (unfold owesE; iexists W; iexact Ho)
  iapply HP
  unfold wIn
  isplitl [Hc] <;> iassumption

/-- A gather transfer of stream `s` to the device `r + 1` places on. -/
theorem step_ag (s : Fin 2) (r : Fin 7) (l : List Ob) {off : Fin 3 → ℕ} {hin} (hoff : off = ![s.val, 64 * c.val, 0])
    {d : Dev nD} (hd : d = pr c r) {sS sR : DmaSem sig} (h1 : sS = dsem 2 s r) (h2 : sR = dsem 3 s r)
    {src : Memref sig .tc .vmem S64x256 .bf16} (hsrc : src = segOf s)
    {hsc : ((agM.slice (Rect.unit (s := S2x512x256) off S1x64x256.size hin) (fun _ => rfl)).squeeze S64x256 squeezes_S1x64x256_S64x256).view.ref.isScScratch = false}
    {hw1 : src.view.WordExact}
    {hw2 : ((agM.slice (Rect.unit (s := S2x512x256) off S1x64x256.size hin) (fun _ => rfl)).squeeze S64x256 squeezes_S1x64x256_S64x256).view.WordExact}
    {hsem : DmaTarget.Typed .vmem (.dma sR) (.remote (Dev.tc d : Thread nD τ)
      ((agM.slice (Rect.unit (s := S2x512x256) off S1x64x256.size hin) (fun _ => rfl)).squeeze S64x256 squeezes_S1x64x256_S64x256) (.dma sS) hsc)}
    {α : Type} {Q : α → sProp 𝕄} {k : PUnit → Prog (TpuEff nD τ sig (Elt F) Λ₀ .tc) α} :
    iprop(Inv A K ∗ owesE c (.ag s r :: l) ∗ pool r.val (agIn A c s) (wIn (F := F) c 2 s))
      ⊢ iprop(((owesE c l ∗ pool (r.val + 1) (agIn A c s) (wIn (F := F) c 2 s)) -∗ WP c (k ⟨⟩) Q)
        -∗ WP c (.op (.enqueueDma src (.remote (Dev.tc d : Thread nD τ)
              ((agM.slice (Rect.unit (s := S2x512x256) off S1x64x256.size hin) (fun _ => rfl)).squeeze S64x256 squeezes_S1x64x256_S64x256)
              (.dma sS) hsc) (.dma sR) hw1 hw2 hsem) k) Q) := by
  subst hd hoff h1 h2 hsrc
  iintro ⟨#HI, Ho, HP⟩ Hk
  ihave Ho := (owesE_out c _) $$ Ho
  icases Ho with ⟨%W, Ho⟩
  ihave HP := (pool_step r _ _) $$ HP
  icases HP with ⟨Hin, HP⟩
  unfold agIn tk
  icases Hin with ⟨Hs, ⟨%fd, Hd⟩, Ht1, Ht2, Ha⟩
  iapply (Rounds.wp_send_pointsTo 𝒱₀ ER (Rd A) (c : Thread nD τ) none (c' := (pr c r : Thread nD τ)) (src := segOf s) (dst := rowsOf agM s c)
      (κ₁ := K (c, some (2, s, r))) (κ₂ := K (pr c r, some (3, s, r)))
      (r₁ := 0) (r₂ := 0) (d₁ := 0) (d₂ := 0) (q := shr r) (fs := seC A c) (fd := fd)
      (by rw [duties_dma]; exact Finset.mem_singleton_self _) (by rw [duties_dma]; exact Finset.mem_singleton_self _)
      () () N rfl (amount_dma A c 2 s r 0) (amount_dma A (pr c r) 3 s r 0) (oSum c l) rfl (W := W)
      (by rw [payload_dma, set_seg]; exact BI.Entails.refl _)
      (by
        rw [payload_dma, set_ag]
        show _ ⊢ agPt (pr c r) s (bk (pr c r) r) (agC A)
        rw [bk_pr]
        refine Entails.of_eq (pointsTo_congr fun i hi => ?_)
        refine (land_rows s c (seC A c) fd i hi).trans ?_
        simp only [rowsSet, Finset.mem_filter, Finset.mem_univ, true_and] at hi
        have e0 : (i 0 : Fin 2) = s := Fin.ext hi.1
        have e1 : (⟨(i 1).val / 64, row_dev_lt i⟩ : Dev nD) = c := Fin.ext hi.2
        show _ = seC A ⟨(i 1).val / 64, row_dev_lt i⟩ (ix3 (i 0 : Fin 2) (⟨(i 1).val % 64, Nat.mod_lt _ (by decide)⟩ : Fin 64) (i 2 : Fin 256))
        rw [e0, e1])) $$ [Hs Hd Ho Ht1 Ht2]
  · isplitr; · iapply (inv_cell A K (c, some (2, s, r))); iexact HI
    isplitr; · iapply (inv_cell A K (pr c r, some (3, s, r))); iexact HI
    isplitl [Hs]; · rw [set_seg]; unfold sePt; iexact Hs
    isplitl [Hd]; · rw [set_ag]; unfold agPt; iexact Hd
    isplitl [Ho]; · iexact Ho
    isplitl [Ht1]; · iexact Ht1
    isplitr; · iapply (inv_reached A K (c, some (2, s, r))); iexact HI
    isplitl [Ht2]; · iexact Ht2
    iapply (inv_reached A K (pr c r, some (3, s, r))); iexact HI
  iintro ⟨Hc, Ho⟩
  iapply Hk
  isplitl [Ho]; · (unfold owesE; iexists W; iexact Ho)
  iapply HP
  unfold wIn
  isplitl [Hc] <;> iassumption

end Cert.KernelIdeal.Hand

end
-- ==== Proof.IdMem.lean ====
/-
The loads and stores of the body, and the buffers cut into the blocks the protocol moves and made whole again.
-/
module

public import proofs.«01_k».proof.Proof.IdSteps

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (c : Dev nD)

/-! ## The loads -/

theorem whole_setOn_rows (s : Fin 2) (t : Dev nD) : agM.view.setOn (rowsR s t).toLoadRect.set ⊆ rowsSet s t := by
  rw [← rect_rows s t]; exact (Finset.map_refl).le
theorem whole_setOn_slot (s : Fin 2) (r : Fin 7) : laM.view.setOn (slotR s r).toLoadRect.set ⊆ slotSet s r := by
  rw [← rect_slot s r]; exact (Finset.map_refl).le
theorem whole_setOn_str (s : Fin 2) : stM.view.setOn (strR s).toLoadRect.set ⊆ strSet s := by
  rw [← rect_str s]; exact (Finset.map_refl).le
theorem whole_setOn_seg (s : Fin 2) : seM.view.setOn (segR s).toLoadRect.set ⊆ segSet s := by
  rw [← rect_seg s]; exact (Finset.map_refl).le

/-- A load of a landed slot. -/
theorem load_slot (s : Fin 2) (r : Fin 7) (n : ℕ) (h : r.val < n) {off : Fin 4 → ℕ} {hin} (hoff : off = ![s.val, r.val, 0, 0])
    {hl : laM.view.LoadsAt (Rect.unit (s := S2x7x64x256) off S1x1x64x256.size hin).toLoadRect}
    {α : Type} {Q : α → sProp 𝕄} {k : Vec F S1x1x64x256 .bf16 → Prog (TpuEff nD τ sig (Elt F) Λ₀ .tc) α} :
    pool n (wIn (F := F) c 1 s) (wOut A c 1 s)
      ⊢ iprop((pool n (wIn (F := F) c 1 s) (wOut A c 1 s) -∗ WP c (k (laL A c s r)) Q)
        -∗ WP c (.op (.load laM (Rect.unit (s := S2x7x64x256) off S1x1x64x256.size hin).toLoadRect hl) k) Q) := by
  subst hoff
  iintro HP Hk
  ihave HP := (pool_get n r h _ _) $$ HP
  icases HP with ⟨Hw, HP⟩
  unfold wOut
  icases Hw with ⟨Hz, Hp⟩
  ihave Hp := (Entails.of_eq (show dmaPay A c 1 s r = (((c : Thread nD τ).loc cc0_scratch2) ↦[slotSet s r]{fullShare} laC A c) from rfl)) $$ Hp
  iapply (wp_load 𝒱₀ (c : Thread nD τ) none Set.univ (m := laM) (whole_setOn_slot s r)) $$ Hp
  iintro Hp
  iapply Hk
  iapply HP
  isplitl [Hz]; · iexact Hz
  iapply (Entails.of_eq (show dmaPay A c 1 s r = (((c : Thread nD τ).loc cc0_scratch2) ↦[slotSet s r]{fullShare} laC A c) from rfl).symm)
  iexact Hp

/-- A load of a gathered row block. -/
theorem load_ag (s : Fin 2) (r : Fin 7) (n : ℕ) (h : r.val < n) {off : Fin 3 → ℕ} {hin} (hoff : off = ![s.val, 64 * (bk c r).val, 0])
    {hl : agM.view.LoadsAt (Rect.unit (s := S2x512x256) off S1x64x256.size hin).toLoadRect}
    {α : Type} {Q : α → sProp 𝕄} {k : Vec F S1x64x256 .bf16 → Prog (TpuEff nD τ sig (Elt F) Λ₀ .tc) α} :
    pool n (wIn (F := F) c 3 s) (wOut A c 3 s)
      ⊢ iprop((pool n (wIn (F := F) c 3 s) (wOut A c 3 s) -∗ WP c (k (agL A s (bk c r))) Q)
        -∗ WP c (.op (.load agM (Rect.unit (s := S2x512x256) off S1x64x256.size hin).toLoadRect hl) k) Q) := by
  subst hoff
  iintro HP Hk
  ihave HP := (pool_get n r h _ _) $$ HP
  icases HP with ⟨Hw, HP⟩
  unfold wOut
  icases Hw with ⟨Hz, Hp⟩
  ihave Hp := (Entails.of_eq (show dmaPay A c 3 s r = (((c : Thread nD τ).loc cc0_scratch4) ↦[rowsSet s (bk c r)]{fullShare} agC A) from rfl)) $$ Hp
  iapply (wp_load 𝒱₀ (c : Thread nD τ) none Set.univ (m := agM) (whole_setOn_rows s (bk c r))) $$ Hp
  iintro Hp
  iapply Hk
  iapply HP
  isplitl [Hz]; · iexact Hz
  iapply (Entails.of_eq (show dmaPay A c 3 s r = (((c : Thread nD τ).loc cc0_scratch4) ↦[rowsSet s (bk c r)]{fullShare} agC A) from rfl).symm)
  iexact Hp

/-- The whole of a buffer of the device, at contents `f`. -/
abbrev wh (b : Ref sig .tc) (f : Buf (Elt F) ((c : Thread nD τ).loc b)) : sProp 𝕄 := ((c : Thread nD τ).loc b) ↦{fullShare} f

/-- A load of the device's own rows of the accumulator, -/
theorem load_acc (s : Fin 2) {off : Fin 3 → ℕ} {hin} (hoff : off = ![s.val, 64 * c.val, 0])
    {hl : accM.view.LoadsAt (Rect.unit (s := S2x512x256) off S1x64x256.size hin).toLoadRect}
    {α : Type} {Q : α → sProp 𝕄} {k : Vec F S1x64x256 .f32 → Prog (TpuEff nD τ sig (Elt F) Λ₀ .tc) α} :
    wh c cc0_scratch0 (accC A c)
      ⊢ iprop((wh c cc0_scratch0 (accC A c) -∗ WP c (k (accL A c s)) Q)
        -∗ WP c (.op (.load accM (Rect.unit (s := S2x512x256) off S1x64x256.size hin).toLoadRect hl) k) Q) := by
  subst hoff
  exact wp_load 𝒱₀ (c : Thread nD τ) none Set.univ (m := accM) (Finset.subset_univ _)
/-- and of its own rows of `x`. -/
theorem load_xr {off : Fin 2 → ℕ} {hin} (hoff : off = ![64 * c.val, 0])
    {hl : a0M.view.LoadsAt (Rect.unit (s := S512x256) off S64x256.size hin).toLoadRect}
    {α : Type} {Q : α → sProp 𝕄} {k : Vec F S64x256 .bf16 → Prog (TpuEff nD τ sig (Elt F) Λ₀ .tc) α} :
    wh c cc0_stg0_0 (A.x c)
      ⊢ iprop((wh c cc0_stg0_0 (A.x c) -∗ WP c (k (xrL A c)) Q)
        -∗ WP c (.op (.load a0M (Rect.unit (s := S512x256) off S64x256.size hin).toLoadRect hl) k) Q) := by
  subst hoff
  exact wp_load 𝒱₀ (c : Thread nD τ) none Set.univ (m := a0M) (Finset.subset_univ _)
/-- A load of a column half of one of the device's experts. -/
theorem load_e (e : Fin 4) (s : Fin 2) {off : Fin 3 → ℕ} {hin} (hoff : off = ![e.val, 0, 256 * s.val])
    {hl : a3M.view.LoadsAt (Rect.unit (s := S4x256x512) off S1x256x256.size hin).toLoadRect}
    {α : Type} {Q : α → sProp 𝕄} {k : Vec F S1x256x256 .bf16 → Prog (TpuEff nD τ sig (Elt F) Λ₀ .tc) α} :
    wh c cc0_stg3_0 (A.e c)
      ⊢ iprop((wh c cc0_stg3_0 (A.e c) -∗ WP c (k (eL A c e s)) Q)
        -∗ WP c (.op (.load a3M (Rect.unit (s := S4x256x512) off S1x256x256.size hin).toLoadRect hl) k) Q) := by
  subst hoff
  exact wp_load 𝒱₀ (c : Thread nD τ) none Set.univ (m := a3M) (Finset.subset_univ _)

/-- A load from a buffer held whole, whose value is not used. -/
theorem load_dead {sp : CoreSpace} {sh : Shape} {e : EltTy} {m : Memref sig .tc sp sh e} {r : LoadRect sh} {hl : m.view.LoadsAt r}
    {f : Buf (Elt F) (m.view.loc (c : Thread nD τ))} {α : Type} {Q : α → sProp 𝕄}
    {k : (r.shape.Idx → Elt F e) → Prog (TpuEff nD τ sig (Elt F) Λ₀ .tc) α} :
    (m.view.loc (c : Thread nD τ) ↦[Finset.univ]{fullShare} f)
      ⊢ iprop(((m.view.loc (c : Thread nD τ) ↦[Finset.univ]{fullShare} f) -∗ WP c (k (m.view.readAt (Elt F) r f)) Q)
        -∗ WP c (.op (.load m r hl) k) Q) :=
  wp_load 𝒱₀ (c : Thread nD τ) none Set.univ (m := m) (Finset.subset_univ _)
/-- A load of a stream of the stage, whose value is not used; -/
theorem load_st (s : Fin 2) {f : Vec F S2x512x256 .bf16} {off : Fin 3 → ℕ} {hin} (hoff : off = ![s.val, 0, 0])
    {hl : stM.view.LoadsAt (Rect.unit (s := S2x512x256) off S1x512x256.size hin).toLoadRect}
    {α : Type} {Q : α → sProp 𝕄} {k : Vec F S1x512x256 .bf16 → Prog (TpuEff nD τ sig (Elt F) Λ₀ .tc) α} :
    (((c : Thread nD τ).loc cc0_scratch1) ↦[strSet s]{fullShare} f : sProp 𝕄)
      ⊢ iprop(((((c : Thread nD τ).loc cc0_scratch1) ↦[strSet s]{fullShare} f) -∗ ∀ v, WP c (k v) Q)
        -∗ WP c (.op (.load stM (Rect.unit (s := S2x512x256) off S1x512x256.size hin).toLoadRect hl) k) Q) := by
  subst hoff
  iintro H Hk
  iapply (wp_load 𝒱₀ (c : Thread nD τ) none Set.univ (m := stM) (whole_setOn_str s)) $$ H
  iintro H
  ihave Hk := Hk $$ H
  iapply Hk
/-- and of a stream of the segment buffer. -/
theorem load_se (s : Fin 2) {f : Vec F S2x64x256 .bf16} {off : Fin 3 → ℕ} {hin} (hoff : off = ![s.val, 0, 0])
    {hl : seM.view.LoadsAt (Rect.unit (s := S2x64x256) off S1x64x256.size hin).toLoadRect}
    {α : Type} {Q : α → sProp 𝕄} {k : Vec F S1x64x256 .bf16 → Prog (TpuEff nD τ sig (Elt F) Λ₀ .tc) α} :
    (((c : Thread nD τ).loc cc0_scratch3) ↦[segSet s]{fullShare} f : sProp 𝕄)
      ⊢ iprop(((((c : Thread nD τ).loc cc0_scratch3) ↦[segSet s]{fullShare} f) -∗ ∀ v, WP c (k v) Q)
        -∗ WP c (.op (.load seM (Rect.unit (s := S2x64x256) off S1x64x256.size hin).toLoadRect hl) k) Q) := by
  subst hoff
  iintro H Hk
  iapply (wp_load 𝒱₀ (c : Thread nD τ) none Set.univ (m := seM) (whole_setOn_seg s)) $$ H
  iintro H
  ihave Hk := Hk $$ H
  iapply Hk

/-! ## The stores -/

theorem str_store (s : Fin 2) : (stM.access (strR s)).setOn Finset.univ ⊆ strSet s := by
  rw [← rect_str s]; exact (View.set_slice_whole cc0_scratch1 (strR s)).le
theorem seg_store (s : Fin 2) : (seM.access (segR s)).setOn Finset.univ ⊆ segSet s := by
  rw [← rect_seg s]; exact (View.set_slice_whole cc0_scratch3 (segR s)).le

theorem st_stored (s : Fin 2) (f : Vec F S2x512x256 .bf16) (v : S1x512x256.Idx → Elt F .bf16)
    (hv : ∀ i ∈ strSet s, v (ix3 (0 : Fin 1) (i 1 : Fin 512) (i 2 : Fin 256)) = stC A c i) :
    (((c : Thread nD τ).loc cc0_scratch1) ↦[strSet s]{fullShare} (stM.access (strR s)).write (Elt F) f v Finset.univ : sProp 𝕄)
      = (((c : Thread nD τ).loc cc0_scratch1) ↦[strSet s]{fullShare} stC A c : sProp 𝕄) :=
  pointsTo_congr (ℓ := (c : Thread nD τ).loc cc0_scratch1) (fun i hi => (st_write (Val := Elt F) s f v i hi).trans (hv i hi))
theorem se_stored (s : Fin 2) (f : Vec F S2x64x256 .bf16) (v : S1x64x256.Idx → Elt F .bf16)
    (hv : ∀ i ∈ segSet s, v (ix3 (0 : Fin 1) (i 1 : Fin 64) (i 2 : Fin 256)) = seC A c i) :
    (((c : Thread nD τ).loc cc0_scratch3) ↦[segSet s]{fullShare} (seM.access (segR s)).write (Elt F) f v Finset.univ : sProp 𝕄)
      = sePt A c s fullShare :=
  pointsTo_congr (ℓ := (c : Thread nD τ).loc cc0_scratch3) (fun i hi => (se_write (Val := Elt F) s f v i hi).trans (hv i hi))

/-- The store of a stream of the stage. -/
theorem store_st (s : Fin 2) {f : Vec F S2x512x256 .bf16} {off : Fin 3 → ℕ} {hin} (hoff : off = ![s.val, 0, 0])
    {v : S1x512x256.Idx → Elt F .bf16} (hv : ∀ i ∈ strSet s, v (ix3 (0 : Fin 1) (i 1 : Fin 512) (i 2 : Fin 256)) = stC A c i)
    {hx : (stM.access (Rect.unit (s := S2x512x256) off S1x512x256.size hin)).Stores Finset.univ} {hm}
    {α : Type} {Q : α → sProp 𝕄} {k : PUnit → Prog (TpuEff nD τ sig (Elt F) Λ₀ .tc) α} :
    (((c : Thread nD τ).loc cc0_scratch1) ↦[strSet s]{fullShare} f : sProp 𝕄)
      ⊢ iprop(((((c : Thread nD τ).loc cc0_scratch1) ↦[strSet s]{fullShare} stC A c) -∗ WP c (k ⟨⟩) Q)
        -∗ WP c (.op (.store stM (Rect.unit (s := S2x512x256) off S1x512x256.size hin) v Finset.univ hx hm) k) Q) := by
  subst hoff
  iintro H Hk
  iapply (wp_store 𝒱₀ (c : Thread nD τ) none Set.univ (m := stM) (r := strR s) (Mk := Finset.univ) (w := v) (str_store s)) $$ H
  iintro H
  ihave H := (Entails.of_eq (st_stored A c s f v hv)) $$ H
  iapply Hk $$ H

/-- The store of a stream of the segment buffer. -/
theorem store_se (s : Fin 2) {f : Vec F S2x64x256 .bf16} {off : Fin 3 → ℕ} {hin} (hoff : off = ![s.val, 0, 0])
    {v : S1x64x256.Idx → Elt F .bf16} (hv : ∀ i ∈ segSet s, v (ix3 (0 : Fin 1) (i 1 : Fin 64) (i 2 : Fin 256)) = seC A c i)
    {hx : (seM.access (Rect.unit (s := S2x64x256) off S1x64x256.size hin)).Stores Finset.univ} {hm}
    {α : Type} {Q : α → sProp 𝕄} {k : PUnit → Prog (TpuEff nD τ sig (Elt F) Λ₀ .tc) α} :
    (((c : Thread nD τ).loc cc0_scratch3) ↦[segSet s]{fullShare} f : sProp 𝕄)
      ⊢ iprop((sePt A c s fullShare -∗ WP c (k ⟨⟩) Q)
        -∗ WP c (.op (.store seM (Rect.unit (s := S2x64x256) off S1x64x256.size hin) v Finset.univ hx hm) k) Q) := by
  subst hoff
  iintro H Hk
  iapply (wp_store 𝒱₀ (c : Thread nD τ) none Set.univ (m := seM) (r := segR s) (Mk := Finset.univ) (w := v) (seg_store s)) $$ H
  iintro H
  ihave H := (Entails.of_eq (se_stored A c s f v hv)) $$ H
  iapply Hk $$ H

/-- The accumulator after its two stores. -/
theorem acc_stored (f : Vec F S2x512x256 .f32) :
    (accM.access (strR 1)).write (Elt F) ((accM.access (strR 0)).write (Elt F) f (k0_pay15 (part0 A c)) Finset.univ) (k0_pay16 (part1 A c)) Finset.univ = accC A c := by
  funext i
  by_cases h : i ∈ strSet 1
  · refine (acc_write 1 _ _ i h).trans ?_
    simp only [strSet, Finset.mem_filter, Finset.mem_univ, true_and] at h
    exact (if_neg (by rw [h]; exact Nat.one_ne_zero)).symm
  · refine (acc_write_off 1 _ _ i h).trans ?_
    have h0 : (i 0).val = 0 := by
      have h2 : (i 0).val < 2 := (i 0).isLt
      simp only [strSet, Finset.mem_filter, Finset.mem_univ, true_and] at h
      have : ((1 : Fin 2)).val = 1 := rfl
      omega
    refine (acc_write 0 f _ i (by simp only [strSet, Finset.mem_filter, Finset.mem_univ, true_and]; exact h0)).trans ?_
    exact (if_pos h0).symm

/-- The result buffer, the blocks in `l` written. -/
def OutS (l : List (Fin 2 × Dev nD)) : sProp 𝕄 :=
  iprop(∃ f : Vec F S512x512 .f32, ⌜∀ p ∈ l, ∀ i ∈ outSet p.1 p.2, f i = outC A c i⌝ ∗ wh c cc0_stg5_0 f)

/-- The contents of the result at a block. -/
theorem outC_at (s : Fin 2) (t : Dev nD) (i : S512x512.Idx) (hi : i ∈ outSet s t) :
    outC A c i = outB A c s t (ix2 (⟨(i 0).val % 64, Nat.mod_lt _ (by decide)⟩ : Fin 64) (⟨(i 1).val % 256, Nat.mod_lt _ (by decide)⟩ : Fin 256)) := by
  simp only [outSet, Finset.mem_filter, Finset.mem_univ, true_and] at hi
  have e0 : (⟨(i 1).val / 256, out_half_lt i⟩ : Fin 2) = s := Fin.ext hi.2
  have e1 : (⟨(i 0).val / 64, out_dev_lt i⟩ : Dev nD) = t := Fin.ext hi.1
  unfold outC
  rw [e0, e1]

/-- The store of a block of the result. -/
theorem store_out (l : List (Fin 2 × Dev nD)) (s : Fin 2) (t : Dev nD) {off : Fin 2 → ℕ} {hin} (hoff : off = ![64 * t.val, 256 * s.val])
    {v : S64x256.Idx → Elt F .f32} (hv : v = outB A c s t)
    {hx : (a5M.access (Rect.unit (s := S512x512) off S64x256.size hin)).Stores Finset.univ} {hm}
    {α : Type} {Q : α → sProp 𝕄} {k : PUnit → Prog (TpuEff nD τ sig (Elt F) Λ₀ .tc) α} :
    OutS A c l
      ⊢ iprop((OutS A c ((s, t) :: l) -∗ WP c (k ⟨⟩) Q)
        -∗ WP c (.op (.store a5M (Rect.unit (s := S512x512) off S64x256.size hin) v Finset.univ hx hm) k) Q) := by
  subst hoff hv
  unfold OutS
  iintro ⟨%f, %hf, H⟩ Hk
  iapply (wp_store 𝒱₀ (c : Thread nD τ) none Set.univ (m := a5M) (r := outR s t) (Mk := Finset.univ) (w := outB A c s t) (Finset.subset_univ _)) $$ H
  iintro H
  iapply Hk
  iexists _
  isplitr
  · ipureintro
    intro p hp i hi
    by_cases h : i ∈ outSet s t
    · exact (out_write s t f _ i h).trans (outC_at A c s t i h).symm
    · refine (out_write_off s t f _ i h).trans ?_
      rcases List.mem_cons.mp hp with rfl | hp
      · exact absurd hi h
      · exact hf p hp i hi
  · iexact H
/-- A load of the result buffer, whose value is not used. -/
theorem load_out (l : List (Fin 2 × Dev nD)) {off : Fin 2 → ℕ} {hin}
    {hl : a5M.view.LoadsAt (Rect.unit (s := S512x512) off S64x256.size hin).toLoadRect}
    {α : Type} {Q : α → sProp 𝕄} {k : Vec F S64x256 .f32 → Prog (TpuEff nD τ sig (Elt F) Λ₀ .tc) α} :
    OutS A c l
      ⊢ iprop((OutS A c l -∗ ∀ v, WP c (k v) Q)
        -∗ WP c (.op (.load a5M (Rect.unit (s := S512x512) off S64x256.size hin).toLoadRect hl) k) Q) := by
  unfold OutS
  iintro ⟨%f, %hf, H⟩ Hk
  iapply (wp_load 𝒱₀ (c : Thread nD τ) none Set.univ (m := a5M) (Finset.subset_univ _)) $$ H
  iintro H
  ihave Hk := Hk $$ [H]
  · iexists f; isplitr; · (ipureintro; exact hf)
    iexact H
  iapply Hk

/-! ## The blocks a buffer is cut into -/

theorem bigSep_pr (Φ : Dev nD → sProp 𝕄) : bigSep Finset.univ Φ = iprop(Φ c ∗ bigSep Finset.univ fun r => Φ (pr c r)) := by
  rw [bigSep_univ_at Φ c]
  have h : (Finset.univ.erase c : Finset (Dev nD)) = Finset.univ.map ⟨pr c, fun r r' h => pr_inj c r r' h⟩ := by
    ext t
    simp only [Finset.mem_erase, Finset.mem_univ, and_true, Finset.mem_map, true_and, Function.Embedding.coeFn_mk]
    constructor
    · intro ht; exact (pr_cover c t).resolve_left ht
    · rintro ⟨r, rfl⟩; exact pr_ne c r
  rw [h, bigSep_map]; rfl
theorem bigSep_rev (Φ : Fin 7 → sProp 𝕄) : bigSep Finset.univ Φ = bigSep Finset.univ fun r : Fin 7 => Φ r.rev :=
  bigSep_univ_equiv Fin.revPerm Φ
theorem bigSep_bk (Φ : Dev nD → sProp 𝕄) : bigSep Finset.univ Φ = iprop(Φ c ∗ bigSep Finset.univ fun r => Φ (bk c r)) := by
  rw [bigSep_pr c, bigSep_rev]
  simp only [pr_rev]
theorem bigSep_two (Φ : Fin 2 → sProp 𝕄) : bigSep Finset.univ Φ = iprop(Φ 0 ∗ Φ 1) := bigSep_univ_eq_bigSepL [0, 1] (by decide) (by decide) Φ

theorem st_rows (s : Fin 2) : (((c : Thread nD τ).loc cc0_scratch1) ↦[strSet s]{fullShare} stC A c : sProp 𝕄)
    = iprop(stPt A c s c ∗ bigSep Finset.univ fun r => stPt A c s (pr c r)) := by
  rw [← rows_cover s]
  refine (pointsTo_biUnion (ℓ := (c : Thread nD τ).loc cc0_scratch1) Finset.univ (rowsSet s) (fun t _ t' _ h => rows_disj s t t' h)).trans ?_
  exact bigSep_pr c (fun t => stPt A c s t)
theorem st_halves (f : Vec F S2x512x256 .bf16) : (wh c cc0_scratch1 f : sProp 𝕄)
    ⊣⊢ iprop((((c : Thread nD τ).loc cc0_scratch1) ↦[strSet 0]{fullShare} f) ∗ (((c : Thread nD τ).loc cc0_scratch1) ↦[strSet 1]{fullShare} f)) := by
  have h := pointsTo_union (Ix := Unit) (Name := ℕ) (U := UU) (Lvl := ℕ) (ℓ := (c : Thread nD τ).loc cc0_scratch1) (q := fullShare) (f := f) str_disj
  rw [str_cover] at h
  exact h
theorem se_halves (f : Vec F S2x64x256 .bf16) : (wh c cc0_scratch3 f : sProp 𝕄)
    ⊣⊢ iprop((((c : Thread nD τ).loc cc0_scratch3) ↦[segSet 0]{fullShare} f) ∗ (((c : Thread nD τ).loc cc0_scratch3) ↦[segSet 1]{fullShare} f)) := by
  have h := pointsTo_union (Ix := Unit) (Name := ℕ) (U := UU) (Lvl := ℕ) (ℓ := (c : Thread nD τ).loc cc0_scratch3) (q := fullShare) (f := f) seg_disj
  rw [seg_cover] at h
  exact h
theorem ag_rows (f : Vec F S2x512x256 .bf16) : (wh c cc0_scratch4 f : sProp 𝕄)
    ⊢ iprop((agPt c 0 c f ∗ bigSep Finset.univ fun r => agPt c 0 (pr c r) f) ∗ (agPt c 1 c f ∗ bigSep Finset.univ fun r => agPt c 1 (pr c r) f)) := by
  have h := pointsTo_union (Ix := Unit) (Name := ℕ) (U := UU) (Lvl := ℕ) (ℓ := (c : Thread nD τ).loc cc0_scratch4) (q := fullShare) (f := f) str_disj
  rw [str_cover] at h
  refine h.1.trans (Entails.of_eq ?_)
  have e : ∀ s : Fin 2, (((c : Thread nD τ).loc cc0_scratch4) ↦[strSet s]{fullShare} f : sProp 𝕄)
      = iprop(agPt c s c f ∗ bigSep Finset.univ fun r => agPt c s (pr c r) f) := fun s => by
    rw [← rows_cover s]
    refine (pointsTo_biUnion (ℓ := (c : Thread nD τ).loc cc0_scratch4) Finset.univ (rowsSet s) (fun t _ t' _ h => rows_disj s t t' h)).trans ?_
    exact bigSep_pr c (fun t => agPt c s t f)
  rw [e 0, e 1]
theorem la_slots (f : Vec F S2x7x64x256 .bf16) : (wh c cc0_scratch2 f : sProp 𝕄)
    = iprop((bigSep Finset.univ fun r => slPt c 0 r f) ∗ (bigSep Finset.univ fun r => slPt c 1 r f)) := by
  have h := pointsTo_biUnion (Ix := Unit) (Name := ℕ) (U := UU) (Lvl := ℕ) (ℓ := (c : Thread nD τ).loc cc0_scratch2) (q := fullShare) (f := f)
    Finset.univ (fun p : Fin 2 × Fin 7 => slotSet p.1 p.2) (fun p _ p' _ h => slots_disj p p' h)
  rw [slots_cover] at h
  refine h.trans ?_
  rw [bigSep_univ_prod, bigSep_two]
  rfl

/-- What a device hands over at its seven signals is its landing buffer and the others' rows of its gather buffer; its own
    rows of the gather buffer stay. -/
theorem give_all (f : Vec F S2x7x64x256 .bf16) (g : Vec F S2x512x256 .bf16) :
    iprop(wh c cc0_scratch2 f ∗ wh c cc0_scratch4 g)
      ⊢ iprop((bigSep Finset.univ fun r => giv (F := F) c r) ∗ agPt c 0 c g ∗ agPt c 1 c g) := by
  rw [la_slots, bigSep_rev (fun r => slPt c 0 r f), bigSep_rev (fun r => slPt c 1 r f)]
  iintro ⟨⟨H0, H1⟩, Hg⟩
  ihave Hg := (ag_rows c g) $$ Hg
  icases Hg with ⟨⟨Ha, Hb⟩, Hd, He⟩
  isplitr [Ha Hd]
  · unfold giv
    simp only [bigSep_sep']
    isplitl [H0]; · iapply (show (bigSep Finset.univ fun r : Fin 7 => slPt c 0 r.rev f) ⊢ bigSep Finset.univ fun r : Fin 7 => iprop(∃ f, slPt c 0 r.rev f) from bigSep_mono (fun r _ => exists_intro (Φ := fun f => slPt c 0 r.rev f) f)); iexact H0
    isplitl [H1]; · iapply (show (bigSep Finset.univ fun r : Fin 7 => slPt c 1 r.rev f) ⊢ bigSep Finset.univ fun r : Fin 7 => iprop(∃ f, slPt c 1 r.rev f) from bigSep_mono (fun r _ => exists_intro (Φ := fun f => slPt c 1 r.rev f) f)); iexact H1
    isplitl [Hb]; · iapply (show (bigSep Finset.univ fun r : Fin 7 => agPt c 0 (pr c r) g) ⊢ bigSep Finset.univ fun r : Fin 7 => iprop(∃ f, agPt c 0 (pr c r) f) from bigSep_mono (fun r _ => exists_intro (Φ := fun f => agPt c 0 (pr c r) f) g)); iexact Hb
    iapply (show (bigSep Finset.univ fun r : Fin 7 => agPt c 1 (pr c r) g) ⊢ bigSep Finset.univ fun r : Fin 7 => iprop(∃ f, agPt c 1 (pr c r) f) from bigSep_mono (fun r _ => exists_intro (Φ := fun f => agPt c 1 (pr c r) f) g)); iexact He
  isplitl [Ha] <;> iassumption

/-- What the seven signals hand a device: its slot and its rows on each of the others. -/
theorem got_all : (bigSep Finset.univ fun d => giv (F := F) (bk c d) d)
    ⊢ iprop(((bigSep Finset.univ fun r => iprop(∃ f, slPt (pr c r) 0 r f)) ∗ (bigSep Finset.univ fun r => iprop(∃ f, slPt (pr c r) 1 r f)))
      ∗ ((bigSep Finset.univ fun r => iprop(∃ f, agPt (pr c r) 0 c f)) ∗ (bigSep Finset.univ fun r => iprop(∃ f, agPt (pr c r) 1 c f)))) := by
  rw [bigSep_rev]
  unfold giv
  simp only [bigSep_sep', bk_rev, Fin.rev_rev]
  have e : ∀ r : Fin 7, pr (pr c r) r.rev = c := fun r => by rw [pr_rev, bk_pr]
  simp only [e]
  iintro ⟨H0, H1, H2, H3⟩
  isplitl [H0 H1]
  · isplitl [H0] <;> iassumption
  · isplitl [H2] <;> iassumption

/-- A segment held whole is the seven shares its transfers read. -/
theorem se_shares (s : Fin 2) : (sePt A c s fullShare : sProp 𝕄) ⊣⊢ bigSep Finset.univ fun r => sePt A c s (shr r) := by
  have e : ∀ n, (sePt A c s (qr n) : sProp 𝕄) ⊣⊢ iprop(sePt A c s (qr n).left ∗ sePt A c s (qr (n + 1))) := fun n =>
    pointsTo_share (PosShare.mem_left_op_right (qr n))
  rw [bigSep_univ_eq_bigSepL [0, 1, 2, 3, 4, 5, 6] (by decide) (by decide)]
  have q0 : (fullShare : PosShare TreeShare) = qr 0 := rfl
  rw [q0]
  show iprop(sePt A c s (qr 0)) ⊣⊢ iprop(sePt A c s (shr 0) ∗ sePt A c s (shr 1) ∗ sePt A c s (shr 2) ∗ sePt A c s (shr 3)
    ∗ sePt A c s (shr 4) ∗ sePt A c s (shr 5) ∗ sePt A c s (shr 6))
  constructor
  · iintro H
    ihave H := (e 0).1 $$ H
    icases H with ⟨H0, H⟩
    ihave H := (e 1).1 $$ H
    icases H with ⟨H1, H⟩
    ihave H := (e 2).1 $$ H
    icases H with ⟨H2, H⟩
    ihave H := (e 3).1 $$ H
    icases H with ⟨H3, H⟩
    ihave H := (e 4).1 $$ H
    icases H with ⟨H4, H⟩
    ihave H := (e 5).1 $$ H
    icases H with ⟨H5, H⟩
    isplitl [H0]; · iexact H0
    isplitl [H1]; · iexact H1
    isplitl [H2]; · iexact H2
    isplitl [H3]; · iexact H3
    isplitl [H4]; · iexact H4
    isplitl [H5]; · iexact H5
    iexact H
  · iintro ⟨H0, H1, H2, H3, H4, H5, H6⟩
    iapply (e 0).2
    isplitl [H0]; · iexact H0
    iapply (e 1).2
    isplitl [H1]; · iexact H1
    iapply (e 2).2
    isplitl [H2]; · iexact H2
    iapply (e 3).2
    isplitl [H3]; · iexact H3
    iapply (e 4).2
    isplitl [H4]; · iexact H4
    iapply (e 5).2
    isplitl [H5]; · iexact H5
    iexact H6

/-! ## The buffers whole again -/

theorem st_join : iprop((stPt A c 0 c ∗ bigSep Finset.univ fun r => dmaPay A c 0 0 r) ∗ (stPt A c 1 c ∗ bigSep Finset.univ fun r => dmaPay A c 0 1 r))
    ⊢ iprop(∃ f : Vec F S2x512x256 .bf16, wh c cc0_scratch1 f) := by
  have e : ∀ s, iprop(stPt A c s c ∗ bigSep Finset.univ fun r => dmaPay A c 0 s r) = (((c : Thread nD τ).loc cc0_scratch1) ↦[strSet s]{fullShare} stC A c : sProp 𝕄) :=
    fun s => (st_rows A c s).symm
  rw [e 0, e 1]
  refine (st_halves c (stC A c)).2.trans ?_
  exact exists_intro (Φ := fun f : Vec F S2x512x256 .bf16 => (wh c cc0_scratch1 f : sProp 𝕄)) (stC A c)
theorem la_join : iprop((bigSep Finset.univ fun r => dmaPay A c 1 0 r) ∗ (bigSep Finset.univ fun r => dmaPay A c 1 1 r))
    ⊢ iprop(∃ f : Vec F S2x7x64x256 .bf16, wh c cc0_scratch2 f) :=
  (Entails.of_eq (la_slots c (laC A c)).symm).trans (exists_intro (Φ := fun f : Vec F S2x7x64x256 .bf16 => (wh c cc0_scratch2 f : sProp 𝕄)) (laC A c))
theorem se_join : iprop((bigSep Finset.univ fun r => dmaPay A c 2 0 r) ∗ (bigSep Finset.univ fun r => dmaPay A c 2 1 r))
    ⊢ iprop(∃ f : Vec F S2x64x256 .bf16, wh c cc0_scratch3 f) := by
  refine (BIClass.sep_mono (se_shares A c 0).2 (se_shares A c 1).2).trans ?_
  refine (se_halves c (seC A c)).2.trans ?_
  exact exists_intro (Φ := fun f : Vec F S2x64x256 .bf16 => (wh c cc0_scratch3 f : sProp 𝕄)) (seC A c)
theorem ag_join (g : Vec F S2x512x256 .bf16) :
    iprop((agPt c 0 c g ∗ bigSep Finset.univ fun r => dmaPay A c 3 0 r) ∗ (agPt c 1 c g ∗ bigSep Finset.univ fun r => dmaPay A c 3 1 r))
      ⊢ iprop(∃ f : Vec F S2x512x256 .bf16, wh c cc0_scratch4 f) := by
  have e : ∀ s, iprop(agPt c s c g ∗ bigSep Finset.univ fun r => dmaPay A c 3 s r)
      ⊢ (iprop(∃ f : Vec F S2x512x256 .bf16, ((c : Thread nD τ).loc cc0_scratch4) ↦[strSet s]{fullShare} f) : sProp 𝕄) := fun s => by
    have e1 : iprop(agPt c s c g ∗ bigSep Finset.univ fun r => dmaPay A c 3 s r)
        = (bigSep Finset.univ fun t : Dev nD => ((c : Thread nD τ).loc cc0_scratch4) ↦[rowsSet s t]{fullShare} (if t = c then g else agC A) : sProp 𝕄) := by
      rw [bigSep_bk c, if_pos rfl]
      refine congrArg (fun X : sProp 𝕄 => iprop(agPt c s c g ∗ X)) (bigSep_congr fun r _ => ?_)
      rw [if_neg (bk_ne c r)]; rfl
    rw [e1]
    refine (pointsTo_biUnion_join (ℓ := (c : Thread nD τ).loc cc0_scratch4) Finset.univ (rowsSet s) (fun t => if t = c then g else agC A) g
      (fun t _ t' _ h => rows_disj s t t' h)).trans ?_
    rw [rows_cover s]
    iintro ⟨%f, -, H⟩
    iexists f; iexact H
  refine (BIClass.sep_mono (e 0) (e 1)).trans ?_
  iintro ⟨⟨%f, H⟩, ⟨%f', H'⟩⟩
  iexists _
  ihave HH := (pointsTo_join (ℓ := (c : Thread nD τ).loc cc0_scratch4) str_disj) $$ [H H']
  · isplitl [H]; · iexact H
    iexact H'
  rw [str_cover]
  iexact HH
/-- All sixteen blocks written, the result holds its contents. -/
theorem out_join (l : List (Fin 2 × Dev nD)) (hl : ∀ s t, (s, t) ∈ l) : OutS A c l ⊢ wh c cc0_stg5_0 (outC A c) := by
  unfold OutS
  iintro ⟨%f, %hf, H⟩
  have e : f = outC A c := funext fun i => hf _ (hl ⟨(i 1).val / 256, out_half_lt i⟩ ⟨(i 0).val / 64, out_dev_lt i⟩) i (by
    simp only [outSet, Finset.mem_filter, Finset.mem_univ, true_and])
  subst e
  iexact H

end Cert.KernelIdeal.Hand

end
-- ==== Proof.IdAux.lean ====
/-
Small facts the body is read with: what is due at each place, the printed semaphores and offsets, what each store puts down.
-/
module

public import proofs.«01_k».proof.Proof.IdMem

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (c : Dev nD)

/-! ## What is still due at each place of the run -/

abbrev oB (n : ℕ) : List Ob := obBar n ++ (obRs 0 0 ++ (obRs 1 0 ++ (obAg 0 0 ++ obAg 1 0)))
abbrev oR0 (n : ℕ) : List Ob := obRs 0 n ++ (obRs 1 0 ++ (obAg 0 0 ++ obAg 1 0))
abbrev oR1 (n : ℕ) : List Ob := obRs 1 n ++ (obAg 0 0 ++ obAg 1 0)
abbrev oA0 (n : ℕ) : List Ob := obAg 0 n ++ obAg 1 0
abbrev oA1 (n : ℕ) : List Ob := obAg 1 n

/-! ## The transfer cells as the kernel names them, and what a transfer counts -/

theorem sem0 (s : Fin 2) (r : Fin 7) {hin} : ((cc0_scratch5.slice (Rect.unit (s := S2x7) ![s.val, r.val] S1x1.size hin)).squeeze S_ squeezes_S1x1_S_).sem = dsem 0 s r := by
  revert hin; revert s r; decide
theorem sem1 (s : Fin 2) (r : Fin 7) {hin} : ((cc0_scratch6.slice (Rect.unit (s := S2x7) ![s.val, r.val] S1x1.size hin)).squeeze S_ squeezes_S1x1_S_).sem = dsem 1 s r := by
  revert hin; revert s r; decide
theorem sem2 (s : Fin 2) (r : Fin 7) {hin} : ((cc0_scratch7.slice (Rect.unit (s := S2x7) ![s.val, r.val] S1x1.size hin)).squeeze S_ squeezes_S1x1_S_).sem = dsem 2 s r := by
  revert hin; revert s r; decide
theorem sem3 (s : Fin 2) (r : Fin 7) {hin} : ((cc0_scratch8.slice (Rect.unit (s := S2x7) ![s.val, r.val] S1x1.size hin)).squeeze S_ squeezes_S1x1_S_).sem = dsem 3 s r := by
  revert hin; revert s r; decide

theorem credit_st {off : Fin 3 → ℕ} {hin} : ((stM.slice (Rect.unit (s := S2x512x256) off S1x64x256.size hin) (fun _ => rfl)).squeeze S64x256 squeezes_S1x64x256_S64x256).view.dmaCredit = N := rfl
theorem credit_ag {off : Fin 3 → ℕ} {hin} : ((agM.slice (Rect.unit (s := S2x512x256) off S1x64x256.size hin) (fun _ => rfl)).squeeze S64x256 squeezes_S1x64x256_S64x256).view.dmaCredit = N := rfl
theorem credit_se {off : Fin 3 → ℕ} {hin} : ((seM.slice (Rect.unit (s := S2x64x256) off S1x64x256.size hin) (fun _ => rfl)).squeeze S64x256 squeezes_S1x64x256_S64x256).view.dmaCredit = N := rfl
theorem credit_la {off : Fin 4 → ℕ} {hin} : ((laM.slice (Rect.unit (s := S2x7x64x256) off S1x1x64x256.size hin) (fun _ => rfl)).squeeze S64x256 squeezes_S1x1x64x256_S64x256).view.dmaCredit = N := rfl

theorem dst_la (s : Fin 2) (r : Fin 7) {hin} :
    ((laM.slice (Rect.unit (s := S2x7x64x256) ![s.val, r.val, 0, 0] S1x1x64x256.size hin) (fun _ => rfl)).squeeze S64x256 squeezes_S1x1x64x256_S64x256) = slotOf s r := rfl
theorem src_se (s : Fin 2) {hin} :
    ((seM.slice (Rect.unit (s := S2x64x256) ![s.val, 0, 0] S1x64x256.size hin) (fun _ => rfl)).squeeze S64x256 squeezes_S1x64x256_S64x256) = segOf s := rfl

/-! ## The printed offsets -/

theorem off_st0 (r : Fin 7) : k0_off2 c (BitVec.ofNat 32 (1 + r.val)) = ![(0 : Fin 2).val, 64 * (pr c r).val, 0] := by
  refine (k0_off2_eq c r).trans ?_
  have e : (c.val + r.val + 1) % 8 = (pr c r).val := by simp only [pr]; congr 1; omega
  rw [e]; rfl
theorem off_st1 (r : Fin 7) : k0_off3 c (BitVec.ofNat 32 (1 + r.val)) = ![(1 : Fin 2).val, 64 * (pr c r).val, 0] := by
  refine (k0_off3_eq c r).trans ?_
  have e : (c.val + r.val + 1) % 8 = (pr c r).val := by simp only [pr]; congr 1; omega
  rw [e]; rfl
theorem bk_val (r : Fin 7) : ((c.val + 7) - r.val) % 8 = (bk c r).val := by simp only [bk]; congr 1; omega
theorem off_ag0 (r : Fin 7) : k0_off12 c (BitVec.ofNat 32 (1 + r.val)) = ![(0 : Fin 2).val, 64 * (bk c r).val, 0] := by
  refine (k0_off12_eq c r).trans ?_
  rw [bk_val]; rfl
theorem off_ag1 (r : Fin 7) : k0_off14 c (BitVec.ofNat 32 (1 + r.val)) = ![(1 : Fin 2).val, 64 * (bk c r).val, 0] := by
  refine (k0_off14_eq c r).trans ?_
  rw [bk_val]; rfl
theorem off_out0 (r : Fin 7) : k0_off13 c (BitVec.ofNat 32 (1 + r.val)) = ![64 * (bk c r).val, 256 * (0 : Fin 2).val] := by
  refine (k0_off13_eq c r).trans ?_
  rw [bk_val]; rfl
theorem off_out1 (r : Fin 7) : k0_off15 c (BitVec.ofNat 32 (1 + r.val)) = ![64 * (bk c r).val, 256 * (1 : Fin 2).val] := by
  refine (k0_off15_eq c r).trans ?_
  rw [bk_val]; rfl

/-! ## What the stores put down -/

theorem st_at0 : ∀ i ∈ strSet 0, stg0 A c (ix3 (0 : Fin 1) (i 1 : Fin 512) (i 2 : Fin 256)) = stC A c i := fun i hi => by
  simp only [strSet, Finset.mem_filter, Finset.mem_univ, true_and] at hi
  exact (if_pos hi).symm
theorem st_at1 : ∀ i ∈ strSet 1, stg1 A c (ix3 (0 : Fin 1) (i 1 : Fin 512) (i 2 : Fin 256)) = stC A c i := fun i hi => by
  simp only [strSet, Finset.mem_filter, Finset.mem_univ, true_and] at hi
  exact (if_neg (by rw [hi]; exact Nat.one_ne_zero)).symm
theorem se_at0 : ∀ i ∈ segSet 0, seg0 A c (ix3 (0 : Fin 1) (i 1 : Fin 64) (i 2 : Fin 256)) = seC A c i := fun i hi => by
  simp only [segSet, Finset.mem_filter, Finset.mem_univ, true_and] at hi
  exact (if_pos hi).symm
theorem se_at1 : ∀ i ∈ segSet 1, seg1 A c (ix3 (0 : Fin 1) (i 1 : Fin 64) (i 2 : Fin 256)) = seC A c i := fun i hi => by
  simp only [segSet, Finset.mem_filter, Finset.mem_univ, true_and] at hi
  exact (if_neg (by rw [hi]; exact Nat.one_ne_zero)).symm
theorem outB_own (s : Fin 2) : tot A c s = outB A c s c := (if_pos rfl).symm
theorem outB_bk (s : Fin 2) (r : Fin 7) : k0_pay32 (agL A s (bk c r)) = outB A c s (bk c r) := (if_neg (bk_ne c r)).symm

/-- A store of a stream of the accumulator. -/
theorem store_acc (s : Fin 2) {f : Vec F S2x512x256 .f32} {off : Fin 3 → ℕ} {hin} (hoff : off = ![s.val, 0, 0])
    {v : S1x512x256.Idx → Elt F .f32}
    {hx : (accM.access (Rect.unit (s := S2x512x256) off S1x512x256.size hin)).Stores Finset.univ} {hm}
    {α : Type} {Q : α → sProp 𝕄} {k : PUnit → Prog (TpuEff nD τ sig (Elt F) Λ₀ .tc) α} :
    wh c cc0_scratch0 f
      ⊢ iprop((wh c cc0_scratch0 ((accM.access (strR s)).write (Elt F) f v Finset.univ) -∗ WP c (k ⟨⟩) Q)
        -∗ WP c (.op (.store accM (Rect.unit (s := S2x512x256) off S1x512x256.size hin) v Finset.univ hx hm) k) Q) := by
  subst hoff
  exact wp_store 𝒱₀ (c : Thread nD τ) none Set.univ (m := accM) (r := strR s) (Mk := Finset.univ) (w := v) (Finset.subset_univ _)
theorem acc_eq (f : Vec F S2x512x256 .f32) :
    (wh c cc0_scratch0 ((accM.access (strR 1)).write (Elt F) ((accM.access (strR 0)).write (Elt F) f (k0_pay15 (part0 A c)) Finset.univ)
      (k0_pay16 (part1 A c)) Finset.univ) : sProp 𝕄) = wh c cc0_scratch0 (accC A c) := by
  rw [acc_stored]

/-! ## The transfers made ready -/

/-- A stream of the stage, its tokens and the peers' slots make ready the seven scatter transfers; the own rows stay. -/
theorem mk_rs (s : Fin 2) :
    iprop((((c : Thread nD τ).loc cc0_scratch1) ↦[strSet s]{fullShare} stC A c) ∗ (bigSep Finset.univ (tk (F := F) c 0 1 s))
        ∗ (bigSep Finset.univ fun r => iprop(∃ f : Vec F S2x7x64x256 .bf16, slPt (pr c r) s r f)))
      ⊢ iprop(stPt A c s c ∗ pool 0 (rsIn A c s) (wIn (F := F) c 0 s)) := by
  rw [st_rows]
  iintro ⟨⟨Ho, Hs⟩, Ht, Hd⟩
  isplitl [Ho]; · iexact Ho
  iapply (pool_start (rsIn A c s) (wIn (F := F) c 0 s))
  unfold rsIn
  simp only [bigSep_sep']
  isplitl [Hs]; · iexact Hs
  isplitl [Hd]; · iexact Hd
  iexact Ht
/-- A segment, its tokens and the peers' rows make ready the seven gather transfers. -/
theorem mk_ag (s : Fin 2) :
    iprop(sePt A c s fullShare ∗ (bigSep Finset.univ (tk (F := F) c 2 3 s))
        ∗ (bigSep Finset.univ fun r => iprop(∃ f : Vec F S2x512x256 .bf16, agPt (pr c r) s c f)))
      ⊢ pool 0 (agIn A c s) (wIn (F := F) c 2 s) := by
  iintro ⟨Hs, Ht, Hd⟩
  ihave Hs := (se_shares A c s).1 $$ Hs
  iapply (pool_start (agIn A c s) (wIn (F := F) c 2 s))
  unfold agIn
  simp only [bigSep_sep']
  isplitl [Hs]; · iexact Hs
  isplitl [Hd]; · iexact Hd
  iexact Ht
/-- A program that is done. -/
theorem wp_done {α : Type} {Q : α → sProp 𝕄} {a a' : α} (h : a = a') : Q a' ⊢ WP c (.ret a : Prog (TpuEff nD τ sig (Elt F) Λ₀ .tc) α) Q := by
  subst h
  unfold WP
  rw [wp_ret]
  iintro H
  imodintro
  iexact H
theorem pool_next (Φ Ψ Χ : Fin 7 → sProp 𝕄) : pool 7 Φ Ψ ⊢ pool 0 Ψ Χ := (pool_end Φ Ψ).trans (pool_start Ψ Χ)

end Cert.KernelIdeal.Hand

end
-- ==== Proof.IdParts1.lean ====
/-
The parts of the body up to the last scatter transfer.
-/
module

public import proofs.«01_k».proof.Proof.IdAux

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536

variable (A : Ins F) (K : Dev nD × CI → ℕ) (c : Dev nD)
  {h0 : a0M.IsWhole} {h1 : a1M.IsWhole} {h2 : a2M.IsWhole} {h3 : a3M.IsWhole} {h4 : a4M.IsWhole} {h5 : a5M.IsWhole}
  {h6 : accM.IsWhole} {h7 : stM.IsWhole} {h8 : laM.IsWhole} {h9 : seM.IsWhole} {h10 : agM.IsWhole}

/-- Statements of part 1 of the body. -/
theorem run_part1 {Q : (Σ' (d0 : Dev nD) (v2 : BitVec 32) (v3 : Sems sig S_) (v24 : BitVec 32), BitVec 32) → sProp 𝕄} :
    iprop(Inv A K ∗ owesE (F := F) c (oB 0) ∗ pool 0 (barIn (F := F) c) (fun _ => iprop(emp)))
      ⊢ iprop(((owesE (F := F) c (oB 5) ∗ pool 5 (barIn (F := F) c) (fun _ => iprop(emp))) -∗ ∀ (w0 : BitVec 32) (w1 : BitVec 32), Q ⟨c, grp c, (SemArray.scalar (sig.barrier 0 rfl) : Sems sig S_), w0, w1⟩) -∗ WP c (k0_part1 a0M h0 a1M h1 a2M h2 a3M h3 a4M h4 a5M h5 accM h6 stM h7 laM h8 seM h9 agM h10 cc0_scratch5 cc0_scratch6 cc0_scratch7 cc0_scratch8) Q) := by
  rw [k0_part1_eq_skeleton]; unfold k0_part1_skel
  simp only [semSignalWord, semWaitWord, Prog.lift, Prog.bind_op, Prog.bind_ret, Prog.pure_eq_ret, wp_deviceId]
  iintro ⟨#HI, HO, HB⟩ Hk
  iapply (step_signal A K c 0 (oB 1) (d := ⟨k0_dev1 c, k0_dev1_lt c⟩) (Fin.ext (k0_dev1_eq c)) (k' := (1#32 : BitVec 32).toNat) rfl) $$ [HO HB]
  · isplitr; · iexact HI
    isplitl [HO]; · iexact HO
    iexact HB
  iintro ⟨HO, HB⟩
  iapply (step_signal A K c 1 (oB 2) (d := ⟨k0_dev2 c, k0_dev2_lt c⟩) (Fin.ext (k0_dev2_eq c)) (k' := (1#32 : BitVec 32).toNat) rfl) $$ [HO HB]
  · isplitr; · iexact HI
    isplitl [HO]; · iexact HO
    iexact HB
  iintro ⟨HO, HB⟩
  iapply (step_signal A K c 2 (oB 3) (d := ⟨k0_dev3 c, k0_dev3_lt c⟩) (Fin.ext (k0_dev3_eq c)) (k' := (1#32 : BitVec 32).toNat) rfl) $$ [HO HB]
  · isplitr; · iexact HI
    isplitl [HO]; · iexact HO
    iexact HB
  iintro ⟨HO, HB⟩
  iapply (step_signal A K c 3 (oB 4) (d := ⟨k0_dev4 c, k0_dev4_lt c⟩) (Fin.ext (k0_dev4_eq c)) (k' := (1#32 : BitVec 32).toNat) rfl) $$ [HO HB]
  · isplitr; · iexact HI
    isplitl [HO]; · iexact HO
    iexact HB
  iintro ⟨HO, HB⟩
  iapply (step_signal A K c 4 (oB 5) (d := ⟨k0_dev5 c, k0_dev5_lt c⟩) (Fin.ext (k0_dev5_eq c)) (k' := (1#32 : BitVec 32).toNat) rfl) $$ [HO HB]
  · isplitr; · iexact HI
    isplitl [HO]; · iexact HO
    iexact HB
  iintro ⟨HO, HB⟩
  iapply (wp_done c (a' := (⟨c, grp c, (SemArray.scalar (sig.barrier 0 rfl) : Sems sig S_), _, _⟩ : (Σ' (d0 : Dev nD) (v2 : BitVec 32) (v3 : Sems sig S_) (v24 : BitVec 32), BitVec 32))) rfl)
  ihave Hk := Hk $$ [HO HB]
  · isplitl [HO]; · iexact HO
    iexact HB
  iapply Hk

/-- Statements of part 2 of the body. -/
theorem run_part2 {v24 : BitVec 32} {c8_i32_20 : BitVec 32} {Q : (Σ' (v33 : FVec F S512x256 .bf16) (v47 : IVec S512x1 32) (v54 : FVec F S512x1 .f32), FVec F S512x1 .f32) → sProp 𝕄} :
    iprop(Inv A K ∗ owesE (F := F) c (oB 5) ∗ pool 5 (barIn (F := F) c) (fun _ => iprop(emp)) ∗ wh c cc0_stg0_0 (A.x c) ∗ wh c cc0_stg1_0 (A.w c) ∗ wh c cc0_stg2_0 (A.i c))
      ⊢ iprop(((owesE (F := F) c (oR0 0) ∗ pool 7 (barIn (F := F) c) (fun _ => iprop(emp)) ∗ wh c cc0_stg0_0 (A.x c) ∗ wh c cc0_stg1_0 (A.w c) ∗ wh c cc0_stg2_0 (A.i c)) -∗ Q ⟨k0_pay1 (xL A c), k0_pay2 (F := F) (iL A c), k0_pay3 (xL A c) (wL A c) (iL A c), gate A c 0⟩) -∗ WP c (k0_part2 a0M h0 a1M h1 a2M h2 a3M h3 a4M h4 a5M h5 accM h6 stM h7 laM h8 seM h9 agM h10 cc0_scratch5 cc0_scratch6 cc0_scratch7 cc0_scratch8 (c) (grp c) ((SemArray.scalar (sig.barrier 0 rfl) : Sems sig S_)) v24 c8_i32_20) Q) := by
  rw [k0_part2_eq_skeleton]; unfold k0_part2_skel
  simp only [semSignalWord, semWaitWord, Prog.lift, Prog.bind_op, Prog.bind_ret, Prog.pure_eq_ret, wp_deviceId]
  iintro ⟨#HI, HO, HB, HX0, HX1, HX2⟩ Hk
  iapply (step_signal A K c 5 (oB 6) (d := ⟨k0_dev6 c, k0_dev6_lt c⟩) (Fin.ext (k0_dev6_eq c)) (k' := (1#32 : BitVec 32).toNat) rfl) $$ [HO HB]
  · isplitr; · iexact HI
    isplitl [HO]; · iexact HO
    iexact HB
  iintro ⟨HO, HB⟩
  iapply (step_signal A K c 6 (oR0 0) (d := ⟨k0_dev7 c, k0_dev7_lt c⟩) (Fin.ext (k0_dev7_eq c)) (k' := (1#32 : BitVec 32).toNat) rfl) $$ [HO HB]
  · isplitr; · iexact HI
    isplitl [HO]; · iexact HO
    iexact HB
  iintro ⟨HO, HB⟩
  iapply (load_dead c (m := a0M)) $$ HX0
  iintro HX0
  iapply (load_dead c (m := a1M)) $$ HX1
  iintro HX1
  iapply (load_dead c (m := a2M)) $$ HX2
  iintro HX2
  iapply (wp_done c (a' := (⟨k0_pay1 (xL A c), k0_pay2 (F := F) (iL A c), k0_pay3 (xL A c) (wL A c) (iL A c), gate A c 0⟩ : (Σ' (v33 : FVec F S512x256 .bf16) (v47 : IVec S512x1 32) (v54 : FVec F S512x1 .f32), FVec F S512x1 .f32))) rfl)
  ihave Hk := Hk $$ [HO HB HX0 HX1 HX2]
  · isplitl [HO]; · iexact HO
    isplitl [HB]; · iexact HB
    isplitl [HX0]; · iexact HX0
    isplitl [HX1]; · iexact HX1
    iexact HX2
  iapply Hk

/-- Statements of part 3 of the body. -/
theorem run_part3 {Q : (Σ' (v66 : FVec F S512x1 .f32) (v72 : FVec F S512x1 .f32) (v78 : FVec F S512x1 .f32) (v79 : BitVec 32) (v85 : BitVec 32) (v91 : BitVec 32), BitVec 32) → sProp 𝕄} :
    iprop(Inv A K)
      ⊢ iprop(((emp) -∗ ∀ (w0 : BitVec 32) (w1 : BitVec 32) (w2 : BitVec 32) (w3 : BitVec 32), Q ⟨gate A c 1, gate A c 2, gate A c 3, w0, w1, w2, w3⟩) -∗ WP c (k0_part3 a0M h0 a1M h1 a2M h2 a3M h3 a4M h4 a5M h5 accM h6 stM h7 laM h8 seM h9 agM h10 cc0_scratch5 cc0_scratch6 cc0_scratch7 cc0_scratch8 (grp c) (k0_pay2 (F := F) (iL A c)) (k0_pay3 (xL A c) (wL A c) (iL A c))) Q) := by
  rw [k0_part3_eq_skeleton]; unfold k0_part3_skel
  simp only [semSignalWord, semWaitWord, Prog.lift, Prog.bind_op, Prog.bind_ret, Prog.pure_eq_ret, wp_deviceId]
  iintro #HI Hk
  iapply (wp_done c (a' := (⟨gate A c 1, gate A c 2, gate A c 3, _, _, _, _⟩ : (Σ' (v66 : FVec F S512x1 .f32) (v72 : FVec F S512x1 .f32) (v78 : FVec F S512x1 .f32) (v79 : BitVec 32) (v85 : BitVec 32) (v91 : BitVec 32), BitVec 32))) rfl)
  ihave Hk := Hk $$ []
  · iempintro
  iapply Hk

/-- Statements of part 4 of the body. -/
theorem run_part4 {v96 : BitVec 32} {Q : (Σ' (v97 : BitVec 32) (v103 : BitVec 32) (v109 : BitVec 32) (v115 : BitVec 32) (v121 : BitVec 32) (v127 : BitVec 32) (v128 : BitVec 32), BitVec 32) → sProp 𝕄} :
    iprop(Inv A K)
      ⊢ iprop(((emp) -∗ ∀ (w0 : BitVec 32) (w1 : BitVec 32) (w2 : BitVec 32) (w3 : BitVec 32) (w4 : BitVec 32) (w5 : BitVec 32) (w6 : BitVec 32) (w7 : BitVec 32), Q ⟨w0, w1, w2, w3, w4, w5, w6, w7⟩) -∗ WP c (k0_part4 a0M h0 a1M h1 a2M h2 a3M h3 a4M h4 a5M h5 accM h6 stM h7 laM h8 seM h9 agM h10 cc0_scratch5 cc0_scratch6 cc0_scratch7 cc0_scratch8 (grp c) v96) Q) := by
  rw [k0_part4_eq_skeleton]; unfold k0_part4_skel
  simp only [semSignalWord, semWaitWord, Prog.lift, Prog.bind_op, Prog.bind_ret, Prog.pure_eq_ret, wp_deviceId]
  iintro #HI Hk
  iapply (wp_done c rfl)
  ihave Hk := Hk $$ []
  · iempintro
  iapply Hk

/-- Statements of part 5 of the body. -/
theorem run_part5 {v128 : BitVec 32} {c8_i32_90 : BitVec 32} {Q : (Σ' (v133 : BitVec 32) (v139 : BitVec 32) (v145 : BitVec 32) (v151 : BitVec 32) (v157 : BitVec 32), BitVec 32) → sProp 𝕄} :
    iprop(Inv A K)
      ⊢ iprop(((emp) -∗ ∀ (w0 : BitVec 32) (w1 : BitVec 32) (w2 : BitVec 32) (w3 : BitVec 32) (w4 : BitVec 32) (w5 : BitVec 32), Q ⟨w0, w1, w2, w3, w4, w5⟩) -∗ WP c (k0_part5 a0M h0 a1M h1 a2M h2 a3M h3 a4M h4 a5M h5 accM h6 stM h7 laM h8 seM h9 agM h10 cc0_scratch5 cc0_scratch6 cc0_scratch7 cc0_scratch8 (grp c) v128 c8_i32_90) Q) := by
  rw [k0_part5_eq_skeleton]; unfold k0_part5_skel
  simp only [semSignalWord, semWaitWord, Prog.lift, Prog.bind_op, Prog.bind_ret, Prog.pure_eq_ret, wp_deviceId]
  iintro #HI Hk
  iapply (wp_done c rfl)
  ihave Hk := Hk $$ []
  · iempintro
  iapply Hk

/-- Statements of part 6 of the body. -/
theorem run_part6 {v79 : BitVec 32} {c7_i32_117 : BitVec 32} {Q : (Σ' (v163 : BitVec 32) (v166 : BitVec 32) (v169 : BitVec 32) (v172 : BitVec 32) (v175 : BitVec 32) (v178 : BitVec 32) (v181 : BitVec 32) (v184 : BitVec 32) (v187 : BitVec 32) (v190 : BitVec 32) (v193 : BitVec 32) (v196 : BitVec 32), BitVec 32) → sProp 𝕄} :
    iprop(Inv A K)
      ⊢ iprop(((emp) -∗ ∀ (w0 : BitVec 32) (w1 : BitVec 32) (w2 : BitVec 32) (w3 : BitVec 32) (w4 : BitVec 32) (w5 : BitVec 32) (w6 : BitVec 32) (w7 : BitVec 32) (w8 : BitVec 32) (w9 : BitVec 32) (w10 : BitVec 32) (w11 : BitVec 32) (w12 : BitVec 32), Q ⟨w0, w1, w2, w3, w4, w5, w6, w7, w8, w9, w10, w11, w12⟩) -∗ WP c (k0_part6 a0M h0 a1M h1 a2M h2 a3M h3 a4M h4 a5M h5 accM h6 stM h7 laM h8 seM h9 agM h10 cc0_scratch5 cc0_scratch6 cc0_scratch7 cc0_scratch8 (grp c) v79 c7_i32_117) Q) := by
  rw [k0_part6_eq_skeleton]; unfold k0_part6_skel
  simp only [semSignalWord, semWaitWord, Prog.lift, Prog.bind_op, Prog.bind_ret, Prog.pure_eq_ret, wp_deviceId]
  iintro #HI Hk
  iapply (wp_done c rfl)
  ihave Hk := Hk $$ []
  · iempintro
  iapply Hk

/-- Statements of part 7 of the body. -/
theorem run_part7 (fs : Vec F S2x512x256 .bf16) {v79 : BitVec 32} {c5_i32_141 : BitVec 32} {Q : (Σ' (v199 : BitVec 32) (v202 : BitVec 32) (v205 : BitVec 32) (v230 : FVec F S512x256 .f32) (v231 : FVec F S512x256 .bf16), Vec F S1x512x256 .bf16) → sProp 𝕄} :
    iprop(Inv A K ∗ wh c cc0_stg3_0 (A.e c) ∗ (((c : Thread nD τ).loc cc0_scratch1) ↦[strSet 0]{fullShare} fs))
      ⊢ iprop(((wh c cc0_stg3_0 (A.e c) ∗ (((c : Thread nD τ).loc cc0_scratch1) ↦[strSet 0]{fullShare} fs)) -∗ ∀ (w0 : BitVec 32) (w1 : BitVec 32) (w2 : BitVec 32) (v : Vec F S1x512x256 .bf16), Q ⟨w0, w1, w2, part0 A c, part0h A c, v⟩) -∗ WP c (k0_part7 a0M h0 a1M h1 a2M h2 a3M h3 a4M h4 a5M h5 accM h6 stM h7 laM h8 seM h9 agM h10 cc0_scratch5 cc0_scratch6 cc0_scratch7 cc0_scratch8 (grp c) (k0_pay1 (xL A c)) (gate A c 0) (gate A c 1) (gate A c 2) (gate A c 3) v79 c5_i32_141) Q) := by
  rw [k0_part7_eq_skeleton]; unfold k0_part7_skel
  simp only [semSignalWord, semWaitWord, Prog.lift, Prog.bind_op, Prog.bind_ret, Prog.pure_eq_ret, wp_deviceId]
  iintro ⟨#HI, HX3, HSt0⟩ Hk
  iapply (load_e A c 0 0 (off := ![0, 0, 0]) rfl) $$ HX3
  iintro HX3
  iapply (load_e A c 1 0 (off := ![1, 0, 0]) rfl) $$ HX3
  iintro HX3
  iapply (load_e A c 2 0 (off := ![2, 0, 0]) rfl) $$ HX3
  iintro HX3
  iapply (load_e A c 3 0 (off := ![3, 0, 0]) rfl) $$ HX3
  iintro HX3
  iapply (load_st c 0 (off := ![0, 0, 0]) rfl) $$ HSt0
  iintro HSt0 %_
  iapply (wp_done c (a' := (⟨_, _, _, part0 A c, part0h A c, _⟩ : (Σ' (v199 : BitVec 32) (v202 : BitVec 32) (v205 : BitVec 32) (v230 : FVec F S512x256 .f32) (v231 : FVec F S512x256 .bf16), Vec F S1x512x256 .bf16))) rfl)
  ihave Hk := Hk $$ [HX3 HSt0]
  · isplitl [HX3]; · iexact HX3
    iexact HSt0
  iapply Hk

/-- Statements of part 8 of the body. -/
theorem run_part8 (fs : Vec F S2x512x256 .bf16) {v85 : BitVec 32} {v91 : BitVec 32} {v232 : Vec F S1x512x256 .bf16} {Q : (PUnit) → sProp 𝕄} :
    iprop(Inv A K ∗ (((c : Thread nD τ).loc cc0_scratch1) ↦[strSet 0]{fullShare} fs) ∗ owesE (F := F) c (oR0 0) ∗ cred (tallyAt (barCell c) () 7) ∗ atPos ER (barCell c) 0 ∅ 0 ∗ bigSep Finset.univ (tk (F := F) c 0 1 0))
      ⊢ iprop(((owesE (F := F) c (oR0 1) ∗ semVal (barCell c) 0 ∗ (bigSep Finset.univ fun r => iprop(∃ f : Vec F S2x7x64x256 .bf16, slPt (pr c r) 1 r f)) ∗ (bigSep Finset.univ fun r => iprop(∃ f : Vec F S2x512x256 .bf16, agPt (pr c r) 0 c f)) ∗ (bigSep Finset.univ fun r => iprop(∃ f : Vec F S2x512x256 .bf16, agPt (pr c r) 1 c f)) ∗ stPt A c 0 c ∗ pool 1 (rsIn A c 0) (wIn (F := F) c 0 0)) -∗ Q ⟨⟩) -∗ WP c (k0_part8 a0M h0 a1M h1 a2M h2 a3M h3 a4M h4 a5M h5 accM h6 stM h7 laM h8 seM h9 agM h10 cc0_scratch5 cc0_scratch6 cc0_scratch7 cc0_scratch8 (c) ((SemArray.scalar (sig.barrier 0 rfl) : Sems sig S_)) v85 v91 (part0h A c) v232) Q) := by
  rw [k0_part8_eq_skeleton]; unfold k0_part8_skel
  simp only [semSignalWord, semWaitWord, Prog.lift, Prog.bind_op, Prog.bind_ret, Prog.pure_eq_ret, wp_deviceId]
  iintro ⟨#HI, HSt0, HO, HC, HP, HT0⟩ Hk
  iapply (store_st A c 0 (off := ![0, 0, 0]) rfl (st_at0 A c)) $$ HSt0
  iintro HSt0
  iapply (step_bar A K c (oR0 0) (by decide) (k' := (7#32 : BitVec 32).toNat) rfl) $$ [HO HC HP]
  · isplitr; · iexact HI
    isplitl [HO]; · iexact HO
    isplitl [HC]; · iexact HC
    iexact HP
  iintro ⟨HO, HZ, HGiv⟩
  ihave HGiv := (got_all c) $$ HGiv
  icases HGiv with ⟨⟨HS0, HS1⟩, HA0, HA1⟩
  ihave HM := (mk_rs A c 0) $$ [HSt0 HT0 HS0]
  · isplitl [HSt0]; · iexact HSt0
    isplitl [HT0]; · iexact HT0
    iexact HS0
  icases HM with ⟨HQ0, HR0⟩
  iapply (step_rs A K c 0 0 (oR0 1) (off := k0_off2 c 1#32) (off_st0 c 0) (d := ⟨k0_dev8 c, k0_dev8_lt c⟩) (Fin.ext (k0_dev8_eq c)) (sem0 0 0) (sem1 0 0) (dst_la 0 0)) $$ [HO HR0]
  · isplitr; · iexact HI
    isplitl [HO]; · iexact HO
    iexact HR0
  iintro ⟨HO, HR0⟩
  iapply (wp_done c rfl)
  ihave Hk := Hk $$ [HO HZ HS1 HA0 HA1 HQ0 HR0]
  · isplitl [HO]; · iexact HO
    isplitl [HZ]; · iexact HZ
    isplitl [HS1]; · iexact HS1
    isplitl [HA0]; · iexact HA0
    isplitl [HA1]; · iexact HA1
    isplitl [HQ0]; · iexact HQ0
    iexact HR0
  iapply Hk

/-- Statements of part 9 of the body. -/
theorem run_part9 {v97 : BitVec 32} {v103 : BitVec 32} {Q : (PUnit) → sProp 𝕄} :
    iprop(Inv A K ∗ pool 1 (rsIn A c 0) (wIn (F := F) c 0 0) ∗ owesE (F := F) c (oR0 1))
      ⊢ iprop(((pool 3 (rsIn A c 0) (wIn (F := F) c 0 0) ∗ owesE (F := F) c (oR0 3)) -∗ Q ⟨⟩) -∗ WP c (k0_part9 a0M h0 a1M h1 a2M h2 a3M h3 a4M h4 a5M h5 accM h6 stM h7 laM h8 seM h9 agM h10 cc0_scratch5 cc0_scratch6 cc0_scratch7 cc0_scratch8 (c) v97 v103) Q) := by
  rw [k0_part9_eq_skeleton]; unfold k0_part9_skel
  simp only [semSignalWord, semWaitWord, Prog.lift, Prog.bind_op, Prog.bind_ret, Prog.pure_eq_ret, wp_deviceId]
  iintro ⟨#HI, HR0, HO⟩ Hk
  iapply (step_rs A K c 0 1 (oR0 2) (off := k0_off2 c 2#32) (off_st0 c 1) (d := ⟨k0_dev9 c, k0_dev9_lt c⟩) (Fin.ext (k0_dev9_eq c)) (sem0 0 1) (sem1 0 1) (dst_la 0 1)) $$ [HO HR0]
  · isplitr; · iexact HI
    isplitl [HO]; · iexact HO
    iexact HR0
  iintro ⟨HO, HR0⟩
  iapply (step_rs A K c 0 2 (oR0 3) (off := k0_off2 c 3#32) (off_st0 c 2) (d := ⟨k0_dev10 c, k0_dev10_lt c⟩) (Fin.ext (k0_dev10_eq c)) (sem0 0 2) (sem1 0 2) (dst_la 0 2)) $$ [HO HR0]
  · isplitr; · iexact HI
    isplitl [HO]; · iexact HO
    iexact HR0
  iintro ⟨HO, HR0⟩
  iapply (wp_done c rfl)
  ihave Hk := Hk $$ [HR0 HO]
  · isplitl [HR0]; · iexact HR0
    iexact HO
  iapply Hk

/-- Statements of part 10 of the body. -/
theorem run_part10 {v109 : BitVec 32} {v115 : BitVec 32} {Q : (PUnit) → sProp 𝕄} :
    iprop(Inv A K ∗ pool 3 (rsIn A c 0) (wIn (F := F) c 0 0) ∗ owesE (F := F) c (oR0 3))
      ⊢ iprop(((pool 5 (rsIn A c 0) (wIn (F := F) c 0 0) ∗ owesE (F := F) c (oR0 5)) -∗ Q ⟨⟩) -∗ WP c (k0_part10 a0M h0 a1M h1 a2M h2 a3M h3 a4M h4 a5M h5 accM h6 stM h7 laM h8 seM h9 agM h10 cc0_scratch5 cc0_scratch6 cc0_scratch7 cc0_scratch8 (c) v109 v115) Q) := by
  rw [k0_part10_eq_skeleton]; unfold k0_part10_skel
  simp only [semSignalWord, semWaitWord, Prog.lift, Prog.bind_op, Prog.bind_ret, Prog.pure_eq_ret, wp_deviceId]
  iintro ⟨#HI, HR0, HO⟩ Hk
  iapply (step_rs A K c 0 3 (oR0 4) (off := k0_off2 c 4#32) (off_st0 c 3) (d := ⟨k0_dev11 c, k0_dev11_lt c⟩) (Fin.ext (k0_dev11_eq c)) (sem0 0 3) (sem1 0 3) (dst_la 0 3)) $$ [HO HR0]
  · isplitr; · iexact HI
    isplitl [HO]; · iexact HO
    iexact HR0
  iintro ⟨HO, HR0⟩
  iapply (step_rs A K c 0 4 (oR0 5) (off := k0_off2 c 5#32) (off_st0 c 4) (d := ⟨k0_dev12 c, k0_dev12_lt c⟩) (Fin.ext (k0_dev12_eq c)) (sem0 0 4) (sem1 0 4) (dst_la 0 4)) $$ [HO HR0]
  · isplitr; · iexact HI
    isplitl [HO]; · iexact HO
    iexact HR0
  iintro ⟨HO, HR0⟩
  iapply (wp_done c rfl)
  ihave Hk := Hk $$ [HR0 HO]
  · isplitl [HR0]; · iexact HR0
    iexact HO
  iapply Hk

/-- Statements of part 11 of the body. -/
theorem run_part11 {v121 : BitVec 32} {Q : (Σ' (v332 : FVec F S512x256 .f32), FVec F S256x256 .bf16) → sProp 𝕄} :
    iprop(Inv A K ∗ pool 5 (rsIn A c 0) (wIn (F := F) c 0 0) ∗ owesE (F := F) c (oR0 5) ∗ wh c cc0_stg3_0 (A.e c))
      ⊢ iprop(((pool 7 (rsIn A c 0) (wIn (F := F) c 0 0) ∗ owesE (F := F) c (oR1 0) ∗ wh c cc0_stg3_0 (A.e c)) -∗ Q ⟨k0_pay11 (k0_pay1 (xL A c)) (gate A c 0) (eL A c 0 1), k0_pay12 (eL A c 1 1)⟩) -∗ WP c (k0_part11 a0M h0 a1M h1 a2M h2 a3M h3 a4M h4 a5M h5 accM h6 stM h7 laM h8 seM h9 agM h10 cc0_scratch5 cc0_scratch6 cc0_scratch7 cc0_scratch8 (c) (k0_pay1 (xL A c)) (gate A c 0) v121) Q) := by
  rw [k0_part11_eq_skeleton]; unfold k0_part11_skel
  simp only [semSignalWord, semWaitWord, Prog.lift, Prog.bind_op, Prog.bind_ret, Prog.pure_eq_ret, wp_deviceId]
  iintro ⟨#HI, HR0, HO, HX3⟩ Hk
  iapply (step_rs A K c 0 5 (oR0 6) (off := k0_off2 c 6#32) (off_st0 c 5) (d := ⟨k0_dev13 c, k0_dev13_lt c⟩) (Fin.ext (k0_dev13_eq c)) (sem0 0 5) (sem1 0 5) (dst_la 0 5)) $$ [HO HR0]
  · isplitr; · iexact HI
    isplitl [HO]; · iexact HO
    iexact HR0
  iintro ⟨HO, HR0⟩
  iapply (step_rs A K c 0 6 (oR1 0) (off := k0_off2 c 7#32) (off_st0 c 6) (d := ⟨k0_dev14 c, k0_dev14_lt c⟩) (Fin.ext (k0_dev14_eq c)) (sem0 0 6) (sem1 0 6) (dst_la 0 6)) $$ [HO HR0]
  · isplitr; · iexact HI
    isplitl [HO]; · iexact HO
    iexact HR0
  iintro ⟨HO, HR0⟩
  iapply (load_e A c 0 1 (off := ![0, 0, 256]) rfl) $$ HX3
  iintro HX3
  iapply (load_e A c 1 1 (off := ![1, 0, 256]) rfl) $$ HX3
  iintro HX3
  iapply (wp_done c (a' := (⟨k0_pay11 (k0_pay1 (xL A c)) (gate A c 0) (eL A c 0 1), k0_pay12 (eL A c 1 1)⟩ : (Σ' (v332 : FVec F S512x256 .f32), FVec F S256x256 .bf16))) rfl)
  ihave Hk := Hk $$ [HR0 HO HX3]
  · isplitl [HR0]; · iexact HR0
    isplitl [HO]; · iexact HO
    iexact HX3
  iapply Hk

/-- Statements of part 12 of the body. -/
theorem run_part12 (fs : Vec F S2x512x256 .bf16) {v127 : BitVec 32} {Q : (FVec F S512x256 .f32) → sProp 𝕄} :
    iprop(Inv A K ∗ wh c cc0_stg3_0 (A.e c) ∗ (((c : Thread nD τ).loc cc0_scratch1) ↦[strSet 1]{fullShare} fs) ∗ bigSep Finset.univ (tk (F := F) c 0 1 1) ∗ (bigSep Finset.univ fun r => iprop(∃ f : Vec F S2x7x64x256 .bf16, slPt (pr c r) 1 r f)))
      ⊢ iprop(((wh c cc0_stg3_0 (A.e c) ∗ stPt A c 1 c ∗ pool 0 (rsIn A c 1) (wIn (F := F) c 0 1)) -∗ Q (part1 A c)) -∗ WP c (k0_part12 a0M h0 a1M h1 a2M h2 a3M h3 a4M h4 a5M h5 accM h6 stM h7 laM h8 seM h9 agM h10 cc0_scratch5 cc0_scratch6 cc0_scratch7 cc0_scratch8 (k0_pay1 (xL A c)) (gate A c 1) (gate A c 2) (gate A c 3) v127 (k0_pay11 (k0_pay1 (xL A c)) (gate A c 0) (eL A c 0 1)) (k0_pay12 (eL A c 1 1))) Q) := by
  rw [k0_part12_eq_skeleton]; unfold k0_part12_skel
  simp only [semSignalWord, semWaitWord, Prog.lift, Prog.bind_op, Prog.bind_ret, Prog.pure_eq_ret, wp_deviceId]
  iintro ⟨#HI, HX3, HSt1, HT1, HS1⟩ Hk
  iapply (load_e A c 2 1 (off := ![2, 0, 256]) rfl) $$ HX3
  iintro HX3
  iapply (load_e A c 3 1 (off := ![3, 0, 256]) rfl) $$ HX3
  iintro HX3
  iapply (load_st c 1 (off := ![1, 0, 0]) rfl) $$ HSt1
  iintro HSt1 %_
  iapply (store_st A c 1 (off := ![1, 0, 0]) rfl (st_at1 A c)) $$ HSt1
  iintro HSt1
  ihave HM := (mk_rs A c 1) $$ [HSt1 HT1 HS1]
  · isplitl [HSt1]; · iexact HSt1
    isplitl [HT1]; · iexact HT1
    iexact HS1
  icases HM with ⟨HQ1, HR1⟩
  iapply (wp_done c (a' := ((part1 A c) : (FVec F S512x256 .f32))) rfl)
  ihave Hk := Hk $$ [HX3 HQ1 HR1]
  · isplitl [HX3]; · iexact HX3
    isplitl [HQ1]; · iexact HQ1
    iexact HR1
  iapply Hk

/-- Statements of part 13 of the body. -/
theorem run_part13 {v133 : BitVec 32} {v139 : BitVec 32} {Q : (PUnit) → sProp 𝕄} :
    iprop(Inv A K ∗ pool 0 (rsIn A c 1) (wIn (F := F) c 0 1) ∗ owesE (F := F) c (oR1 0))
      ⊢ iprop(((pool 2 (rsIn A c 1) (wIn (F := F) c 0 1) ∗ owesE (F := F) c (oR1 2)) -∗ Q ⟨⟩) -∗ WP c (k0_part13 a0M h0 a1M h1 a2M h2 a3M h3 a4M h4 a5M h5 accM h6 stM h7 laM h8 seM h9 agM h10 cc0_scratch5 cc0_scratch6 cc0_scratch7 cc0_scratch8 (c) v133 v139) Q) := by
  rw [k0_part13_eq_skeleton]; unfold k0_part13_skel
  simp only [semSignalWord, semWaitWord, Prog.lift, Prog.bind_op, Prog.bind_ret, Prog.pure_eq_ret, wp_deviceId]
  iintro ⟨#HI, HR1, HO⟩ Hk
  iapply (step_rs A K c 1 0 (oR1 1) (off := k0_off3 c 1#32) (off_st1 c 0) (d := ⟨k0_dev15 c, k0_dev15_lt c⟩) (Fin.ext (k0_dev15_eq c)) (sem0 1 0) (sem1 1 0) (dst_la 1 0)) $$ [HO HR1]
  · isplitr; · iexact HI
    isplitl [HO]; · iexact HO
    iexact HR1
  iintro ⟨HO, HR1⟩
  iapply (step_rs A K c 1 1 (oR1 2) (off := k0_off3 c 2#32) (off_st1 c 1) (d := ⟨k0_dev16 c, k0_dev16_lt c⟩) (Fin.ext (k0_dev16_eq c)) (sem0 1 1) (sem1 1 1) (dst_la 1 1)) $$ [HO HR1]
  · isplitr; · iexact HI
    isplitl [HO]; · iexact HO
    iexact HR1
  iintro ⟨HO, HR1⟩
  iapply (wp_done c rfl)
  ihave Hk := Hk $$ [HR1 HO]
  · isplitl [HR1]; · iexact HR1
    iexact HO
  iapply Hk

/-- Statements of part 14 of the body. -/
theorem run_part14 {v145 : BitVec 32} {v151 : BitVec 32} {Q : (PUnit) → sProp 𝕄} :
    iprop(Inv A K ∗ pool 2 (rsIn A c 1) (wIn (F := F) c 0 1) ∗ owesE (F := F) c (oR1 2))
      ⊢ iprop(((pool 4 (rsIn A c 1) (wIn (F := F) c 0 1) ∗ owesE (F := F) c (oR1 4)) -∗ Q ⟨⟩) -∗ WP c (k0_part14 a0M h0 a1M h1 a2M h2 a3M h3 a4M h4 a5M h5 accM h6 stM h7 laM h8 seM h9 agM h10 cc0_scratch5 cc0_scratch6 cc0_scratch7 cc0_scratch8 (c) v145 v151) Q) := by
  rw [k0_part14_eq_skeleton]; unfold k0_part14_skel
  simp only [semSignalWord, semWaitWord, Prog.lift, Prog.bind_op, Prog.bind_ret, Prog.pure_eq_ret, wp_deviceId]
  iintro ⟨#HI, HR1, HO⟩ Hk
  iapply (step_rs A K c 1 2 (oR1 3) (off := k0_off3 c 3#32) (off_st1 c 2) (d := ⟨k0_dev17 c, k0_dev17_lt c⟩) (Fin.ext (k0_dev17_eq c)) (sem0 1 2) (sem1 1 2) (dst_la 1 2)) $$ [HO HR1]
  · isplitr; · iexact HI
    isplitl [HO]; · iexact HO
    iexact HR1
  iintro ⟨HO, HR1⟩
  iapply (step_rs A K c 1 3 (oR1 4) (off := k0_off3 c 4#32) (off_st1 c 3) (d := ⟨k0_dev18 c, k0_dev18_lt c⟩) (Fin.ext (k0_dev18_eq c)) (sem0 1 3) (sem1 1 3) (dst_la 1 3)) $$ [HO HR1]
  · isplitr; · iexact HI
    isplitl [HO]; · iexact HO
    iexact HR1
  iintro ⟨HO, HR1⟩
  iapply (wp_done c rfl)
  ihave Hk := Hk $$ [HR1 HO]
  · isplitl [HR1]; · iexact HR1
    iexact HO
  iapply Hk

/-- Statements of part 15 of the body. -/
theorem run_part15 {v157 : BitVec 32} {v163 : BitVec 32} {Q : (PUnit) → sProp 𝕄} :
    iprop(Inv A K ∗ pool 4 (rsIn A c 1) (wIn (F := F) c 0 1) ∗ owesE (F := F) c (oR1 4))
      ⊢ iprop(((pool 6 (rsIn A c 1) (wIn (F := F) c 0 1) ∗ owesE (F := F) c (oR1 6)) -∗ Q ⟨⟩) -∗ WP c (k0_part15 a0M h0 a1M h1 a2M h2 a3M h3 a4M h4 a5M h5 accM h6 stM h7 laM h8 seM h9 agM h10 cc0_scratch5 cc0_scratch6 cc0_scratch7 cc0_scratch8 (c) v157 v163) Q) := by
  rw [k0_part15_eq_skeleton]; unfold k0_part15_skel
  simp only [semSignalWord, semWaitWord, Prog.lift, Prog.bind_op, Prog.bind_ret, Prog.pure_eq_ret, wp_deviceId]
  iintro ⟨#HI, HR1, HO⟩ Hk
  iapply (step_rs A K c 1 4 (oR1 5) (off := k0_off3 c 5#32) (off_st1 c 4) (d := ⟨k0_dev19 c, k0_dev19_lt c⟩) (Fin.ext (k0_dev19_eq c)) (sem0 1 4) (sem1 1 4) (dst_la 1 4)) $$ [HO HR1]
  · isplitr; · iexact HI
    isplitl [HO]; · iexact HO
    iexact HR1
  iintro ⟨HO, HR1⟩
  iapply (step_rs A K c 1 5 (oR1 6) (off := k0_off3 c 6#32) (off_st1 c 5) (d := ⟨k0_dev20 c, k0_dev20_lt c⟩) (Fin.ext (k0_dev20_eq c)) (sem0 1 5) (sem1 1 5) (dst_la 1 5)) $$ [HO HR1]
  · isplitr; · iexact HI
    isplitl [HO]; · iexact HO
    iexact HR1
  iintro ⟨HO, HR1⟩
  iapply (wp_done c rfl)
  ihave Hk := Hk $$ [HR1 HO]
  · isplitl [HR1]; · iexact HR1
    iexact HO
  iapply Hk

/-- Statements of part 16 of the body. -/
theorem run_part16 (fa : Vec F S2x512x256 .f32) {v79 : BitVec 32} {v85 : BitVec 32} {Q : (Σ' (v458 : FVec F S64x512 .f32), FVec F S64x256 .f32) → sProp 𝕄} :
    iprop(Inv A K ∗ pool 6 (rsIn A c 1) (wIn (F := F) c 0 1) ∗ owesE (F := F) c (oR1 6) ∗ wh c cc0_scratch0 fa ∗ wh c cc0_stg0_0 (A.x c) ∗ wh c cc0_stg4_0 (A.h c))
      ⊢ iprop(((pool 7 (rsIn A c 1) (wIn (F := F) c 0 1) ∗ owesE (F := F) c (oA0 0) ∗ wh c cc0_scratch0 (accC A c) ∗ wh c cc0_stg0_0 (A.x c) ∗ wh c cc0_stg4_0 (A.h c)) -∗ Q ⟨shared A c, tot0a A c⟩) -∗ WP c (k0_part16 a0M h0 a1M h1 a2M h2 a3M h3 a4M h4 a5M h5 accM h6 stM h7 laM h8 seM h9 agM h10 cc0_scratch5 cc0_scratch6 cc0_scratch7 cc0_scratch8 (c) v79 v85 (part0 A c) (part1 A c)) Q) := by
  rw [k0_part16_eq_skeleton]; unfold k0_part16_skel
  simp only [semSignalWord, semWaitWord, Prog.lift, Prog.bind_op, Prog.bind_ret, Prog.pure_eq_ret, wp_deviceId]
  iintro ⟨#HI, HR1, HO, HAcc, HX0, HX4⟩ Hk
  iapply (step_rs A K c 1 6 (oA0 0) (off := k0_off3 c 7#32) (off_st1 c 6) (d := ⟨k0_dev21 c, k0_dev21_lt c⟩) (Fin.ext (k0_dev21_eq c)) (sem0 1 6) (sem1 1 6) (dst_la 1 6)) $$ [HO HR1]
  · isplitr; · iexact HI
    isplitl [HO]; · iexact HO
    iexact HR1
  iintro ⟨HO, HR1⟩
  iapply (load_dead c (m := accM)) $$ HAcc
  iintro HAcc
  iapply (store_acc c 0 (off := ![0, 0, 0]) rfl) $$ HAcc
  iintro HAcc
  iapply (load_dead c (m := accM)) $$ HAcc
  iintro HAcc
  iapply (store_acc c 1 (off := ![1, 0, 0]) rfl) $$ HAcc
  iintro HAcc
  ihave HAcc := (Entails.of_eq (acc_eq A c fa)) $$ HAcc
  iapply (load_xr A c (off := k0_off4 c) (k0_off4_eq c)) $$ HX0
  iintro HX0
  iapply (load_dead c (m := a4M)) $$ HX4
  iintro HX4
  iapply (load_acc A c 0 (off := k0_off5 c) (k0_off5_eq c)) $$ HAcc
  iintro HAcc
  iapply (wp_done c (a' := (⟨shared A c, tot0a A c⟩ : (Σ' (v458 : FVec F S64x512 .f32), FVec F S64x256 .f32))) rfl)
  ihave Hk := Hk $$ [HR1 HO HAcc HX0 HX4]
  · isplitl [HR1]; · iexact HR1
    isplitl [HO]; · iexact HO
    isplitl [HAcc]; · iexact HAcc
    isplitl [HX0]; · iexact HX0
    iexact HX4
  iapply Hk

end Cert.KernelIdeal.Hand

end
-- ==== Proof.IdParts2.lean ====
/-
The parts of the body from the first arrival to the last gather transfer.
-/
module

public import proofs.«01_k».proof.Proof.IdAux

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536

variable (A : Ins F) (K : Dev nD × CI → ℕ) (c : Dev nD)
  {h0 : a0M.IsWhole} {h1 : a1M.IsWhole} {h2 : a2M.IsWhole} {h3 : a3M.IsWhole} {h4 : a4M.IsWhole} {h5 : a5M.IsWhole}
  {h6 : accM.IsWhole} {h7 : stM.IsWhole} {h8 : laM.IsWhole} {h9 : seM.IsWhole} {h10 : agM.IsWhole}

/-- Statements of part 17 of the body. -/
theorem run_part17 {v91 : BitVec 32} {Q : (FVec F S64x256 .f32) → sProp 𝕄} :
    iprop(Inv A K ∗ pool 0 (wIn (F := F) c 1 0) (wOut A c 1 0) ∗ owesE (F := F) c (oA0 0))
      ⊢ iprop(((pool 2 (wIn (F := F) c 1 0) (wOut A c 1 0) ∗ owesE (F := F) c (oA0 0)) -∗ Q (tot0b A c)) -∗ WP c (k0_part17 a0M h0 a1M h1 a2M h2 a3M h3 a4M h4 a5M h5 accM h6 stM h7 laM h8 seM h9 agM h10 cc0_scratch5 cc0_scratch6 cc0_scratch7 cc0_scratch8 (c) v91 (tot0a A c)) Q) := by
  rw [k0_part17_eq_skeleton]; unfold k0_part17_skel
  simp only [semSignalWord, semWaitWord, Prog.lift, Prog.bind_op, Prog.bind_ret, Prog.pure_eq_ret, wp_deviceId]
  iintro ⟨#HI, HW10, HO⟩ Hk
  iapply (step_wait A K c 1 0 0 (oA0 0) (by decide) (sem1 0 0) credit_la) $$ [HO HW10]
  · isplitr; · iexact HI
    isplitl [HO]; · iexact HO
    iexact HW10
  iintro ⟨HO, HW10⟩
  iapply (load_slot A c 0 0 ((0 : Fin 7).val + 1) (by decide) (off := ![0, 0, 0, 0]) rfl) $$ HW10
  iintro HW10
  iapply (step_wait A K c 1 0 1 (oA0 0) (by decide) (sem1 0 1) credit_la) $$ [HO HW10]
  · isplitr; · iexact HI
    isplitl [HO]; · iexact HO
    iexact HW10
  iintro ⟨HO, HW10⟩
  iapply (load_slot A c 0 1 ((1 : Fin 7).val + 1) (by decide) (off := ![0, 1, 0, 0]) rfl) $$ HW10
  iintro HW10
  iapply (wp_done c (a' := ((tot0b A c) : (FVec F S64x256 .f32))) rfl)
  ihave Hk := Hk $$ [HW10 HO]
  · isplitl [HW10]; · iexact HW10
    iexact HO
  iapply Hk

/-- Statements of part 18 of the body. -/
theorem run_part18 {v97 : BitVec 32} {v103 : BitVec 32} {Q : (FVec F S64x256 .f32) → sProp 𝕄} :
    iprop(Inv A K ∗ pool 2 (wIn (F := F) c 1 0) (wOut A c 1 0) ∗ owesE (F := F) c (oA0 0))
      ⊢ iprop(((pool 3 (wIn (F := F) c 1 0) (wOut A c 1 0) ∗ owesE (F := F) c (oA0 0)) -∗ Q (tot0c A c)) -∗ WP c (k0_part18 a0M h0 a1M h1 a2M h2 a3M h3 a4M h4 a5M h5 accM h6 stM h7 laM h8 seM h9 agM h10 cc0_scratch5 cc0_scratch6 cc0_scratch7 cc0_scratch8 (c) v97 v103 (tot0b A c)) Q) := by
  rw [k0_part18_eq_skeleton]; unfold k0_part18_skel
  simp only [semSignalWord, semWaitWord, Prog.lift, Prog.bind_op, Prog.bind_ret, Prog.pure_eq_ret, wp_deviceId]
  iintro ⟨#HI, HW10, HO⟩ Hk
  iapply (step_wait A K c 1 0 2 (oA0 0) (by decide) (sem1 0 2) credit_la) $$ [HO HW10]
  · isplitr; · iexact HI
    isplitl [HO]; · iexact HO
    iexact HW10
  iintro ⟨HO, HW10⟩
  iapply (load_slot A c 0 2 ((2 : Fin 7).val + 1) (by decide) (off := ![0, 2, 0, 0]) rfl) $$ HW10
  iintro HW10
  iapply (wp_done c (a' := ((tot0c A c) : (FVec F S64x256 .f32))) rfl)
  ihave Hk := Hk $$ [HW10 HO]
  · isplitl [HW10]; · iexact HW10
    iexact HO
  iapply Hk

/-- Statements of part 19 of the body. -/
theorem run_part19 {v109 : BitVec 32} {v115 : BitVec 32} {Q : (FVec F S64x256 .f32) → sProp 𝕄} :
    iprop(Inv A K ∗ pool 3 (wIn (F := F) c 1 0) (wOut A c 1 0) ∗ owesE (F := F) c (oA0 0))
      ⊢ iprop(((pool 5 (wIn (F := F) c 1 0) (wOut A c 1 0) ∗ owesE (F := F) c (oA0 0)) -∗ Q (tot0d A c)) -∗ WP c (k0_part19 a0M h0 a1M h1 a2M h2 a3M h3 a4M h4 a5M h5 accM h6 stM h7 laM h8 seM h9 agM h10 cc0_scratch5 cc0_scratch6 cc0_scratch7 cc0_scratch8 (c) v109 v115 (tot0c A c)) Q) := by
  rw [k0_part19_eq_skeleton]; unfold k0_part19_skel
  simp only [semSignalWord, semWaitWord, Prog.lift, Prog.bind_op, Prog.bind_ret, Prog.pure_eq_ret, wp_deviceId]
  iintro ⟨#HI, HW10, HO⟩ Hk
  iapply (step_wait A K c 1 0 3 (oA0 0) (by decide) (sem1 0 3) credit_la) $$ [HO HW10]
  · isplitr; · iexact HI
    isplitl [HO]; · iexact HO
    iexact HW10
  iintro ⟨HO, HW10⟩
  iapply (load_slot A c 0 3 ((3 : Fin 7).val + 1) (by decide) (off := ![0, 3, 0, 0]) rfl) $$ HW10
  iintro HW10
  iapply (step_wait A K c 1 0 4 (oA0 0) (by decide) (sem1 0 4) credit_la) $$ [HO HW10]
  · isplitr; · iexact HI
    isplitl [HO]; · iexact HO
    iexact HW10
  iintro ⟨HO, HW10⟩
  iapply (load_slot A c 0 4 ((4 : Fin 7).val + 1) (by decide) (off := ![0, 4, 0, 0]) rfl) $$ HW10
  iintro HW10
  iapply (wp_done c (a' := ((tot0d A c) : (FVec F S64x256 .f32))) rfl)
  ihave Hk := Hk $$ [HW10 HO]
  · isplitl [HW10]; · iexact HW10
    iexact HO
  iapply Hk

/-- Statements of part 20 of the body. -/
theorem run_part20 {v121 : BitVec 32} {Q : (Σ' (v554 : FVec F S64x256 .f32), FVec F S64x256 .bf16) → sProp 𝕄} :
    iprop(Inv A K ∗ pool 5 (wIn (F := F) c 1 0) (wOut A c 1 0) ∗ owesE (F := F) c (oA0 0))
      ⊢ iprop(((pool 7 (wIn (F := F) c 1 0) (wOut A c 1 0) ∗ owesE (F := F) c (oA0 0)) -∗ Q ⟨tot0e A c, tot0f A c⟩) -∗ WP c (k0_part20 a0M h0 a1M h1 a2M h2 a3M h3 a4M h4 a5M h5 accM h6 stM h7 laM h8 seM h9 agM h10 cc0_scratch5 cc0_scratch6 cc0_scratch7 cc0_scratch8 (c) v121 (tot0d A c)) Q) := by
  rw [k0_part20_eq_skeleton]; unfold k0_part20_skel
  simp only [semSignalWord, semWaitWord, Prog.lift, Prog.bind_op, Prog.bind_ret, Prog.pure_eq_ret, wp_deviceId]
  iintro ⟨#HI, HW10, HO⟩ Hk
  iapply (step_wait A K c 1 0 5 (oA0 0) (by decide) (sem1 0 5) credit_la) $$ [HO HW10]
  · isplitr; · iexact HI
    isplitl [HO]; · iexact HO
    iexact HW10
  iintro ⟨HO, HW10⟩
  iapply (load_slot A c 0 5 ((5 : Fin 7).val + 1) (by decide) (off := ![0, 5, 0, 0]) rfl) $$ HW10
  iintro HW10
  iapply (step_wait A K c 1 0 6 (oA0 0) (by decide) (sem1 0 6) credit_la) $$ [HO HW10]
  · isplitr; · iexact HI
    isplitl [HO]; · iexact HO
    iexact HW10
  iintro ⟨HO, HW10⟩
  iapply (load_slot A c 0 6 ((6 : Fin 7).val + 1) (by decide) (off := ![0, 6, 0, 0]) rfl) $$ HW10
  iintro HW10
  iapply (wp_done c (a' := (⟨tot0e A c, tot0f A c⟩ : (Σ' (v554 : FVec F S64x256 .f32), FVec F S64x256 .bf16))) rfl)
  ihave Hk := Hk $$ [HW10 HO]
  · isplitl [HW10]; · iexact HW10
    iexact HO
  iapply Hk

/-- Statements of part 21 of the body. -/
theorem run_part21 (fe : Vec F S2x64x256 .bf16) {v166 : BitVec 32} {v169 : BitVec 32} {Q : (FVec F S64x256 .f32) → sProp 𝕄} :
    iprop(Inv A K ∗ (((c : Thread nD τ).loc cc0_scratch3) ↦[segSet 0]{fullShare} fe) ∗ bigSep Finset.univ (tk (F := F) c 2 3 0) ∗ (bigSep Finset.univ fun r => iprop(∃ f : Vec F S2x512x256 .bf16, agPt (pr c r) 0 c f)) ∗ owesE (F := F) c (oA0 0))
      ⊢ iprop(((owesE (F := F) c (oA0 2) ∗ pool 2 (agIn A c 0) (wIn (F := F) c 2 0)) -∗ Q (tot A c 0)) -∗ WP c (k0_part21 a0M h0 a1M h1 a2M h2 a3M h3 a4M h4 a5M h5 accM h6 stM h7 laM h8 seM h9 agM h10 cc0_scratch5 cc0_scratch6 cc0_scratch7 cc0_scratch8 (c) v166 v169 (tot0e A c) (tot0f A c)) Q) := by
  rw [k0_part21_eq_skeleton]; unfold k0_part21_skel
  simp only [semSignalWord, semWaitWord, Prog.lift, Prog.bind_op, Prog.bind_ret, Prog.pure_eq_ret, wp_deviceId]
  iintro ⟨#HI, HSe0, HU0, HA0, HO⟩ Hk
  iapply (load_se c 0 (off := ![0, 0, 0]) rfl) $$ HSe0
  iintro HSe0 %_
  iapply (store_se A c 0 (off := ![0, 0, 0]) rfl (se_at0 A c)) $$ HSe0
  iintro HSe0
  ihave HG0 := (mk_ag A c 0) $$ [HSe0 HU0 HA0]
  · isplitl [HSe0]; · iexact HSe0
    isplitl [HU0]; · iexact HU0
    iexact HA0
  iapply (step_ag A K c 0 0 (oA0 1) (off := k0_off7 c) (k0_off7_eq c) (d := ⟨k0_dev22 c, k0_dev22_lt c⟩) (Fin.ext (k0_dev22_eq c)) (sem2 0 0) (sem3 0 0) (src_se 0)) $$ [HO HG0]
  · isplitr; · iexact HI
    isplitl [HO]; · iexact HO
    iexact HG0
  iintro ⟨HO, HG0⟩
  iapply (step_ag A K c 0 1 (oA0 2) (off := k0_off7 c) (k0_off7_eq c) (d := ⟨k0_dev23 c, k0_dev23_lt c⟩) (Fin.ext (k0_dev23_eq c)) (sem2 0 1) (sem3 0 1) (src_se 0)) $$ [HO HG0]
  · isplitr; · iexact HI
    isplitl [HO]; · iexact HO
    iexact HG0
  iintro ⟨HO, HG0⟩
  iapply (wp_done c (a' := ((tot A c 0) : (FVec F S64x256 .f32))) rfl)
  ihave Hk := Hk $$ [HO HG0]
  · isplitl [HO]; · iexact HO
    iexact HG0
  iapply Hk

/-- Statements of part 22 of the body. -/
theorem run_part22 {v172 : BitVec 32} {v175 : BitVec 32} {v178 : BitVec 32} {Q : (PUnit) → sProp 𝕄} :
    iprop(Inv A K ∗ pool 2 (agIn A c 0) (wIn (F := F) c 2 0) ∗ owesE (F := F) c (oA0 2))
      ⊢ iprop(((pool 4 (agIn A c 0) (wIn (F := F) c 2 0) ∗ owesE (F := F) c (oA0 4)) -∗ Q ⟨⟩) -∗ WP c (k0_part22 a0M h0 a1M h1 a2M h2 a3M h3 a4M h4 a5M h5 accM h6 stM h7 laM h8 seM h9 agM h10 cc0_scratch5 cc0_scratch6 cc0_scratch7 cc0_scratch8 (c) v172 v175 v178) Q) := by
  rw [k0_part22_eq_skeleton]; unfold k0_part22_skel
  simp only [semSignalWord, semWaitWord, Prog.lift, Prog.bind_op, Prog.bind_ret, Prog.pure_eq_ret, wp_deviceId]
  iintro ⟨#HI, HG0, HO⟩ Hk
  iapply (step_ag A K c 0 2 (oA0 3) (off := k0_off7 c) (k0_off7_eq c) (d := ⟨k0_dev24 c, k0_dev24_lt c⟩) (Fin.ext (k0_dev24_eq c)) (sem2 0 2) (sem3 0 2) (src_se 0)) $$ [HO HG0]
  · isplitr; · iexact HI
    isplitl [HO]; · iexact HO
    iexact HG0
  iintro ⟨HO, HG0⟩
  iapply (step_ag A K c 0 3 (oA0 4) (off := k0_off7 c) (k0_off7_eq c) (d := ⟨k0_dev25 c, k0_dev25_lt c⟩) (Fin.ext (k0_dev25_eq c)) (sem2 0 3) (sem3 0 3) (src_se 0)) $$ [HO HG0]
  · isplitr; · iexact HI
    isplitl [HO]; · iexact HO
    iexact HG0
  iintro ⟨HO, HG0⟩
  iapply (wp_done c rfl)
  ihave Hk := Hk $$ [HG0 HO]
  · isplitl [HG0]; · iexact HG0
    iexact HO
  iapply Hk

/-- Statements of part 23 of the body. -/
theorem run_part23 {v181 : BitVec 32} {v184 : BitVec 32} {Q : (PUnit) → sProp 𝕄} :
    iprop(Inv A K ∗ pool 4 (agIn A c 0) (wIn (F := F) c 2 0) ∗ owesE (F := F) c (oA0 4))
      ⊢ iprop(((pool 6 (agIn A c 0) (wIn (F := F) c 2 0) ∗ owesE (F := F) c (oA0 6)) -∗ Q ⟨⟩) -∗ WP c (k0_part23 a0M h0 a1M h1 a2M h2 a3M h3 a4M h4 a5M h5 accM h6 stM h7 laM h8 seM h9 agM h10 cc0_scratch5 cc0_scratch6 cc0_scratch7 cc0_scratch8 (c) v181 v184) Q) := by
  rw [k0_part23_eq_skeleton]; unfold k0_part23_skel
  simp only [semSignalWord, semWaitWord, Prog.lift, Prog.bind_op, Prog.bind_ret, Prog.pure_eq_ret, wp_deviceId]
  iintro ⟨#HI, HG0, HO⟩ Hk
  iapply (step_ag A K c 0 4 (oA0 5) (off := k0_off7 c) (k0_off7_eq c) (d := ⟨k0_dev26 c, k0_dev26_lt c⟩) (Fin.ext (k0_dev26_eq c)) (sem2 0 4) (sem3 0 4) (src_se 0)) $$ [HO HG0]
  · isplitr; · iexact HI
    isplitl [HO]; · iexact HO
    iexact HG0
  iintro ⟨HO, HG0⟩
  iapply (step_ag A K c 0 5 (oA0 6) (off := k0_off7 c) (k0_off7_eq c) (d := ⟨k0_dev27 c, k0_dev27_lt c⟩) (Fin.ext (k0_dev27_eq c)) (sem2 0 5) (sem3 0 5) (src_se 0)) $$ [HO HG0]
  · isplitr; · iexact HI
    isplitl [HO]; · iexact HO
    iexact HG0
  iintro ⟨HO, HG0⟩
  iapply (wp_done c rfl)
  ihave Hk := Hk $$ [HG0 HO]
  · isplitl [HG0]; · iexact HG0
    iexact HO
  iapply Hk

/-- Statements of part 24 of the body. -/
theorem run_part24 (l : List (Fin 2 × Dev nD)) {v79 : BitVec 32} {v127 : BitVec 32} {Q : (FVec F S64x256 .f32) → sProp 𝕄} :
    iprop(Inv A K ∗ pool 6 (agIn A c 0) (wIn (F := F) c 2 0) ∗ owesE (F := F) c (oA0 6) ∗ OutS A c l ∗ wh c cc0_scratch0 (accC A c) ∗ pool 0 (wIn (F := F) c 1 1) (wOut A c 1 1))
      ⊢ iprop(((pool 7 (agIn A c 0) (wIn (F := F) c 2 0) ∗ owesE (F := F) c (oA1 0) ∗ OutS A c ((0, c) :: l) ∗ wh c cc0_scratch0 (accC A c) ∗ pool 1 (wIn (F := F) c 1 1) (wOut A c 1 1)) -∗ Q (tot1a A c)) -∗ WP c (k0_part24 a0M h0 a1M h1 a2M h2 a3M h3 a4M h4 a5M h5 accM h6 stM h7 laM h8 seM h9 agM h10 cc0_scratch5 cc0_scratch6 cc0_scratch7 cc0_scratch8 (c) v79 v127 (shared A c) (tot A c 0)) Q) := by
  rw [k0_part24_eq_skeleton]; unfold k0_part24_skel
  simp only [semSignalWord, semWaitWord, Prog.lift, Prog.bind_op, Prog.bind_ret, Prog.pure_eq_ret, wp_deviceId]
  iintro ⟨#HI, HG0, HO, HOut, HAcc, HW11⟩ Hk
  iapply (step_ag A K c 0 6 (oA1 0) (off := k0_off7 c) (k0_off7_eq c) (d := ⟨k0_dev28 c, k0_dev28_lt c⟩) (Fin.ext (k0_dev28_eq c)) (sem2 0 6) (sem3 0 6) (src_se 0)) $$ [HO HG0]
  · isplitr; · iexact HI
    isplitl [HO]; · iexact HO
    iexact HG0
  iintro ⟨HO, HG0⟩
  iapply (load_out A c _) $$ HOut
  iintro HOut %_
  iapply (store_out A c l 0 c (off := k0_off8 c) (k0_off8_eq c) (outB_own A c 0)) $$ HOut
  iintro HOut
  iapply (load_acc A c 1 (off := k0_off9 c) (k0_off9_eq c)) $$ HAcc
  iintro HAcc
  iapply (step_wait A K c 1 1 0 (oA1 0) (by decide) (sem1 1 0) credit_la) $$ [HO HW11]
  · isplitr; · iexact HI
    isplitl [HO]; · iexact HO
    iexact HW11
  iintro ⟨HO, HW11⟩
  iapply (load_slot A c 1 0 ((0 : Fin 7).val + 1) (by decide) (off := ![1, 0, 0, 0]) rfl) $$ HW11
  iintro HW11
  iapply (wp_done c (a' := ((tot1a A c) : (FVec F S64x256 .f32))) rfl)
  ihave Hk := Hk $$ [HG0 HO HOut HAcc HW11]
  · isplitl [HG0]; · iexact HG0
    isplitl [HO]; · iexact HO
    isplitl [HOut]; · iexact HOut
    isplitl [HAcc]; · iexact HAcc
    iexact HW11
  iapply Hk

/-- Statements of part 25 of the body. -/
theorem run_part25 {v133 : BitVec 32} {v139 : BitVec 32} {Q : (FVec F S64x256 .f32) → sProp 𝕄} :
    iprop(Inv A K ∗ pool 1 (wIn (F := F) c 1 1) (wOut A c 1 1) ∗ owesE (F := F) c (oA1 0))
      ⊢ iprop(((pool 2 (wIn (F := F) c 1 1) (wOut A c 1 1) ∗ owesE (F := F) c (oA1 0)) -∗ Q (tot1b A c)) -∗ WP c (k0_part25 a0M h0 a1M h1 a2M h2 a3M h3 a4M h4 a5M h5 accM h6 stM h7 laM h8 seM h9 agM h10 cc0_scratch5 cc0_scratch6 cc0_scratch7 cc0_scratch8 (c) v133 v139 (tot1a A c)) Q) := by
  rw [k0_part25_eq_skeleton]; unfold k0_part25_skel
  simp only [semSignalWord, semWaitWord, Prog.lift, Prog.bind_op, Prog.bind_ret, Prog.pure_eq_ret, wp_deviceId]
  iintro ⟨#HI, HW11, HO⟩ Hk
  iapply (step_wait A K c 1 1 1 (oA1 0) (by decide) (sem1 1 1) credit_la) $$ [HO HW11]
  · isplitr; · iexact HI
    isplitl [HO]; · iexact HO
    iexact HW11
  iintro ⟨HO, HW11⟩
  iapply (load_slot A c 1 1 ((1 : Fin 7).val + 1) (by decide) (off := ![1, 1, 0, 0]) rfl) $$ HW11
  iintro HW11
  iapply (wp_done c (a' := ((tot1b A c) : (FVec F S64x256 .f32))) rfl)
  ihave Hk := Hk $$ [HW11 HO]
  · isplitl [HW11]; · iexact HW11
    iexact HO
  iapply Hk

/-- Statements of part 26 of the body. -/
theorem run_part26 {v145 : BitVec 32} {v151 : BitVec 32} {Q : (FVec F S64x256 .f32) → sProp 𝕄} :
    iprop(Inv A K ∗ pool 2 (wIn (F := F) c 1 1) (wOut A c 1 1) ∗ owesE (F := F) c (oA1 0))
      ⊢ iprop(((pool 4 (wIn (F := F) c 1 1) (wOut A c 1 1) ∗ owesE (F := F) c (oA1 0)) -∗ Q (tot1c A c)) -∗ WP c (k0_part26 a0M h0 a1M h1 a2M h2 a3M h3 a4M h4 a5M h5 accM h6 stM h7 laM h8 seM h9 agM h10 cc0_scratch5 cc0_scratch6 cc0_scratch7 cc0_scratch8 (c) v145 v151 (tot1b A c)) Q) := by
  rw [k0_part26_eq_skeleton]; unfold k0_part26_skel
  simp only [semSignalWord, semWaitWord, Prog.lift, Prog.bind_op, Prog.bind_ret, Prog.pure_eq_ret, wp_deviceId]
  iintro ⟨#HI, HW11, HO⟩ Hk
  iapply (step_wait A K c 1 1 2 (oA1 0) (by decide) (sem1 1 2) credit_la) $$ [HO HW11]
  · isplitr; · iexact HI
    isplitl [HO]; · iexact HO
    iexact HW11
  iintro ⟨HO, HW11⟩
  iapply (load_slot A c 1 2 ((2 : Fin 7).val + 1) (by decide) (off := ![1, 2, 0, 0]) rfl) $$ HW11
  iintro HW11
  iapply (step_wait A K c 1 1 3 (oA1 0) (by decide) (sem1 1 3) credit_la) $$ [HO HW11]
  · isplitr; · iexact HI
    isplitl [HO]; · iexact HO
    iexact HW11
  iintro ⟨HO, HW11⟩
  iapply (load_slot A c 1 3 ((3 : Fin 7).val + 1) (by decide) (off := ![1, 3, 0, 0]) rfl) $$ HW11
  iintro HW11
  iapply (wp_done c (a' := ((tot1c A c) : (FVec F S64x256 .f32))) rfl)
  ihave Hk := Hk $$ [HW11 HO]
  · isplitl [HW11]; · iexact HW11
    iexact HO
  iapply Hk

/-- Statements of part 27 of the body. -/
theorem run_part27 {v157 : BitVec 32} {Q : (FVec F S64x256 .f32) → sProp 𝕄} :
    iprop(Inv A K ∗ pool 4 (wIn (F := F) c 1 1) (wOut A c 1 1) ∗ owesE (F := F) c (oA1 0))
      ⊢ iprop(((pool 6 (wIn (F := F) c 1 1) (wOut A c 1 1) ∗ owesE (F := F) c (oA1 0)) -∗ Q (tot1d A c)) -∗ WP c (k0_part27 a0M h0 a1M h1 a2M h2 a3M h3 a4M h4 a5M h5 accM h6 stM h7 laM h8 seM h9 agM h10 cc0_scratch5 cc0_scratch6 cc0_scratch7 cc0_scratch8 (c) v157 (tot1c A c)) Q) := by
  rw [k0_part27_eq_skeleton]; unfold k0_part27_skel
  simp only [semSignalWord, semWaitWord, Prog.lift, Prog.bind_op, Prog.bind_ret, Prog.pure_eq_ret, wp_deviceId]
  iintro ⟨#HI, HW11, HO⟩ Hk
  iapply (step_wait A K c 1 1 4 (oA1 0) (by decide) (sem1 1 4) credit_la) $$ [HO HW11]
  · isplitr; · iexact HI
    isplitl [HO]; · iexact HO
    iexact HW11
  iintro ⟨HO, HW11⟩
  iapply (load_slot A c 1 4 ((4 : Fin 7).val + 1) (by decide) (off := ![1, 4, 0, 0]) rfl) $$ HW11
  iintro HW11
  iapply (step_wait A K c 1 1 5 (oA1 0) (by decide) (sem1 1 5) credit_la) $$ [HO HW11]
  · isplitr; · iexact HI
    isplitl [HO]; · iexact HO
    iexact HW11
  iintro ⟨HO, HW11⟩
  iapply (load_slot A c 1 5 ((5 : Fin 7).val + 1) (by decide) (off := ![1, 5, 0, 0]) rfl) $$ HW11
  iintro HW11
  iapply (wp_done c (a' := ((tot1d A c) : (FVec F S64x256 .f32))) rfl)
  ihave Hk := Hk $$ [HW11 HO]
  · isplitl [HW11]; · iexact HW11
    iexact HO
  iapply Hk

/-- Statements of part 28 of the body. -/
theorem run_part28 (fe : Vec F S2x64x256 .bf16) {v163 : BitVec 32} {v187 : BitVec 32} {Q : (FVec F S64x256 .f32) → sProp 𝕄} :
    iprop(Inv A K ∗ pool 6 (wIn (F := F) c 1 1) (wOut A c 1 1) ∗ owesE (F := F) c (oA1 0) ∗ (((c : Thread nD τ).loc cc0_scratch3) ↦[segSet 1]{fullShare} fe) ∗ bigSep Finset.univ (tk (F := F) c 2 3 1) ∗ (bigSep Finset.univ fun r => iprop(∃ f : Vec F S2x512x256 .bf16, agPt (pr c r) 1 c f)))
      ⊢ iprop(((pool 7 (wIn (F := F) c 1 1) (wOut A c 1 1) ∗ owesE (F := F) c (oA1 0) ∗ pool 0 (agIn A c 1) (wIn (F := F) c 2 1)) -∗ Q (tot A c 1)) -∗ WP c (k0_part28 a0M h0 a1M h1 a2M h2 a3M h3 a4M h4 a5M h5 accM h6 stM h7 laM h8 seM h9 agM h10 cc0_scratch5 cc0_scratch6 cc0_scratch7 cc0_scratch8 (c) v163 v187 (tot1d A c)) Q) := by
  rw [k0_part28_eq_skeleton]; unfold k0_part28_skel
  simp only [semSignalWord, semWaitWord, Prog.lift, Prog.bind_op, Prog.bind_ret, Prog.pure_eq_ret, wp_deviceId]
  iintro ⟨#HI, HW11, HO, HSe1, HU1, HA1⟩ Hk
  iapply (step_wait A K c 1 1 6 (oA1 0) (by decide) (sem1 1 6) credit_la) $$ [HO HW11]
  · isplitr; · iexact HI
    isplitl [HO]; · iexact HO
    iexact HW11
  iintro ⟨HO, HW11⟩
  iapply (load_slot A c 1 6 ((6 : Fin 7).val + 1) (by decide) (off := ![1, 6, 0, 0]) rfl) $$ HW11
  iintro HW11
  iapply (load_se c 1 (off := ![1, 0, 0]) rfl) $$ HSe1
  iintro HSe1 %_
  iapply (store_se A c 1 (off := ![1, 0, 0]) rfl (se_at1 A c)) $$ HSe1
  iintro HSe1
  ihave HG1 := (mk_ag A c 1) $$ [HSe1 HU1 HA1]
  · isplitl [HSe1]; · iexact HSe1
    isplitl [HU1]; · iexact HU1
    iexact HA1
  iapply (wp_done c (a' := ((tot A c 1) : (FVec F S64x256 .f32))) rfl)
  ihave Hk := Hk $$ [HW11 HO HG1]
  · isplitl [HW11]; · iexact HW11
    isplitl [HO]; · iexact HO
    iexact HG1
  iapply Hk

/-- Statements of part 29 of the body. -/
theorem run_part29 {v190 : BitVec 32} {v193 : BitVec 32} {Q : (PUnit) → sProp 𝕄} :
    iprop(Inv A K ∗ pool 0 (agIn A c 1) (wIn (F := F) c 2 1) ∗ owesE (F := F) c (oA1 0))
      ⊢ iprop(((pool 3 (agIn A c 1) (wIn (F := F) c 2 1) ∗ owesE (F := F) c (oA1 3)) -∗ Q ⟨⟩) -∗ WP c (k0_part29 a0M h0 a1M h1 a2M h2 a3M h3 a4M h4 a5M h5 accM h6 stM h7 laM h8 seM h9 agM h10 cc0_scratch5 cc0_scratch6 cc0_scratch7 cc0_scratch8 (c) v190 v193) Q) := by
  rw [k0_part29_eq_skeleton]; unfold k0_part29_skel
  simp only [semSignalWord, semWaitWord, Prog.lift, Prog.bind_op, Prog.bind_ret, Prog.pure_eq_ret, wp_deviceId]
  iintro ⟨#HI, HG1, HO⟩ Hk
  iapply (step_ag A K c 1 0 (oA1 1) (off := k0_off10 c) (k0_off10_eq c) (d := ⟨k0_dev29 c, k0_dev29_lt c⟩) (Fin.ext (k0_dev29_eq c)) (sem2 1 0) (sem3 1 0) (src_se 1)) $$ [HO HG1]
  · isplitr; · iexact HI
    isplitl [HO]; · iexact HO
    iexact HG1
  iintro ⟨HO, HG1⟩
  iapply (step_ag A K c 1 1 (oA1 2) (off := k0_off10 c) (k0_off10_eq c) (d := ⟨k0_dev30 c, k0_dev30_lt c⟩) (Fin.ext (k0_dev30_eq c)) (sem2 1 1) (sem3 1 1) (src_se 1)) $$ [HO HG1]
  · isplitr; · iexact HI
    isplitl [HO]; · iexact HO
    iexact HG1
  iintro ⟨HO, HG1⟩
  iapply (step_ag A K c 1 2 (oA1 3) (off := k0_off10 c) (k0_off10_eq c) (d := ⟨k0_dev31 c, k0_dev31_lt c⟩) (Fin.ext (k0_dev31_eq c)) (sem2 1 2) (sem3 1 2) (src_se 1)) $$ [HO HG1]
  · isplitr; · iexact HI
    isplitl [HO]; · iexact HO
    iexact HG1
  iintro ⟨HO, HG1⟩
  iapply (wp_done c rfl)
  ihave Hk := Hk $$ [HG1 HO]
  · isplitl [HG1]; · iexact HG1
    iexact HO
  iapply Hk

/-- Statements of part 30 of the body. -/
theorem run_part30 {v196 : BitVec 32} {v199 : BitVec 32} {v202 : BitVec 32} {Q : (PUnit) → sProp 𝕄} :
    iprop(Inv A K ∗ pool 3 (agIn A c 1) (wIn (F := F) c 2 1) ∗ owesE (F := F) c (oA1 3))
      ⊢ iprop(((pool 5 (agIn A c 1) (wIn (F := F) c 2 1) ∗ owesE (F := F) c (oA1 5)) -∗ Q ⟨⟩) -∗ WP c (k0_part30 a0M h0 a1M h1 a2M h2 a3M h3 a4M h4 a5M h5 accM h6 stM h7 laM h8 seM h9 agM h10 cc0_scratch5 cc0_scratch6 cc0_scratch7 cc0_scratch8 (c) v196 v199 v202) Q) := by
  rw [k0_part30_eq_skeleton]; unfold k0_part30_skel
  simp only [semSignalWord, semWaitWord, Prog.lift, Prog.bind_op, Prog.bind_ret, Prog.pure_eq_ret, wp_deviceId]
  iintro ⟨#HI, HG1, HO⟩ Hk
  iapply (step_ag A K c 1 3 (oA1 4) (off := k0_off10 c) (k0_off10_eq c) (d := ⟨k0_dev32 c, k0_dev32_lt c⟩) (Fin.ext (k0_dev32_eq c)) (sem2 1 3) (sem3 1 3) (src_se 1)) $$ [HO HG1]
  · isplitr; · iexact HI
    isplitl [HO]; · iexact HO
    iexact HG1
  iintro ⟨HO, HG1⟩
  iapply (step_ag A K c 1 4 (oA1 5) (off := k0_off10 c) (k0_off10_eq c) (d := ⟨k0_dev33 c, k0_dev33_lt c⟩) (Fin.ext (k0_dev33_eq c)) (sem2 1 4) (sem3 1 4) (src_se 1)) $$ [HO HG1]
  · isplitr; · iexact HI
    isplitl [HO]; · iexact HO
    iexact HG1
  iintro ⟨HO, HG1⟩
  iapply (wp_done c rfl)
  ihave Hk := Hk $$ [HG1 HO]
  · isplitl [HG1]; · iexact HG1
    iexact HO
  iapply Hk

/-- Statements of part 31 of the body. -/
theorem run_part31 (l : List (Fin 2 × Dev nD)) {v79 : BitVec 32} {v166 : BitVec 32} {v205 : BitVec 32} {Q : (Σ' (v851 : BitVec 32) (v852 : BitVec 32), BitVec 32) → sProp 𝕄} :
    iprop(Inv A K ∗ pool 5 (agIn A c 1) (wIn (F := F) c 2 1) ∗ owesE (F := F) c (oA1 5) ∗ OutS A c l)
      ⊢ iprop(((pool 7 (agIn A c 1) (wIn (F := F) c 2 1) ∗ owesE (F := F) c (oA1 7) ∗ OutS A c ((1, c) :: l)) -∗ ∀ (w0 : BitVec 32) (w1 : BitVec 32) (w2 : BitVec 32), Q ⟨w0, w1, w2⟩) -∗ WP c (k0_part31 a0M h0 a1M h1 a2M h2 a3M h3 a4M h4 a5M h5 accM h6 stM h7 laM h8 seM h9 agM h10 cc0_scratch5 cc0_scratch6 cc0_scratch7 cc0_scratch8 (c) (grp c) v79 v166 v205 (tot A c 1)) Q) := by
  rw [k0_part31_eq_skeleton]; unfold k0_part31_skel
  simp only [semSignalWord, semWaitWord, Prog.lift, Prog.bind_op, Prog.bind_ret, Prog.pure_eq_ret, wp_deviceId]
  iintro ⟨#HI, HG1, HO, HOut⟩ Hk
  iapply (step_ag A K c 1 5 (oA1 6) (off := k0_off10 c) (k0_off10_eq c) (d := ⟨k0_dev34 c, k0_dev34_lt c⟩) (Fin.ext (k0_dev34_eq c)) (sem2 1 5) (sem3 1 5) (src_se 1)) $$ [HO HG1]
  · isplitr; · iexact HI
    isplitl [HO]; · iexact HO
    iexact HG1
  iintro ⟨HO, HG1⟩
  iapply (step_ag A K c 1 6 (oA1 7) (off := k0_off10 c) (k0_off10_eq c) (d := ⟨k0_dev35 c, k0_dev35_lt c⟩) (Fin.ext (k0_dev35_eq c)) (sem2 1 6) (sem3 1 6) (src_se 1)) $$ [HO HG1]
  · isplitr; · iexact HI
    isplitl [HO]; · iexact HO
    iexact HG1
  iintro ⟨HO, HG1⟩
  iapply (load_out A c _) $$ HOut
  iintro HOut %_
  iapply (store_out A c l 1 c (off := k0_off11 c) (k0_off11_eq c) (outB_own A c 1)) $$ HOut
  iintro HOut
  iapply (wp_done c rfl)
  ihave Hk := Hk $$ [HG1 HO HOut]
  · isplitl [HG1]; · iexact HG1
    isplitl [HO]; · iexact HO
    iexact HOut
  iapply Hk

end Cert.KernelIdeal.Hand

end
-- ==== Proof.IdParts3.lean ====
/-
The parts of the body that collect the gathered blocks and the send cells.
-/
module

public import proofs.«01_k».proof.Proof.IdAux

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536

variable (A : Ins F) (K : Dev nD × CI → ℕ) (c : Dev nD)
  {h0 : a0M.IsWhole} {h1 : a1M.IsWhole} {h2 : a2M.IsWhole} {h3 : a3M.IsWhole} {h4 : a4M.IsWhole} {h5 : a5M.IsWhole}
  {h6 : accM.IsWhole} {h7 : stM.IsWhole} {h8 : laM.IsWhole} {h9 : seM.IsWhole} {h10 : agM.IsWhole}

/-- Statements of part 32 of the body. -/
theorem run_part32 (l : List (Fin 2 × Dev nD)) {v169 : BitVec 32} {v851 : BitVec 32} {v852 : BitVec 32} {c0_i32_927 : BitVec 32} {Q : (Σ' (v873 : BitVec 32), BitVec 32) → sProp 𝕄} :
    iprop(Inv A K ∗ pool 0 (wIn (F := F) c 3 0) (wOut A c 3 0) ∗ owesE (F := F) c (oA1 7) ∗ OutS A c l)
      ⊢ iprop(((pool 2 (wIn (F := F) c 3 0) (wOut A c 3 0) ∗ owesE (F := F) c (oA1 7) ∗ OutS A c ((0, bk c 0) :: l)) -∗ ∀ (w0 : BitVec 32) (w1 : BitVec 32), Q ⟨w0, w1⟩) -∗ WP c (k0_part32 a0M h0 a1M h1 a2M h2 a3M h3 a4M h4 a5M h5 accM h6 stM h7 laM h8 seM h9 agM h10 cc0_scratch5 cc0_scratch6 cc0_scratch7 cc0_scratch8 (c) (grp c) v169 v851 v852 c0_i32_927) Q) := by
  rw [k0_part32_eq_skeleton]; unfold k0_part32_skel
  simp only [semSignalWord, semWaitWord, Prog.lift, Prog.bind_op, Prog.bind_ret, Prog.pure_eq_ret, wp_deviceId]
  iintro ⟨#HI, HW30, HO, HOut⟩ Hk
  iapply (step_wait A K c 3 0 0 (oA1 7) (by decide) (sem3 0 0) credit_ag) $$ [HO HW30]
  · isplitr; · iexact HI
    isplitl [HO]; · iexact HO
    iexact HW30
  iintro ⟨HO, HW30⟩
  iapply (load_ag A c 0 0 ((0 : Fin 7).val + 1) (by decide) (off := k0_off12 c 1#32) (off_ag0 c 0)) $$ HW30
  iintro HW30
  iapply (load_out A c _) $$ HOut
  iintro HOut %_
  iapply (store_out A c l 0 (bk c 0) (off := k0_off13 c 1#32) (off_out0 c 0) (outB_bk A c 0 0)) $$ HOut
  iintro HOut
  iapply (step_wait A K c 3 0 1 (oA1 7) (by decide) (sem3 0 1) credit_ag) $$ [HO HW30]
  · isplitr; · iexact HI
    isplitl [HO]; · iexact HO
    iexact HW30
  iintro ⟨HO, HW30⟩
  iapply (wp_done c rfl)
  ihave Hk := Hk $$ [HW30 HO HOut]
  · isplitl [HW30]; · iexact HW30
    isplitl [HO]; · iexact HO
    iexact HOut
  iapply Hk

/-- Statements of part 33 of the body. -/
theorem run_part33 (l : List (Fin 2 × Dev nD)) {v172 : BitVec 32} {v873 : BitVec 32} {c64_i32_954 : BitVec 32} {Q : (PUnit) → sProp 𝕄} :
    iprop(Inv A K ∗ pool 2 (wIn (F := F) c 3 0) (wOut A c 3 0) ∗ OutS A c l ∗ owesE (F := F) c (oA1 7))
      ⊢ iprop(((pool 3 (wIn (F := F) c 3 0) (wOut A c 3 0) ∗ OutS A c ((0, bk c 2) :: (0, bk c 1) :: l) ∗ owesE (F := F) c (oA1 7)) -∗ Q ⟨⟩) -∗ WP c (k0_part33 a0M h0 a1M h1 a2M h2 a3M h3 a4M h4 a5M h5 accM h6 stM h7 laM h8 seM h9 agM h10 cc0_scratch5 cc0_scratch6 cc0_scratch7 cc0_scratch8 (c) (grp c) v172 v873 c64_i32_954) Q) := by
  rw [k0_part33_eq_skeleton]; unfold k0_part33_skel
  simp only [semSignalWord, semWaitWord, Prog.lift, Prog.bind_op, Prog.bind_ret, Prog.pure_eq_ret, wp_deviceId]
  iintro ⟨#HI, HW30, HOut, HO⟩ Hk
  iapply (load_ag A c 0 1 2 (by decide) (off := k0_off12 c 2#32) (off_ag0 c 1)) $$ HW30
  iintro HW30
  iapply (load_out A c _) $$ HOut
  iintro HOut %_
  iapply (store_out A c l 0 (bk c 1) (off := k0_off13 c 2#32) (off_out0 c 1) (show k0_pay33 (agL A 0 (bk c 1)) = outB A c 0 (bk c 1) from outB_bk A c 0 1)) $$ HOut
  iintro HOut
  iapply (step_wait A K c 3 0 2 (oA1 7) (by decide) (sem3 0 2) credit_ag) $$ [HO HW30]
  · isplitr; · iexact HI
    isplitl [HO]; · iexact HO
    iexact HW30
  iintro ⟨HO, HW30⟩
  iapply (load_ag A c 0 2 ((2 : Fin 7).val + 1) (by decide) (off := k0_off12 c 3#32) (off_ag0 c 2)) $$ HW30
  iintro HW30
  iapply (load_out A c _) $$ HOut
  iintro HOut %_
  iapply (store_out A c ((0, bk c 1) :: l) 0 (bk c 2) (off := k0_off13 c 3#32) (off_out0 c 2) (show k0_pay34 (agL A 0 (bk c 2)) = outB A c 0 (bk c 2) from outB_bk A c 0 2)) $$ HOut
  iintro HOut
  iapply (wp_done c rfl)
  ihave Hk := Hk $$ [HW30 HOut HO]
  · isplitl [HW30]; · iexact HW30
    isplitl [HOut]; · iexact HOut
    iexact HO
  iapply Hk

/-- Statements of part 34 of the body. -/
theorem run_part34 (l : List (Fin 2 × Dev nD)) {v175 : BitVec 32} {v178 : BitVec 32} {Q : (Σ' (v939 : BitVec 32) (v940 : BitVec 32), BitVec 32) → sProp 𝕄} :
    iprop(Inv A K ∗ pool 3 (wIn (F := F) c 3 0) (wOut A c 3 0) ∗ owesE (F := F) c (oA1 7) ∗ OutS A c l)
      ⊢ iprop(((pool 4 (wIn (F := F) c 3 0) (wOut A c 3 0) ∗ owesE (F := F) c (oA1 7) ∗ OutS A c ((0, bk c 3) :: l)) -∗ ∀ (w0 : BitVec 32) (w1 : BitVec 32) (w2 : BitVec 32), Q ⟨w0, w1, w2⟩) -∗ WP c (k0_part34 a0M h0 a1M h1 a2M h2 a3M h3 a4M h4 a5M h5 accM h6 stM h7 laM h8 seM h9 agM h10 cc0_scratch5 cc0_scratch6 cc0_scratch7 cc0_scratch8 (c) (grp c) v175 v178) Q) := by
  rw [k0_part34_eq_skeleton]; unfold k0_part34_skel
  simp only [semSignalWord, semWaitWord, Prog.lift, Prog.bind_op, Prog.bind_ret, Prog.pure_eq_ret, wp_deviceId]
  iintro ⟨#HI, HW30, HO, HOut⟩ Hk
  iapply (step_wait A K c 3 0 3 (oA1 7) (by decide) (sem3 0 3) credit_ag) $$ [HO HW30]
  · isplitr; · iexact HI
    isplitl [HO]; · iexact HO
    iexact HW30
  iintro ⟨HO, HW30⟩
  iapply (load_ag A c 0 3 ((3 : Fin 7).val + 1) (by decide) (off := k0_off12 c 4#32) (off_ag0 c 3)) $$ HW30
  iintro HW30
  iapply (load_out A c _) $$ HOut
  iintro HOut %_
  iapply (store_out A c l 0 (bk c 3) (off := k0_off13 c 4#32) (off_out0 c 3) (show k0_pay35 (agL A 0 (bk c 3)) = outB A c 0 (bk c 3) from outB_bk A c 0 3)) $$ HOut
  iintro HOut
  iapply (wp_done c rfl)
  ihave Hk := Hk $$ [HW30 HO HOut]
  · isplitl [HW30]; · iexact HW30
    isplitl [HO]; · iexact HO
    iexact HOut
  iapply Hk

/-- Statements of part 35 of the body. -/
theorem run_part35 (l : List (Fin 2 × Dev nD)) {v181 : BitVec 32} {v939 : BitVec 32} {v940 : BitVec 32} {c0_i32_1011 : BitVec 32} {Q : (Σ' (v961 : BitVec 32), BitVec 32) → sProp 𝕄} :
    iprop(Inv A K ∗ pool 4 (wIn (F := F) c 3 0) (wOut A c 3 0) ∗ owesE (F := F) c (oA1 7) ∗ OutS A c l)
      ⊢ iprop(((pool 6 (wIn (F := F) c 3 0) (wOut A c 3 0) ∗ owesE (F := F) c (oA1 7) ∗ OutS A c ((0, bk c 4) :: l)) -∗ ∀ (w0 : BitVec 32) (w1 : BitVec 32), Q ⟨w0, w1⟩) -∗ WP c (k0_part35 a0M h0 a1M h1 a2M h2 a3M h3 a4M h4 a5M h5 accM h6 stM h7 laM h8 seM h9 agM h10 cc0_scratch5 cc0_scratch6 cc0_scratch7 cc0_scratch8 (c) (grp c) v181 v939 v940 c0_i32_1011) Q) := by
  rw [k0_part35_eq_skeleton]; unfold k0_part35_skel
  simp only [semSignalWord, semWaitWord, Prog.lift, Prog.bind_op, Prog.bind_ret, Prog.pure_eq_ret, wp_deviceId]
  iintro ⟨#HI, HW30, HO, HOut⟩ Hk
  iapply (step_wait A K c 3 0 4 (oA1 7) (by decide) (sem3 0 4) credit_ag) $$ [HO HW30]
  · isplitr; · iexact HI
    isplitl [HO]; · iexact HO
    iexact HW30
  iintro ⟨HO, HW30⟩
  iapply (load_ag A c 0 4 ((4 : Fin 7).val + 1) (by decide) (off := k0_off12 c 5#32) (off_ag0 c 4)) $$ HW30
  iintro HW30
  iapply (load_out A c _) $$ HOut
  iintro HOut %_
  iapply (store_out A c l 0 (bk c 4) (off := k0_off13 c 5#32) (off_out0 c 4) (show k0_pay36 (agL A 0 (bk c 4)) = outB A c 0 (bk c 4) from outB_bk A c 0 4)) $$ HOut
  iintro HOut
  iapply (step_wait A K c 3 0 5 (oA1 7) (by decide) (sem3 0 5) credit_ag) $$ [HO HW30]
  · isplitr; · iexact HI
    isplitl [HO]; · iexact HO
    iexact HW30
  iintro ⟨HO, HW30⟩
  iapply (wp_done c rfl)
  ihave Hk := Hk $$ [HW30 HO HOut]
  · isplitl [HW30]; · iexact HW30
    isplitl [HO]; · iexact HO
    iexact HOut
  iapply Hk

/-- Statements of part 36 of the body. -/
theorem run_part36 (l : List (Fin 2 × Dev nD)) {v184 : BitVec 32} {v961 : BitVec 32} {c64_i32_1038 : BitVec 32} {Q : (PUnit) → sProp 𝕄} :
    iprop(Inv A K ∗ pool 6 (wIn (F := F) c 3 0) (wOut A c 3 0) ∗ OutS A c l ∗ owesE (F := F) c (oA1 7))
      ⊢ iprop(((pool 7 (wIn (F := F) c 3 0) (wOut A c 3 0) ∗ OutS A c ((0, bk c 6) :: (0, bk c 5) :: l) ∗ owesE (F := F) c (oA1 7)) -∗ Q ⟨⟩) -∗ WP c (k0_part36 a0M h0 a1M h1 a2M h2 a3M h3 a4M h4 a5M h5 accM h6 stM h7 laM h8 seM h9 agM h10 cc0_scratch5 cc0_scratch6 cc0_scratch7 cc0_scratch8 (c) (grp c) v184 v961 c64_i32_1038) Q) := by
  rw [k0_part36_eq_skeleton]; unfold k0_part36_skel
  simp only [semSignalWord, semWaitWord, Prog.lift, Prog.bind_op, Prog.bind_ret, Prog.pure_eq_ret, wp_deviceId]
  iintro ⟨#HI, HW30, HOut, HO⟩ Hk
  iapply (load_ag A c 0 5 6 (by decide) (off := k0_off12 c 6#32) (off_ag0 c 5)) $$ HW30
  iintro HW30
  iapply (load_out A c _) $$ HOut
  iintro HOut %_
  iapply (store_out A c l 0 (bk c 5) (off := k0_off13 c 6#32) (off_out0 c 5) (show k0_pay37 (agL A 0 (bk c 5)) = outB A c 0 (bk c 5) from outB_bk A c 0 5)) $$ HOut
  iintro HOut
  iapply (step_wait A K c 3 0 6 (oA1 7) (by decide) (sem3 0 6) credit_ag) $$ [HO HW30]
  · isplitr; · iexact HI
    isplitl [HO]; · iexact HO
    iexact HW30
  iintro ⟨HO, HW30⟩
  iapply (load_ag A c 0 6 ((6 : Fin 7).val + 1) (by decide) (off := k0_off12 c 7#32) (off_ag0 c 6)) $$ HW30
  iintro HW30
  iapply (load_out A c _) $$ HOut
  iintro HOut %_
  iapply (store_out A c ((0, bk c 5) :: l) 0 (bk c 6) (off := k0_off13 c 7#32) (off_out0 c 6) (show k0_pay38 (agL A 0 (bk c 6)) = outB A c 0 (bk c 6) from outB_bk A c 0 6)) $$ HOut
  iintro HOut
  iapply (wp_done c rfl)
  ihave Hk := Hk $$ [HW30 HOut HO]
  · isplitl [HW30]; · iexact HW30
    isplitl [HOut]; · iexact HOut
    iexact HO
  iapply Hk

/-- Statements of part 37 of the body. -/
theorem run_part37 (l : List (Fin 2 × Dev nD)) {v187 : BitVec 32} {v190 : BitVec 32} {Q : (Σ' (v1027 : BitVec 32) (v1028 : BitVec 32), BitVec 32) → sProp 𝕄} :
    iprop(Inv A K ∗ pool 0 (wIn (F := F) c 3 1) (wOut A c 3 1) ∗ owesE (F := F) c (oA1 7) ∗ OutS A c l)
      ⊢ iprop(((pool 1 (wIn (F := F) c 3 1) (wOut A c 3 1) ∗ owesE (F := F) c (oA1 7) ∗ OutS A c ((1, bk c 0) :: l)) -∗ ∀ (w0 : BitVec 32) (w1 : BitVec 32) (w2 : BitVec 32), Q ⟨w0, w1, w2⟩) -∗ WP c (k0_part37 a0M h0 a1M h1 a2M h2 a3M h3 a4M h4 a5M h5 accM h6 stM h7 laM h8 seM h9 agM h10 cc0_scratch5 cc0_scratch6 cc0_scratch7 cc0_scratch8 (c) (grp c) v187 v190) Q) := by
  rw [k0_part37_eq_skeleton]; unfold k0_part37_skel
  simp only [semSignalWord, semWaitWord, Prog.lift, Prog.bind_op, Prog.bind_ret, Prog.pure_eq_ret, wp_deviceId]
  iintro ⟨#HI, HW31, HO, HOut⟩ Hk
  iapply (step_wait A K c 3 1 0 (oA1 7) (by decide) (sem3 1 0) credit_ag) $$ [HO HW31]
  · isplitr; · iexact HI
    isplitl [HO]; · iexact HO
    iexact HW31
  iintro ⟨HO, HW31⟩
  iapply (load_ag A c 1 0 ((0 : Fin 7).val + 1) (by decide) (off := k0_off14 c 1#32) (off_ag1 c 0)) $$ HW31
  iintro HW31
  iapply (load_out A c _) $$ HOut
  iintro HOut %_
  iapply (store_out A c l 1 (bk c 0) (off := k0_off15 c 1#32) (off_out1 c 0) (show k0_pay39 (agL A 1 (bk c 0)) = outB A c 1 (bk c 0) from outB_bk A c 1 0)) $$ HOut
  iintro HOut
  iapply (wp_done c rfl)
  ihave Hk := Hk $$ [HW31 HO HOut]
  · isplitl [HW31]; · iexact HW31
    isplitl [HO]; · iexact HO
    iexact HOut
  iapply Hk

/-- Statements of part 38 of the body. -/
theorem run_part38 (l : List (Fin 2 × Dev nD)) {v193 : BitVec 32} {v1027 : BitVec 32} {v1028 : BitVec 32} {c0_i32_1095 : BitVec 32} {Q : (Σ' (v1049 : BitVec 32), BitVec 32) → sProp 𝕄} :
    iprop(Inv A K ∗ pool 1 (wIn (F := F) c 3 1) (wOut A c 3 1) ∗ owesE (F := F) c (oA1 7) ∗ OutS A c l)
      ⊢ iprop(((pool 3 (wIn (F := F) c 3 1) (wOut A c 3 1) ∗ owesE (F := F) c (oA1 7) ∗ OutS A c ((1, bk c 1) :: l)) -∗ ∀ (w0 : BitVec 32) (w1 : BitVec 32), Q ⟨w0, w1⟩) -∗ WP c (k0_part38 a0M h0 a1M h1 a2M h2 a3M h3 a4M h4 a5M h5 accM h6 stM h7 laM h8 seM h9 agM h10 cc0_scratch5 cc0_scratch6 cc0_scratch7 cc0_scratch8 (c) (grp c) v193 v1027 v1028 c0_i32_1095) Q) := by
  rw [k0_part38_eq_skeleton]; unfold k0_part38_skel
  simp only [semSignalWord, semWaitWord, Prog.lift, Prog.bind_op, Prog.bind_ret, Prog.pure_eq_ret, wp_deviceId]
  iintro ⟨#HI, HW31, HO, HOut⟩ Hk
  iapply (step_wait A K c 3 1 1 (oA1 7) (by decide) (sem3 1 1) credit_ag) $$ [HO HW31]
  · isplitr; · iexact HI
    isplitl [HO]; · iexact HO
    iexact HW31
  iintro ⟨HO, HW31⟩
  iapply (load_ag A c 1 1 ((1 : Fin 7).val + 1) (by decide) (off := k0_off14 c 2#32) (off_ag1 c 1)) $$ HW31
  iintro HW31
  iapply (load_out A c _) $$ HOut
  iintro HOut %_
  iapply (store_out A c l 1 (bk c 1) (off := k0_off15 c 2#32) (off_out1 c 1) (show k0_pay40 (agL A 1 (bk c 1)) = outB A c 1 (bk c 1) from outB_bk A c 1 1)) $$ HOut
  iintro HOut
  iapply (step_wait A K c 3 1 2 (oA1 7) (by decide) (sem3 1 2) credit_ag) $$ [HO HW31]
  · isplitr; · iexact HI
    isplitl [HO]; · iexact HO
    iexact HW31
  iintro ⟨HO, HW31⟩
  iapply (wp_done c rfl)
  ihave Hk := Hk $$ [HW31 HO HOut]
  · isplitl [HW31]; · iexact HW31
    isplitl [HO]; · iexact HO
    iexact HOut
  iapply Hk

/-- Statements of part 39 of the body. -/
theorem run_part39 (l : List (Fin 2 × Dev nD)) {v196 : BitVec 32} {v1049 : BitVec 32} {c64_i32_1122 : BitVec 32} {Q : (PUnit) → sProp 𝕄} :
    iprop(Inv A K ∗ pool 3 (wIn (F := F) c 3 1) (wOut A c 3 1) ∗ OutS A c l ∗ owesE (F := F) c (oA1 7))
      ⊢ iprop(((pool 4 (wIn (F := F) c 3 1) (wOut A c 3 1) ∗ OutS A c ((1, bk c 3) :: (1, bk c 2) :: l) ∗ owesE (F := F) c (oA1 7)) -∗ Q ⟨⟩) -∗ WP c (k0_part39 a0M h0 a1M h1 a2M h2 a3M h3 a4M h4 a5M h5 accM h6 stM h7 laM h8 seM h9 agM h10 cc0_scratch5 cc0_scratch6 cc0_scratch7 cc0_scratch8 (c) (grp c) v196 v1049 c64_i32_1122) Q) := by
  rw [k0_part39_eq_skeleton]; unfold k0_part39_skel
  simp only [semSignalWord, semWaitWord, Prog.lift, Prog.bind_op, Prog.bind_ret, Prog.pure_eq_ret, wp_deviceId]
  iintro ⟨#HI, HW31, HOut, HO⟩ Hk
  iapply (load_ag A c 1 2 3 (by decide) (off := k0_off14 c 3#32) (off_ag1 c 2)) $$ HW31
  iintro HW31
  iapply (load_out A c _) $$ HOut
  iintro HOut %_
  iapply (store_out A c l 1 (bk c 2) (off := k0_off15 c 3#32) (off_out1 c 2) (show k0_pay41 (agL A 1 (bk c 2)) = outB A c 1 (bk c 2) from outB_bk A c 1 2)) $$ HOut
  iintro HOut
  iapply (step_wait A K c 3 1 3 (oA1 7) (by decide) (sem3 1 3) credit_ag) $$ [HO HW31]
  · isplitr; · iexact HI
    isplitl [HO]; · iexact HO
    iexact HW31
  iintro ⟨HO, HW31⟩
  iapply (load_ag A c 1 3 ((3 : Fin 7).val + 1) (by decide) (off := k0_off14 c 4#32) (off_ag1 c 3)) $$ HW31
  iintro HW31
  iapply (load_out A c _) $$ HOut
  iintro HOut %_
  iapply (store_out A c ((1, bk c 2) :: l) 1 (bk c 3) (off := k0_off15 c 4#32) (off_out1 c 3) (show k0_pay42 (agL A 1 (bk c 3)) = outB A c 1 (bk c 3) from outB_bk A c 1 3)) $$ HOut
  iintro HOut
  iapply (wp_done c rfl)
  ihave Hk := Hk $$ [HW31 HOut HO]
  · isplitl [HW31]; · iexact HW31
    isplitl [HOut]; · iexact HOut
    iexact HO
  iapply Hk

/-- Statements of part 40 of the body. -/
theorem run_part40 (l : List (Fin 2 × Dev nD)) {v199 : BitVec 32} {v202 : BitVec 32} {Q : (Σ' (v1115 : BitVec 32) (v1116 : BitVec 32), BitVec 32) → sProp 𝕄} :
    iprop(Inv A K ∗ pool 4 (wIn (F := F) c 3 1) (wOut A c 3 1) ∗ owesE (F := F) c (oA1 7) ∗ OutS A c l)
      ⊢ iprop(((pool 5 (wIn (F := F) c 3 1) (wOut A c 3 1) ∗ owesE (F := F) c (oA1 7) ∗ OutS A c ((1, bk c 4) :: l)) -∗ ∀ (w0 : BitVec 32) (w1 : BitVec 32) (w2 : BitVec 32), Q ⟨w0, w1, w2⟩) -∗ WP c (k0_part40 a0M h0 a1M h1 a2M h2 a3M h3 a4M h4 a5M h5 accM h6 stM h7 laM h8 seM h9 agM h10 cc0_scratch5 cc0_scratch6 cc0_scratch7 cc0_scratch8 (c) (grp c) v199 v202) Q) := by
  rw [k0_part40_eq_skeleton]; unfold k0_part40_skel
  simp only [semSignalWord, semWaitWord, Prog.lift, Prog.bind_op, Prog.bind_ret, Prog.pure_eq_ret, wp_deviceId]
  iintro ⟨#HI, HW31, HO, HOut⟩ Hk
  iapply (step_wait A K c 3 1 4 (oA1 7) (by decide) (sem3 1 4) credit_ag) $$ [HO HW31]
  · isplitr; · iexact HI
    isplitl [HO]; · iexact HO
    iexact HW31
  iintro ⟨HO, HW31⟩
  iapply (load_ag A c 1 4 ((4 : Fin 7).val + 1) (by decide) (off := k0_off14 c 5#32) (off_ag1 c 4)) $$ HW31
  iintro HW31
  iapply (load_out A c _) $$ HOut
  iintro HOut %_
  iapply (store_out A c l 1 (bk c 4) (off := k0_off15 c 5#32) (off_out1 c 4) (show k0_pay43 (agL A 1 (bk c 4)) = outB A c 1 (bk c 4) from outB_bk A c 1 4)) $$ HOut
  iintro HOut
  iapply (wp_done c rfl)
  ihave Hk := Hk $$ [HW31 HO HOut]
  · isplitl [HW31]; · iexact HW31
    isplitl [HO]; · iexact HO
    iexact HOut
  iapply Hk

/-- Statements of part 41 of the body. -/
theorem run_part41 (l : List (Fin 2 × Dev nD)) {v205 : BitVec 32} {v1115 : BitVec 32} {v1116 : BitVec 32} {c0_i32_1179 : BitVec 32} {Q : (Σ' (v1137 : BitVec 32), BitVec 32) → sProp 𝕄} :
    iprop(Inv A K ∗ pool 5 (wIn (F := F) c 3 1) (wOut A c 3 1) ∗ owesE (F := F) c (oA1 7) ∗ OutS A c l)
      ⊢ iprop(((pool 7 (wIn (F := F) c 3 1) (wOut A c 3 1) ∗ owesE (F := F) c (oA1 7) ∗ OutS A c ((1, bk c 5) :: l)) -∗ ∀ (w0 : BitVec 32) (w1 : BitVec 32), Q ⟨w0, w1⟩) -∗ WP c (k0_part41 a0M h0 a1M h1 a2M h2 a3M h3 a4M h4 a5M h5 accM h6 stM h7 laM h8 seM h9 agM h10 cc0_scratch5 cc0_scratch6 cc0_scratch7 cc0_scratch8 (c) (grp c) v205 v1115 v1116 c0_i32_1179) Q) := by
  rw [k0_part41_eq_skeleton]; unfold k0_part41_skel
  simp only [semSignalWord, semWaitWord, Prog.lift, Prog.bind_op, Prog.bind_ret, Prog.pure_eq_ret, wp_deviceId]
  iintro ⟨#HI, HW31, HO, HOut⟩ Hk
  iapply (step_wait A K c 3 1 5 (oA1 7) (by decide) (sem3 1 5) credit_ag) $$ [HO HW31]
  · isplitr; · iexact HI
    isplitl [HO]; · iexact HO
    iexact HW31
  iintro ⟨HO, HW31⟩
  iapply (load_ag A c 1 5 ((5 : Fin 7).val + 1) (by decide) (off := k0_off14 c 6#32) (off_ag1 c 5)) $$ HW31
  iintro HW31
  iapply (load_out A c _) $$ HOut
  iintro HOut %_
  iapply (store_out A c l 1 (bk c 5) (off := k0_off15 c 6#32) (off_out1 c 5) (show k0_pay44 (agL A 1 (bk c 5)) = outB A c 1 (bk c 5) from outB_bk A c 1 5)) $$ HOut
  iintro HOut
  iapply (step_wait A K c 3 1 6 (oA1 7) (by decide) (sem3 1 6) credit_ag) $$ [HO HW31]
  · isplitr; · iexact HI
    isplitl [HO]; · iexact HO
    iexact HW31
  iintro ⟨HO, HW31⟩
  iapply (wp_done c rfl)
  ihave Hk := Hk $$ [HW31 HO HOut]
  · isplitl [HW31]; · iexact HW31
    isplitl [HO]; · iexact HO
    iexact HOut
  iapply Hk

/-- Statements of part 42 of the body. -/
theorem run_part42 (l : List (Fin 2 × Dev nD)) {v1137 : BitVec 32} {c64_i32_1206 : BitVec 32} {Q : (PUnit) → sProp 𝕄} :
    iprop(Inv A K ∗ pool 7 (wIn (F := F) c 3 1) (wOut A c 3 1) ∗ OutS A c l ∗ pool 0 (wIn (F := F) c 0 0) (wOut A c 0 0) ∗ owesE (F := F) c (oA1 7))
      ⊢ iprop(((pool 7 (wIn (F := F) c 3 1) (wOut A c 3 1) ∗ OutS A c ((1, bk c 6) :: l) ∗ pool 1 (wIn (F := F) c 0 0) (wOut A c 0 0) ∗ owesE (F := F) c (oA1 7)) -∗ Q ⟨⟩) -∗ WP c (k0_part42 a0M h0 a1M h1 a2M h2 a3M h3 a4M h4 a5M h5 accM h6 stM h7 laM h8 seM h9 agM h10 cc0_scratch5 cc0_scratch6 cc0_scratch7 cc0_scratch8 (c) v1137 c64_i32_1206) Q) := by
  rw [k0_part42_eq_skeleton]; unfold k0_part42_skel
  simp only [semSignalWord, semWaitWord, Prog.lift, Prog.bind_op, Prog.bind_ret, Prog.pure_eq_ret, wp_deviceId]
  iintro ⟨#HI, HW31, HOut, HW00, HO⟩ Hk
  iapply (load_ag A c 1 6 7 (by decide) (off := k0_off14 c 7#32) (off_ag1 c 6)) $$ HW31
  iintro HW31
  iapply (load_out A c _) $$ HOut
  iintro HOut %_
  iapply (store_out A c l 1 (bk c 6) (off := k0_off15 c 7#32) (off_out1 c 6) (show k0_pay45 (agL A 1 (bk c 6)) = outB A c 1 (bk c 6) from outB_bk A c 1 6)) $$ HOut
  iintro HOut
  iapply (step_wait A K c 0 0 0 (oA1 7) (by decide) (sem0 0 0) credit_st) $$ [HO HW00]
  · isplitr; · iexact HI
    isplitl [HO]; · iexact HO
    iexact HW00
  iintro ⟨HO, HW00⟩
  iapply (wp_done c rfl)
  ihave Hk := Hk $$ [HW31 HOut HW00 HO]
  · isplitl [HW31]; · iexact HW31
    isplitl [HOut]; · iexact HOut
    isplitl [HW00]; · iexact HW00
    iexact HO
  iapply Hk

/-- Statements of part 43 of the body. -/
theorem run_part43 {Q : (PUnit) → sProp 𝕄} :
    iprop(Inv A K ∗ pool 1 (wIn (F := F) c 0 0) (wOut A c 0 0) ∗ owesE (F := F) c (oA1 7))
      ⊢ iprop(((pool 4 (wIn (F := F) c 0 0) (wOut A c 0 0) ∗ owesE (F := F) c (oA1 7)) -∗ Q ⟨⟩) -∗ WP c (k0_part43 a0M h0 a1M h1 a2M h2 a3M h3 a4M h4 a5M h5 accM h6 stM h7 laM h8 seM h9 agM h10 cc0_scratch5 cc0_scratch6 cc0_scratch7 cc0_scratch8 (c)) Q) := by
  rw [k0_part43_eq_skeleton]; unfold k0_part43_skel
  simp only [semSignalWord, semWaitWord, Prog.lift, Prog.bind_op, Prog.bind_ret, Prog.pure_eq_ret, wp_deviceId]
  iintro ⟨#HI, HW00, HO⟩ Hk
  iapply (step_wait A K c 0 0 1 (oA1 7) (by decide) (sem0 0 1) credit_st) $$ [HO HW00]
  · isplitr; · iexact HI
    isplitl [HO]; · iexact HO
    iexact HW00
  iintro ⟨HO, HW00⟩
  iapply (step_wait A K c 0 0 2 (oA1 7) (by decide) (sem0 0 2) credit_st) $$ [HO HW00]
  · isplitr; · iexact HI
    isplitl [HO]; · iexact HO
    iexact HW00
  iintro ⟨HO, HW00⟩
  iapply (step_wait A K c 0 0 3 (oA1 7) (by decide) (sem0 0 3) credit_st) $$ [HO HW00]
  · isplitr; · iexact HI
    isplitl [HO]; · iexact HO
    iexact HW00
  iintro ⟨HO, HW00⟩
  iapply (wp_done c rfl)
  ihave Hk := Hk $$ [HW00 HO]
  · isplitl [HW00]; · iexact HW00
    iexact HO
  iapply Hk

/-- Statements of part 44 of the body. -/
theorem run_part44 {Q : (PUnit) → sProp 𝕄} :
    iprop(Inv A K ∗ pool 4 (wIn (F := F) c 0 0) (wOut A c 0 0) ∗ owesE (F := F) c (oA1 7))
      ⊢ iprop(((pool 6 (wIn (F := F) c 0 0) (wOut A c 0 0) ∗ owesE (F := F) c (oA1 7)) -∗ Q ⟨⟩) -∗ WP c (k0_part44 a0M h0 a1M h1 a2M h2 a3M h3 a4M h4 a5M h5 accM h6 stM h7 laM h8 seM h9 agM h10 cc0_scratch5 cc0_scratch6 cc0_scratch7 cc0_scratch8 (c)) Q) := by
  rw [k0_part44_eq_skeleton]; unfold k0_part44_skel
  simp only [semSignalWord, semWaitWord, Prog.lift, Prog.bind_op, Prog.bind_ret, Prog.pure_eq_ret, wp_deviceId]
  iintro ⟨#HI, HW00, HO⟩ Hk
  iapply (step_wait A K c 0 0 4 (oA1 7) (by decide) (sem0 0 4) credit_st) $$ [HO HW00]
  · isplitr; · iexact HI
    isplitl [HO]; · iexact HO
    iexact HW00
  iintro ⟨HO, HW00⟩
  iapply (step_wait A K c 0 0 5 (oA1 7) (by decide) (sem0 0 5) credit_st) $$ [HO HW00]
  · isplitr; · iexact HI
    isplitl [HO]; · iexact HO
    iexact HW00
  iintro ⟨HO, HW00⟩
  iapply (wp_done c rfl)
  ihave Hk := Hk $$ [HW00 HO]
  · isplitl [HW00]; · iexact HW00
    iexact HO
  iapply Hk

/-- Statements of part 45 of the body. -/
theorem run_part45 {Q : (PUnit) → sProp 𝕄} :
    iprop(Inv A K ∗ pool 6 (wIn (F := F) c 0 0) (wOut A c 0 0) ∗ owesE (F := F) c (oA1 7) ∗ pool 0 (wIn (F := F) c 0 1) (wOut A c 0 1))
      ⊢ iprop(((pool 7 (wIn (F := F) c 0 0) (wOut A c 0 0) ∗ owesE (F := F) c (oA1 7) ∗ pool 1 (wIn (F := F) c 0 1) (wOut A c 0 1)) -∗ Q ⟨⟩) -∗ WP c (k0_part45 a0M h0 a1M h1 a2M h2 a3M h3 a4M h4 a5M h5 accM h6 stM h7 laM h8 seM h9 agM h10 cc0_scratch5 cc0_scratch6 cc0_scratch7 cc0_scratch8 (c)) Q) := by
  rw [k0_part45_eq_skeleton]; unfold k0_part45_skel
  simp only [semSignalWord, semWaitWord, Prog.lift, Prog.bind_op, Prog.bind_ret, Prog.pure_eq_ret, wp_deviceId]
  iintro ⟨#HI, HW00, HO, HW01⟩ Hk
  iapply (step_wait A K c 0 0 6 (oA1 7) (by decide) (sem0 0 6) credit_st) $$ [HO HW00]
  · isplitr; · iexact HI
    isplitl [HO]; · iexact HO
    iexact HW00
  iintro ⟨HO, HW00⟩
  iapply (step_wait A K c 0 1 0 (oA1 7) (by decide) (sem0 1 0) credit_st) $$ [HO HW01]
  · isplitr; · iexact HI
    isplitl [HO]; · iexact HO
    iexact HW01
  iintro ⟨HO, HW01⟩
  iapply (wp_done c rfl)
  ihave Hk := Hk $$ [HW00 HO HW01]
  · isplitl [HW00]; · iexact HW00
    isplitl [HO]; · iexact HO
    iexact HW01
  iapply Hk

/-- Statements of part 46 of the body. -/
theorem run_part46 {Q : (PUnit) → sProp 𝕄} :
    iprop(Inv A K ∗ pool 1 (wIn (F := F) c 0 1) (wOut A c 0 1) ∗ owesE (F := F) c (oA1 7))
      ⊢ iprop(((pool 3 (wIn (F := F) c 0 1) (wOut A c 0 1) ∗ owesE (F := F) c (oA1 7)) -∗ Q ⟨⟩) -∗ WP c (k0_part46 a0M h0 a1M h1 a2M h2 a3M h3 a4M h4 a5M h5 accM h6 stM h7 laM h8 seM h9 agM h10 cc0_scratch5 cc0_scratch6 cc0_scratch7 cc0_scratch8 (c)) Q) := by
  rw [k0_part46_eq_skeleton]; unfold k0_part46_skel
  simp only [semSignalWord, semWaitWord, Prog.lift, Prog.bind_op, Prog.bind_ret, Prog.pure_eq_ret, wp_deviceId]
  iintro ⟨#HI, HW01, HO⟩ Hk
  iapply (step_wait A K c 0 1 1 (oA1 7) (by decide) (sem0 1 1) credit_st) $$ [HO HW01]
  · isplitr; · iexact HI
    isplitl [HO]; · iexact HO
    iexact HW01
  iintro ⟨HO, HW01⟩
  iapply (step_wait A K c 0 1 2 (oA1 7) (by decide) (sem0 1 2) credit_st) $$ [HO HW01]
  · isplitr; · iexact HI
    isplitl [HO]; · iexact HO
    iexact HW01
  iintro ⟨HO, HW01⟩
  iapply (wp_done c rfl)
  ihave Hk := Hk $$ [HW01 HO]
  · isplitl [HW01]; · iexact HW01
    iexact HO
  iapply Hk

/-- Statements of part 47 of the body. -/
theorem run_part47 {Q : (PUnit) → sProp 𝕄} :
    iprop(Inv A K ∗ pool 3 (wIn (F := F) c 0 1) (wOut A c 0 1) ∗ owesE (F := F) c (oA1 7))
      ⊢ iprop(((pool 6 (wIn (F := F) c 0 1) (wOut A c 0 1) ∗ owesE (F := F) c (oA1 7)) -∗ Q ⟨⟩) -∗ WP c (k0_part47 a0M h0 a1M h1 a2M h2 a3M h3 a4M h4 a5M h5 accM h6 stM h7 laM h8 seM h9 agM h10 cc0_scratch5 cc0_scratch6 cc0_scratch7 cc0_scratch8 (c)) Q) := by
  rw [k0_part47_eq_skeleton]; unfold k0_part47_skel
  simp only [semSignalWord, semWaitWord, Prog.lift, Prog.bind_op, Prog.bind_ret, Prog.pure_eq_ret, wp_deviceId]
  iintro ⟨#HI, HW01, HO⟩ Hk
  iapply (step_wait A K c 0 1 3 (oA1 7) (by decide) (sem0 1 3) credit_st) $$ [HO HW01]
  · isplitr; · iexact HI
    isplitl [HO]; · iexact HO
    iexact HW01
  iintro ⟨HO, HW01⟩
  iapply (step_wait A K c 0 1 4 (oA1 7) (by decide) (sem0 1 4) credit_st) $$ [HO HW01]
  · isplitr; · iexact HI
    isplitl [HO]; · iexact HO
    iexact HW01
  iintro ⟨HO, HW01⟩
  iapply (step_wait A K c 0 1 5 (oA1 7) (by decide) (sem0 1 5) credit_st) $$ [HO HW01]
  · isplitr; · iexact HI
    isplitl [HO]; · iexact HO
    iexact HW01
  iintro ⟨HO, HW01⟩
  iapply (wp_done c rfl)
  ihave Hk := Hk $$ [HW01 HO]
  · isplitl [HW01]; · iexact HW01
    iexact HO
  iapply Hk

/-- Statements of part 48 of the body. -/
theorem run_part48 {Q : (PUnit) → sProp 𝕄} :
    iprop(Inv A K ∗ pool 6 (wIn (F := F) c 0 1) (wOut A c 0 1) ∗ owesE (F := F) c (oA1 7) ∗ pool 0 (wIn (F := F) c 2 0) (wOut A c 2 0))
      ⊢ iprop(((pool 7 (wIn (F := F) c 0 1) (wOut A c 0 1) ∗ owesE (F := F) c (oA1 7) ∗ pool 2 (wIn (F := F) c 2 0) (wOut A c 2 0)) -∗ Q ⟨⟩) -∗ WP c (k0_part48 a0M h0 a1M h1 a2M h2 a3M h3 a4M h4 a5M h5 accM h6 stM h7 laM h8 seM h9 agM h10 cc0_scratch5 cc0_scratch6 cc0_scratch7 cc0_scratch8 (c)) Q) := by
  rw [k0_part48_eq_skeleton]; unfold k0_part48_skel
  simp only [semSignalWord, semWaitWord, Prog.lift, Prog.bind_op, Prog.bind_ret, Prog.pure_eq_ret, wp_deviceId]
  iintro ⟨#HI, HW01, HO, HW20⟩ Hk
  iapply (step_wait A K c 0 1 6 (oA1 7) (by decide) (sem0 1 6) credit_st) $$ [HO HW01]
  · isplitr; · iexact HI
    isplitl [HO]; · iexact HO
    iexact HW01
  iintro ⟨HO, HW01⟩
  iapply (step_wait A K c 2 0 0 (oA1 7) (by decide) (sem2 0 0) credit_se) $$ [HO HW20]
  · isplitr; · iexact HI
    isplitl [HO]; · iexact HO
    iexact HW20
  iintro ⟨HO, HW20⟩
  iapply (step_wait A K c 2 0 1 (oA1 7) (by decide) (sem2 0 1) credit_se) $$ [HO HW20]
  · isplitr; · iexact HI
    isplitl [HO]; · iexact HO
    iexact HW20
  iintro ⟨HO, HW20⟩
  iapply (wp_done c rfl)
  ihave Hk := Hk $$ [HW01 HO HW20]
  · isplitl [HW01]; · iexact HW01
    isplitl [HO]; · iexact HO
    iexact HW20
  iapply Hk

/-- Statements of part 49 of the body. -/
theorem run_part49 {Q : (PUnit) → sProp 𝕄} :
    iprop(Inv A K ∗ pool 2 (wIn (F := F) c 2 0) (wOut A c 2 0) ∗ owesE (F := F) c (oA1 7))
      ⊢ iprop(((pool 5 (wIn (F := F) c 2 0) (wOut A c 2 0) ∗ owesE (F := F) c (oA1 7)) -∗ Q ⟨⟩) -∗ WP c (k0_part49 a0M h0 a1M h1 a2M h2 a3M h3 a4M h4 a5M h5 accM h6 stM h7 laM h8 seM h9 agM h10 cc0_scratch5 cc0_scratch6 cc0_scratch7 cc0_scratch8 (c)) Q) := by
  rw [k0_part49_eq_skeleton]; unfold k0_part49_skel
  simp only [semSignalWord, semWaitWord, Prog.lift, Prog.bind_op, Prog.bind_ret, Prog.pure_eq_ret, wp_deviceId]
  iintro ⟨#HI, HW20, HO⟩ Hk
  iapply (step_wait A K c 2 0 2 (oA1 7) (by decide) (sem2 0 2) credit_se) $$ [HO HW20]
  · isplitr; · iexact HI
    isplitl [HO]; · iexact HO
    iexact HW20
  iintro ⟨HO, HW20⟩
  iapply (step_wait A K c 2 0 3 (oA1 7) (by decide) (sem2 0 3) credit_se) $$ [HO HW20]
  · isplitr; · iexact HI
    isplitl [HO]; · iexact HO
    iexact HW20
  iintro ⟨HO, HW20⟩
  iapply (step_wait A K c 2 0 4 (oA1 7) (by decide) (sem2 0 4) credit_se) $$ [HO HW20]
  · isplitr; · iexact HI
    isplitl [HO]; · iexact HO
    iexact HW20
  iintro ⟨HO, HW20⟩
  iapply (wp_done c rfl)
  ihave Hk := Hk $$ [HW20 HO]
  · isplitl [HW20]; · iexact HW20
    iexact HO
  iapply Hk

/-- Statements of part 50 of the body. -/
theorem run_part50 {Q : (PUnit) → sProp 𝕄} :
    iprop(Inv A K ∗ pool 5 (wIn (F := F) c 2 0) (wOut A c 2 0) ∗ owesE (F := F) c (oA1 7) ∗ pool 0 (wIn (F := F) c 2 1) (wOut A c 2 1))
      ⊢ iprop(((pool 7 (wIn (F := F) c 2 0) (wOut A c 2 0) ∗ owesE (F := F) c (oA1 7) ∗ pool 1 (wIn (F := F) c 2 1) (wOut A c 2 1)) -∗ Q ⟨⟩) -∗ WP c (k0_part50 a0M h0 a1M h1 a2M h2 a3M h3 a4M h4 a5M h5 accM h6 stM h7 laM h8 seM h9 agM h10 cc0_scratch5 cc0_scratch6 cc0_scratch7 cc0_scratch8 (c)) Q) := by
  rw [k0_part50_eq_skeleton]; unfold k0_part50_skel
  simp only [semSignalWord, semWaitWord, Prog.lift, Prog.bind_op, Prog.bind_ret, Prog.pure_eq_ret, wp_deviceId]
  iintro ⟨#HI, HW20, HO, HW21⟩ Hk
  iapply (step_wait A K c 2 0 5 (oA1 7) (by decide) (sem2 0 5) credit_se) $$ [HO HW20]
  · isplitr; · iexact HI
    isplitl [HO]; · iexact HO
    iexact HW20
  iintro ⟨HO, HW20⟩
  iapply (step_wait A K c 2 0 6 (oA1 7) (by decide) (sem2 0 6) credit_se) $$ [HO HW20]
  · isplitr; · iexact HI
    isplitl [HO]; · iexact HO
    iexact HW20
  iintro ⟨HO, HW20⟩
  iapply (step_wait A K c 2 1 0 (oA1 7) (by decide) (sem2 1 0) credit_se) $$ [HO HW21]
  · isplitr; · iexact HI
    isplitl [HO]; · iexact HO
    iexact HW21
  iintro ⟨HO, HW21⟩
  iapply (wp_done c rfl)
  ihave Hk := Hk $$ [HW20 HO HW21]
  · isplitl [HW20]; · iexact HW20
    isplitl [HO]; · iexact HO
    iexact HW21
  iapply Hk

/-- Statements of part 51 of the body. -/
theorem run_part51 {Q : (PUnit) → sProp 𝕄} :
    iprop(Inv A K ∗ pool 1 (wIn (F := F) c 2 1) (wOut A c 2 1) ∗ owesE (F := F) c (oA1 7))
      ⊢ iprop(((pool 4 (wIn (F := F) c 2 1) (wOut A c 2 1) ∗ owesE (F := F) c (oA1 7)) -∗ Q ⟨⟩) -∗ WP c (k0_part51 a0M h0 a1M h1 a2M h2 a3M h3 a4M h4 a5M h5 accM h6 stM h7 laM h8 seM h9 agM h10 cc0_scratch5 cc0_scratch6 cc0_scratch7 cc0_scratch8 (c)) Q) := by
  rw [k0_part51_eq_skeleton]; unfold k0_part51_skel
  simp only [semSignalWord, semWaitWord, Prog.lift, Prog.bind_op, Prog.bind_ret, Prog.pure_eq_ret, wp_deviceId]
  iintro ⟨#HI, HW21, HO⟩ Hk
  iapply (step_wait A K c 2 1 1 (oA1 7) (by decide) (sem2 1 1) credit_se) $$ [HO HW21]
  · isplitr; · iexact HI
    isplitl [HO]; · iexact HO
    iexact HW21
  iintro ⟨HO, HW21⟩
  iapply (step_wait A K c 2 1 2 (oA1 7) (by decide) (sem2 1 2) credit_se) $$ [HO HW21]
  · isplitr; · iexact HI
    isplitl [HO]; · iexact HO
    iexact HW21
  iintro ⟨HO, HW21⟩
  iapply (step_wait A K c 2 1 3 (oA1 7) (by decide) (sem2 1 3) credit_se) $$ [HO HW21]
  · isplitr; · iexact HI
    isplitl [HO]; · iexact HO
    iexact HW21
  iintro ⟨HO, HW21⟩
  iapply (wp_done c rfl)
  ihave Hk := Hk $$ [HW21 HO]
  · isplitl [HW21]; · iexact HW21
    iexact HO
  iapply Hk

end Cert.KernelIdeal.Hand

end
-- ==== Proof.IdBody.lean ====
/-
The whole body: its parts one after another.
-/
module

public import proofs.«01_k».proof.Proof.IdParts1
public import proofs.«01_k».proof.Proof.IdParts2
public import proofs.«01_k».proof.Proof.IdParts3

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536
set_option maxHeartbeats 4000000

variable (A : Ins F) (K : Dev nD × CI → ℕ) (c : Dev nD)
  {h0 : a0M.IsWhole} {h1 : a1M.IsWhole} {h2 : a2M.IsWhole} {h3 : a3M.IsWhole} {h4 : a4M.IsWhole} {h5 : a5M.IsWhole}
  {h6 : accM.IsWhole} {h7 : stM.IsWhole} {h8 : laM.IsWhole} {h9 : seM.IsWhole} {h10 : agM.IsWhole}

theorem bindW {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP
  rw [wp_bind]

/-- The body, from its resources as the protocol cuts them to what is left at its end. -/
theorem run_parts (fs : Vec F S2x512x256 .bf16) (fe : Vec F S2x64x256 .bf16) (fa : Vec F S2x512x256 .f32) {Q : Dev nD → sProp 𝕄} :
    iprop(Inv A K ∗ owesE (F := F) c (oB 0) ∗ pool 0 (barIn (F := F) c) (fun _ => iprop(emp)) ∗ wh c cc0_stg0_0 (A.x c) ∗ wh c cc0_stg1_0 (A.w c) ∗ wh c cc0_stg2_0 (A.i c) ∗ wh c cc0_stg3_0 (A.e c) ∗ wh c cc0_stg4_0 (A.h c) ∗ (((c : Thread nD τ).loc cc0_scratch1) ↦[strSet 0]{fullShare} fs) ∗ (((c : Thread nD τ).loc cc0_scratch1) ↦[strSet 1]{fullShare} fs) ∗ (((c : Thread nD τ).loc cc0_scratch3) ↦[segSet 0]{fullShare} fe) ∗ (((c : Thread nD τ).loc cc0_scratch3) ↦[segSet 1]{fullShare} fe) ∗ bigSep Finset.univ (tk (F := F) c 0 1 0) ∗ bigSep Finset.univ (tk (F := F) c 0 1 1) ∗ bigSep Finset.univ (tk (F := F) c 2 3 0) ∗ bigSep Finset.univ (tk (F := F) c 2 3 1) ∗ cred (tallyAt (barCell c) () 7) ∗ atPos ER (barCell c) 0 ∅ 0 ∗ wh c cc0_scratch0 fa ∗ OutS A c [] ∗ pool 0 (wIn (F := F) c 1 0) (wOut A c 1 0) ∗ pool 0 (wIn (F := F) c 1 1) (wOut A c 1 1) ∗ pool 0 (wIn (F := F) c 3 0) (wOut A c 3 0) ∗ pool 0 (wIn (F := F) c 3 1) (wOut A c 3 1))
      ⊢ iprop(((owesE (F := F) c (oA1 7) ∗ wh c cc0_stg0_0 (A.x c) ∗ wh c cc0_stg1_0 (A.w c) ∗ wh c cc0_stg2_0 (A.i c) ∗ wh c cc0_stg3_0 (A.e c) ∗ wh c cc0_stg4_0 (A.h c) ∗ pool 7 (wIn (F := F) c 0 0) (wOut A c 0 0) ∗ pool 7 (wIn (F := F) c 0 1) (wOut A c 0 1) ∗ pool 7 (wIn (F := F) c 1 0) (wOut A c 1 0) ∗ pool 7 (wIn (F := F) c 1 1) (wOut A c 1 1) ∗ pool 7 (wIn (F := F) c 2 0) (wOut A c 2 0) ∗ pool 4 (wIn (F := F) c 2 1) (wOut A c 2 1) ∗ pool 7 (wIn (F := F) c 3 0) (wOut A c 3 0) ∗ pool 7 (wIn (F := F) c 3 1) (wOut A c 3 1) ∗ wh c cc0_scratch0 (accC A c) ∗ OutS A c [(1, bk c 6), (1, bk c 5), (1, bk c 4), (1, bk c 3), (1, bk c 2), (1, bk c 1), (1, bk c 0), (0, bk c 6), (0, bk c 5), (0, bk c 4), (0, bk c 3), (0, bk c 2), (0, bk c 1), (0, bk c 0), (1, c), (0, c)] ∗ semVal (barCell c) 0 ∗ stPt A c 0 c ∗ stPt A c 1 c) -∗ Q c) -∗ WP c (k0_part52 a0M h0 a1M h1 a2M h2 a3M h3 a4M h4 a5M h5 accM h6 stM h7 laM h8 seM h9 agM h10 cc0_scratch5 cc0_scratch6 cc0_scratch7 cc0_scratch8) Q) := by
  rw [k0_part52_eq_skeleton]; unfold k0_part52_skel
  iintro ⟨#HI, HO, HB, HX0, HX1, HX2, HX3, HX4, HSt0, HSt1, HSe0, HSe1, HT0, HT1, HU0, HU1, HC, HP, HAcc, HOut, HW10, HW11, HW30, HW31⟩ Hk
  iapply (bindW c)
  iapply (run_part1 A K c) $$ [HO HB]
  · isplitr; · iexact HI
    isplitl [HO]; · iexact HO
    iexact HB
  iintro ⟨HO, HB⟩
  iintro %w0 %w1
  try dsimp only
  iapply (bindW c)
  iapply (run_part2 A K c) $$ [HO HB HX0 HX1 HX2]
  · isplitr; · iexact HI
    isplitl [HO]; · iexact HO
    isplitl [HB]; · iexact HB
    isplitl [HX0]; · iexact HX0
    isplitl [HX1]; · iexact HX1
    iexact HX2
  iintro ⟨HO, HB, HX0, HX1, HX2⟩
  try dsimp only
  iapply (bindW c)
  iapply (run_part3 A K c) $$ []
  · iexact HI
  iintro -
  iintro %w0 %w1 %w2 %w3
  try dsimp only
  iapply (bindW c)
  iapply (run_part4 A K c) $$ []
  · iexact HI
  iintro -
  iintro %w0 %w1 %w2 %w3 %w4 %w5 %w6 %w7
  try dsimp only
  iapply (bindW c)
  iapply (run_part5 A K c) $$ []
  · iexact HI
  iintro -
  iintro %w0 %w1 %w2 %w3 %w4 %w5
  try dsimp only
  iapply (bindW c)
  iapply (run_part6 A K c) $$ []
  · iexact HI
  iintro -
  iintro %w0 %w1 %w2 %w3 %w4 %w5 %w6 %w7 %w8 %w9 %w10 %w11 %w12
  try dsimp only
  iapply (bindW c)
  iapply (run_part7 A K c fs) $$ [HX3 HSt0]
  · isplitr; · iexact HI
    isplitl [HX3]; · iexact HX3
    iexact HSt0
  iintro ⟨HX3, HSt0⟩
  iintro %w0 %w1 %w2 %v
  try dsimp only
  iapply (bindW c)
  iapply (run_part8 A K c fs) $$ [HSt0 HO HC HP HT0]
  · isplitr; · iexact HI
    isplitl [HSt0]; · iexact HSt0
    isplitl [HO]; · iexact HO
    isplitl [HC]; · iexact HC
    isplitl [HP]; · iexact HP
    iexact HT0
  iintro ⟨HO, HZ, HS1, HA0, HA1, HQ0, HR0⟩
  try dsimp only
  iapply (bindW c)
  iapply (run_part9 A K c) $$ [HR0 HO]
  · isplitr; · iexact HI
    isplitl [HR0]; · iexact HR0
    iexact HO
  iintro ⟨HR0, HO⟩
  try dsimp only
  iapply (bindW c)
  iapply (run_part10 A K c) $$ [HR0 HO]
  · isplitr; · iexact HI
    isplitl [HR0]; · iexact HR0
    iexact HO
  iintro ⟨HR0, HO⟩
  try dsimp only
  iapply (bindW c)
  iapply (run_part11 A K c) $$ [HR0 HO HX3]
  · isplitr; · iexact HI
    isplitl [HR0]; · iexact HR0
    isplitl [HO]; · iexact HO
    iexact HX3
  iintro ⟨HR0, HO, HX3⟩
  try dsimp only
  iapply (bindW c)
  iapply (run_part12 A K c fs) $$ [HX3 HSt1 HT1 HS1]
  · isplitr; · iexact HI
    isplitl [HX3]; · iexact HX3
    isplitl [HSt1]; · iexact HSt1
    isplitl [HT1]; · iexact HT1
    iexact HS1
  iintro ⟨HX3, HQ1, HR1⟩
  try dsimp only
  iapply (bindW c)
  iapply (run_part13 A K c) $$ [HR1 HO]
  · isplitr; · iexact HI
    isplitl [HR1]; · iexact HR1
    iexact HO
  iintro ⟨HR1, HO⟩
  try dsimp only
  iapply (bindW c)
  iapply (run_part14 A K c) $$ [HR1 HO]
  · isplitr; · iexact HI
    isplitl [HR1]; · iexact HR1
    iexact HO
  iintro ⟨HR1, HO⟩
  try dsimp only
  iapply (bindW c)
  iapply (run_part15 A K c) $$ [HR1 HO]
  · isplitr; · iexact HI
    isplitl [HR1]; · iexact HR1
    iexact HO
  iintro ⟨HR1, HO⟩
  try dsimp only
  iapply (bindW c)
  iapply (run_part16 A K c fa) $$ [HR1 HO HAcc HX0 HX4]
  · isplitr; · iexact HI
    isplitl [HR1]; · iexact HR1
    isplitl [HO]; · iexact HO
    isplitl [HAcc]; · iexact HAcc
    isplitl [HX0]; · iexact HX0
    iexact HX4
  iintro ⟨HR1, HO, HAcc, HX0, HX4⟩
  try dsimp only
  iapply (bindW c)
  iapply (run_part17 A K c) $$ [HW10 HO]
  · isplitr; · iexact HI
    isplitl [HW10]; · iexact HW10
    iexact HO
  iintro ⟨HW10, HO⟩
  try dsimp only
  iapply (bindW c)
  iapply (run_part18 A K c) $$ [HW10 HO]
  · isplitr; · iexact HI
    isplitl [HW10]; · iexact HW10
    iexact HO
  iintro ⟨HW10, HO⟩
  try dsimp only
  iapply (bindW c)
  iapply (run_part19 A K c) $$ [HW10 HO]
  · isplitr; · iexact HI
    isplitl [HW10]; · iexact HW10
    iexact HO
  iintro ⟨HW10, HO⟩
  try dsimp only
  iapply (bindW c)
  iapply (run_part20 A K c) $$ [HW10 HO]
  · isplitr; · iexact HI
    isplitl [HW10]; · iexact HW10
    iexact HO
  iintro ⟨HW10, HO⟩
  try dsimp only
  iapply (bindW c)
  iapply (run_part21 A K c fe) $$ [HSe0 HU0 HA0 HO]
  · isplitr; · iexact HI
    isplitl [HSe0]; · iexact HSe0
    isplitl [HU0]; · iexact HU0
    isplitl [HA0]; · iexact HA0
    iexact HO
  iintro ⟨HO, HG0⟩
  try dsimp only
  iapply (bindW c)
  iapply (run_part22 A K c) $$ [HG0 HO]
  · isplitr; · iexact HI
    isplitl [HG0]; · iexact HG0
    iexact HO
  iintro ⟨HG0, HO⟩
  try dsimp only
  iapply (bindW c)
  iapply (run_part23 A K c) $$ [HG0 HO]
  · isplitr; · iexact HI
    isplitl [HG0]; · iexact HG0
    iexact HO
  iintro ⟨HG0, HO⟩
  try dsimp only
  iapply (bindW c)
  iapply (run_part24 A K c _) $$ [HG0 HO HOut HAcc HW11]
  · isplitr; · iexact HI
    isplitl [HG0]; · iexact HG0
    isplitl [HO]; · iexact HO
    isplitl [HOut]; · iexact HOut
    isplitl [HAcc]; · iexact HAcc
    iexact HW11
  iintro ⟨HG0, HO, HOut, HAcc, HW11⟩
  try dsimp only
  iapply (bindW c)
  iapply (run_part25 A K c) $$ [HW11 HO]
  · isplitr; · iexact HI
    isplitl [HW11]; · iexact HW11
    iexact HO
  iintro ⟨HW11, HO⟩
  try dsimp only
  iapply (bindW c)
  iapply (run_part26 A K c) $$ [HW11 HO]
  · isplitr; · iexact HI
    isplitl [HW11]; · iexact HW11
    iexact HO
  iintro ⟨HW11, HO⟩
  try dsimp only
  iapply (bindW c)
  iapply (run_part27 A K c) $$ [HW11 HO]
  · isplitr; · iexact HI
    isplitl [HW11]; · iexact HW11
    iexact HO
  iintro ⟨HW11, HO⟩
  try dsimp only
  iapply (bindW c)
  iapply (run_part28 A K c fe) $$ [HW11 HO HSe1 HU1 HA1]
  · isplitr; · iexact HI
    isplitl [HW11]; · iexact HW11
    isplitl [HO]; · iexact HO
    isplitl [HSe1]; · iexact HSe1
    isplitl [HU1]; · iexact HU1
    iexact HA1
  iintro ⟨HW11, HO, HG1⟩
  try dsimp only
  iapply (bindW c)
  iapply (run_part29 A K c) $$ [HG1 HO]
  · isplitr; · iexact HI
    isplitl [HG1]; · iexact HG1
    iexact HO
  iintro ⟨HG1, HO⟩
  try dsimp only
  iapply (bindW c)
  iapply (run_part30 A K c) $$ [HG1 HO]
  · isplitr; · iexact HI
    isplitl [HG1]; · iexact HG1
    iexact HO
  iintro ⟨HG1, HO⟩
  try dsimp only
  iapply (bindW c)
  iapply (run_part31 A K c _) $$ [HG1 HO HOut]
  · isplitr; · iexact HI
    isplitl [HG1]; · iexact HG1
    isplitl [HO]; · iexact HO
    iexact HOut
  iintro ⟨HG1, HO, HOut⟩
  iintro %w0 %w1 %w2
  try dsimp only
  iapply (bindW c)
  iapply (run_part32 A K c _) $$ [HW30 HO HOut]
  · isplitr; · iexact HI
    isplitl [HW30]; · iexact HW30
    isplitl [HO]; · iexact HO
    iexact HOut
  iintro ⟨HW30, HO, HOut⟩
  iintro %w0 %w1
  try dsimp only
  iapply (bindW c)
  iapply (run_part33 A K c _) $$ [HW30 HOut HO]
  · isplitr; · iexact HI
    isplitl [HW30]; · iexact HW30
    isplitl [HOut]; · iexact HOut
    iexact HO
  iintro ⟨HW30, HOut, HO⟩
  try dsimp only
  iapply (bindW c)
  iapply (run_part34 A K c _) $$ [HW30 HO HOut]
  · isplitr; · iexact HI
    isplitl [HW30]; · iexact HW30
    isplitl [HO]; · iexact HO
    iexact HOut
  iintro ⟨HW30, HO, HOut⟩
  iintro %w0 %w1 %w2
  try dsimp only
  iapply (bindW c)
  iapply (run_part35 A K c _) $$ [HW30 HO HOut]
  · isplitr; · iexact HI
    isplitl [HW30]; · iexact HW30
    isplitl [HO]; · iexact HO
    iexact HOut
  iintro ⟨HW30, HO, HOut⟩
  iintro %w0 %w1
  try dsimp only
  iapply (bindW c)
  iapply (run_part36 A K c _) $$ [HW30 HOut HO]
  · isplitr; · iexact HI
    isplitl [HW30]; · iexact HW30
    isplitl [HOut]; · iexact HOut
    iexact HO
  iintro ⟨HW30, HOut, HO⟩
  try dsimp only
  iapply (bindW c)
  iapply (run_part37 A K c _) $$ [HW31 HO HOut]
  · isplitr; · iexact HI
    isplitl [HW31]; · iexact HW31
    isplitl [HO]; · iexact HO
    iexact HOut
  iintro ⟨HW31, HO, HOut⟩
  iintro %w0 %w1 %w2
  try dsimp only
  iapply (bindW c)
  iapply (run_part38 A K c _) $$ [HW31 HO HOut]
  · isplitr; · iexact HI
    isplitl [HW31]; · iexact HW31
    isplitl [HO]; · iexact HO
    iexact HOut
  iintro ⟨HW31, HO, HOut⟩
  iintro %w0 %w1
  try dsimp only
  iapply (bindW c)
  iapply (run_part39 A K c _) $$ [HW31 HOut HO]
  · isplitr; · iexact HI
    isplitl [HW31]; · iexact HW31
    isplitl [HOut]; · iexact HOut
    iexact HO
  iintro ⟨HW31, HOut, HO⟩
  try dsimp only
  iapply (bindW c)
  iapply (run_part40 A K c _) $$ [HW31 HO HOut]
  · isplitr; · iexact HI
    isplitl [HW31]; · iexact HW31
    isplitl [HO]; · iexact HO
    iexact HOut
  iintro ⟨HW31, HO, HOut⟩
  iintro %w0 %w1 %w2
  try dsimp only
  iapply (bindW c)
  iapply (run_part41 A K c _) $$ [HW31 HO HOut]
  · isplitr; · iexact HI
    isplitl [HW31]; · iexact HW31
    isplitl [HO]; · iexact HO
    iexact HOut
  iintro ⟨HW31, HO, HOut⟩
  iintro %w0 %w1
  try dsimp only
  ihave HW00 := (pool_next _ _ (wOut A c 0 0)) $$ HR0
  iapply (bindW c)
  iapply (run_part42 A K c _) $$ [HW31 HOut HW00 HO]
  · isplitr; · iexact HI
    isplitl [HW31]; · iexact HW31
    isplitl [HOut]; · iexact HOut
    isplitl [HW00]; · iexact HW00
    iexact HO
  iintro ⟨HW31, HOut, HW00, HO⟩
  try dsimp only
  iapply (bindW c)
  iapply (run_part43 A K c) $$ [HW00 HO]
  · isplitr; · iexact HI
    isplitl [HW00]; · iexact HW00
    iexact HO
  iintro ⟨HW00, HO⟩
  try dsimp only
  iapply (bindW c)
  iapply (run_part44 A K c) $$ [HW00 HO]
  · isplitr; · iexact HI
    isplitl [HW00]; · iexact HW00
    iexact HO
  iintro ⟨HW00, HO⟩
  try dsimp only
  ihave HW01 := (pool_next _ _ (wOut A c 0 1)) $$ HR1
  iapply (bindW c)
  iapply (run_part45 A K c) $$ [HW00 HO HW01]
  · isplitr; · iexact HI
    isplitl [HW00]; · iexact HW00
    isplitl [HO]; · iexact HO
    iexact HW01
  iintro ⟨HW00, HO, HW01⟩
  try dsimp only
  iapply (bindW c)
  iapply (run_part46 A K c) $$ [HW01 HO]
  · isplitr; · iexact HI
    isplitl [HW01]; · iexact HW01
    iexact HO
  iintro ⟨HW01, HO⟩
  try dsimp only
  iapply (bindW c)
  iapply (run_part47 A K c) $$ [HW01 HO]
  · isplitr; · iexact HI
    isplitl [HW01]; · iexact HW01
    iexact HO
  iintro ⟨HW01, HO⟩
  try dsimp only
  ihave HW20 := (pool_next _ _ (wOut A c 2 0)) $$ HG0
  iapply (bindW c)
  iapply (run_part48 A K c) $$ [HW01 HO HW20]
  · isplitr; · iexact HI
    isplitl [HW01]; · iexact HW01
    isplitl [HO]; · iexact HO
    iexact HW20
  iintro ⟨HW01, HO, HW20⟩
  try dsimp only
  iapply (bindW c)
  iapply (run_part49 A K c) $$ [HW20 HO]
  · isplitr; · iexact HI
    isplitl [HW20]; · iexact HW20
    iexact HO
  iintro ⟨HW20, HO⟩
  try dsimp only
  ihave HW21 := (pool_next _ _ (wOut A c 2 1)) $$ HG1
  iapply (bindW c)
  iapply (run_part50 A K c) $$ [HW20 HO HW21]
  · isplitr; · iexact HI
    isplitl [HW20]; · iexact HW20
    isplitl [HO]; · iexact HO
    iexact HW21
  iintro ⟨HW20, HO, HW21⟩
  try dsimp only
  iapply (bindW c)
  iapply (run_part51 A K c) $$ [HW21 HO]
  · isplitr; · iexact HI
    isplitl [HW21]; · iexact HW21
    iexact HO
  iintro ⟨HW21, HO⟩
  try dsimp only
  iapply (wp_done c rfl)
  iapply Hk
  isplitl [HO]; · iexact HO
  isplitl [HX0]; · iexact HX0
  isplitl [HX1]; · iexact HX1
  isplitl [HX2]; · iexact HX2
  isplitl [HX3]; · iexact HX3
  isplitl [HX4]; · iexact HX4
  isplitl [HW00]; · iexact HW00
  isplitl [HW01]; · iexact HW01
  isplitl [HW10]; · iexact HW10
  isplitl [HW11]; · iexact HW11
  isplitl [HW20]; · iexact HW20
  isplitl [HW21]; · iexact HW21
  isplitl [HW30]; · iexact HW30
  isplitl [HW31]; · iexact HW31
  isplitl [HAcc]; · iexact HAcc
  isplitl [HOut]; · iexact HOut
  isplitl [HZ]; · iexact HZ
  isplitl [HQ0]; · iexact HQ0
  iexact HQ1

/-- The whole body with the last three waits. -/
theorem run_body (fs : Vec F S2x512x256 .bf16) (fe : Vec F S2x64x256 .bf16) (fa : Vec F S2x512x256 .f32) {Q : PUnit → sProp 𝕄} :
    iprop(Inv A K ∗ owesE (F := F) c (oB 0) ∗ pool 0 (barIn (F := F) c) (fun _ => iprop(emp)) ∗ wh c cc0_stg0_0 (A.x c) ∗ wh c cc0_stg1_0 (A.w c) ∗ wh c cc0_stg2_0 (A.i c) ∗ wh c cc0_stg3_0 (A.e c) ∗ wh c cc0_stg4_0 (A.h c) ∗ (((c : Thread nD τ).loc cc0_scratch1) ↦[strSet 0]{fullShare} fs) ∗ (((c : Thread nD τ).loc cc0_scratch1) ↦[strSet 1]{fullShare} fs) ∗ (((c : Thread nD τ).loc cc0_scratch3) ↦[segSet 0]{fullShare} fe) ∗ (((c : Thread nD τ).loc cc0_scratch3) ↦[segSet 1]{fullShare} fe) ∗ bigSep Finset.univ (tk (F := F) c 0 1 0) ∗ bigSep Finset.univ (tk (F := F) c 0 1 1) ∗ bigSep Finset.univ (tk (F := F) c 2 3 0) ∗ bigSep Finset.univ (tk (F := F) c 2 3 1) ∗ cred (tallyAt (barCell c) () 7) ∗ atPos ER (barCell c) 0 ∅ 0 ∗ wh c cc0_scratch0 fa ∗ OutS A c [] ∗ pool 0 (wIn (F := F) c 1 0) (wOut A c 1 0) ∗ pool 0 (wIn (F := F) c 1 1) (wOut A c 1 1) ∗ pool 0 (wIn (F := F) c 3 0) (wOut A c 3 0) ∗ pool 0 (wIn (F := F) c 3 1) (wOut A c 3 1))
      ⊢ iprop(((owesE (F := F) c (oA1 7) ∗ wh c cc0_stg0_0 (A.x c) ∗ wh c cc0_stg1_0 (A.w c) ∗ wh c cc0_stg2_0 (A.i c) ∗ wh c cc0_stg3_0 (A.e c) ∗ wh c cc0_stg4_0 (A.h c) ∗ pool 7 (wIn (F := F) c 0 0) (wOut A c 0 0) ∗ pool 7 (wIn (F := F) c 0 1) (wOut A c 0 1) ∗ pool 7 (wIn (F := F) c 1 0) (wOut A c 1 0) ∗ pool 7 (wIn (F := F) c 1 1) (wOut A c 1 1) ∗ pool 7 (wIn (F := F) c 2 0) (wOut A c 2 0) ∗ pool 7 (wIn (F := F) c 2 1) (wOut A c 2 1) ∗ pool 7 (wIn (F := F) c 3 0) (wOut A c 3 0) ∗ pool 7 (wIn (F := F) c 3 1) (wOut A c 3 1) ∗ wh c cc0_scratch0 (accC A c) ∗ OutS A c [(1, bk c 6), (1, bk c 5), (1, bk c 4), (1, bk c 3), (1, bk c 2), (1, bk c 1), (1, bk c 0), (0, bk c 6), (0, bk c 5), (0, bk c 4), (0, bk c 3), (0, bk c 2), (0, bk c 1), (0, bk c 0), (1, c), (0, c)] ∗ semVal (barCell c) 0 ∗ stPt A c 0 c ∗ stPt A c 1 c) -∗ Q ⟨⟩) -∗ WP c (cc0_body a0M h0 a1M h1 a2M h2 a3M h3 a4M h4 a5M h5 accM h6 stM h7 laM h8 seM h9 agM h10 cc0_scratch5 cc0_scratch6 cc0_scratch7 cc0_scratch8) Q) := by
  rw [cc0_body_eq_skeleton]; unfold cc0_body_skel
  iintro ⟨#HI, HPre⟩ Hk
  iapply (bindW c)
  iapply (run_parts A K c fs fe fa) $$ [HPre]
  · isplitr; · iexact HI
    iexact HPre
  iintro ⟨HO, HX0, HX1, HX2, HX3, HX4, HW00, HW01, HW10, HW11, HW20, HW21, HW30, HW31, HAcc, HOut, HZ, HQ0, HQ1⟩
  simp only [semSignalWord, semWaitWord, Prog.lift, Prog.bind_op, Prog.bind_ret, Prog.pure_eq_ret, wp_deviceId]
  iapply (step_wait A K c 2 1 4 (oA1 7) (by decide) (sem2 1 4) credit_se) $$ [HO HW21]
  · isplitr; · iexact HI
    isplitl [HO]; · iexact HO
    iexact HW21
  iintro ⟨HO, HW21⟩
  iapply (step_wait A K c 2 1 5 (oA1 7) (by decide) (sem2 1 5) credit_se) $$ [HO HW21]
  · isplitr; · iexact HI
    isplitl [HO]; · iexact HO
    iexact HW21
  iintro ⟨HO, HW21⟩
  iapply (step_wait A K c 2 1 6 (oA1 7) (by decide) (sem2 1 6) credit_se) $$ [HO HW21]
  · isplitr; · iexact HI
    isplitl [HO]; · iexact HO
    iexact HW21
  iintro ⟨HO, HW21⟩
  iapply (wp_done c rfl)
  iapply Hk
  isplitl [HO]; · iexact HO
  isplitl [HX0]; · iexact HX0
  isplitl [HX1]; · iexact HX1
  isplitl [HX2]; · iexact HX2
  isplitl [HX3]; · iexact HX3
  isplitl [HX4]; · iexact HX4
  isplitl [HW00]; · iexact HW00
  isplitl [HW01]; · iexact HW01
  isplitl [HW10]; · iexact HW10
  isplitl [HW11]; · iexact HW11
  isplitl [HW20]; · iexact HW20
  isplitl [HW21]; · iexact HW21
  isplitl [HW30]; · iexact HW30
  isplitl [HW31]; · iexact HW31
  isplitl [HAcc]; · iexact HAcc
  isplitl [HOut]; · iexact HOut
  isplitl [HZ]; · iexact HZ
  isplitl [HQ0]; · iexact HQ0
  iexact HQ1

end Cert.KernelIdeal.Hand

end
-- ==== Proof.IdEnds.lean ====
/-
The body from whole buffers to whole buffers.
-/
module

public import proofs.«01_k».proof.Proof.IdBody

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536

variable (A : Ins F) (K : Dev nD × CI → ℕ) (c : Dev nD)
  {h0 : a0M.IsWhole} {h1 : a1M.IsWhole} {h2 : a2M.IsWhole} {h3 : a3M.IsWhole} {h4 : a4M.IsWhole} {h5 : a5M.IsWhole}
  {h6 : accM.IsWhole} {h7 : stM.IsWhole} {h8 : laM.IsWhole} {h9 : seM.IsWhole} {h10 : agM.IsWhole}

/-- What device `c` holds of the protocol when its body starts: the barrier's credit and place, the tokens of the duties it pays,
and for each receive cell the credit and the place. -/
def Mine : sProp 𝕄 :=
  iprop(cred (tallyAt (barCell c) () 7) ∗ atPos ER (barCell c) 0 ∅ 0
    ∗ (bigSep Finset.univ fun r : Fin 7 => dutyTok ER (barCell (pr c r)) 0 r)
    ∗ (bigSep Finset.univ (tk (F := F) c 0 1 0) ∗ bigSep Finset.univ (tk (F := F) c 0 1 1))
    ∗ (bigSep Finset.univ (tk (F := F) c 2 3 0) ∗ bigSep Finset.univ (tk (F := F) c 2 3 1))
    ∗ (bigSep Finset.univ (wIn (F := F) c 1 0) ∗ bigSep Finset.univ (wIn (F := F) c 1 1))
    ∗ (bigSep Finset.univ (wIn (F := F) c 3 0) ∗ bigSep Finset.univ (wIn (F := F) c 3 1)))

/-- The transfer cells of one kind and stream, closed. -/
def shut (k : Fin 4) (s : Fin 2) : sProp 𝕄 := bigSep Finset.univ fun r : Fin 7 => semVal (dcell c k s r) 0
/-- Every cell of device `c`, closed. -/
def Shut : sProp 𝕄 :=
  iprop(semVal (barCell c) 0 ∗ (shut c 0 0 ∗ shut c 0 1) ∗ (shut c 1 0 ∗ shut c 1 1) ∗ (shut c 2 0 ∗ shut c 2 1) ∗ (shut c 3 0 ∗ shut c 3 1))

/-- The five argument windows. -/
def Args : sProp 𝕄 :=
  iprop(wh c cc0_stg0_0 (A.x c) ∗ wh c cc0_stg1_0 (A.w c) ∗ wh c cc0_stg2_0 (A.i c) ∗ wh c cc0_stg3_0 (A.e c) ∗ wh c cc0_stg4_0 (A.h c))
/-- The five scratch buffers, at some contents. -/
def Scr : sProp 𝕄 :=
  iprop((∃ f : Vec F S2x512x256 .f32, wh c cc0_scratch0 f) ∗ (∃ f : Vec F S2x512x256 .bf16, wh c cc0_scratch1 f)
    ∗ (∃ f : Vec F S2x7x64x256 .bf16, wh c cc0_scratch2 f) ∗ (∃ f : Vec F S2x64x256 .bf16, wh c cc0_scratch3 f)
    ∗ (∃ f : Vec F S2x512x256 .bf16, wh c cc0_scratch4 f))

/-- A finished pool of waits: its cells closed, and what they handed over. -/
theorem pool_shut (k : Fin 4) (s : Fin 2) :
    pool 7 (wIn (F := F) c k s) (wOut A c k s) ⊢ iprop(shut c k s ∗ bigSep Finset.univ fun r => dmaPay A c k s r) := by
  refine (pool_end _ _).trans ?_
  unfold wOut shut
  rw [bigSep_sep']

theorem bar_start : iprop((bigSep Finset.univ fun r : Fin 7 => dutyTok ER (barCell (pr c r)) 0 r) ∗ bigSep Finset.univ fun r => giv (F := F) c r)
    ⊢ pool 0 (barIn (F := F) c) (fun _ => iprop(emp)) := by
  refine BIBase.Entails.trans ?_ (pool_start _ _)
  unfold barIn
  rw [bigSep_sep']

theorem out_start (f : Vec F S512x512 .f32) : wh c cc0_stg5_0 f ⊢ OutS A c [] := by
  unfold OutS
  iintro H
  iexists f
  isplitr; · (ipureintro; exact fun p hp => absurd hp List.not_mem_nil)
  iexact H

theorem out_end : OutS A c [(1, bk c 6), (1, bk c 5), (1, bk c 4), (1, bk c 3), (1, bk c 2), (1, bk c 1), (1, bk c 0), (0, bk c 6), (0, bk c 5), (0, bk c 4), (0, bk c 3), (0, bk c 2), (0, bk c 1), (0, bk c 0), (1, c), (0, c)] ⊢ wh c cc0_stg5_0 (outC A c) :=
  out_join A c _ fun s t => by
    rcases bk_cover c t with h | ⟨r, h⟩
    · subst h; fin_cases s <;> simp
    · subst h; fin_cases s <;> fin_cases r <;> simp

set_option maxHeartbeats 1000000 in
/-- The body of device `c`: from its whole buffers and its part of the protocol, the result buffer ends at `outC`, the arguments
are as they were, every cell is closed. -/
theorem body_wp {Q : PUnit → sProp 𝕄} :
    iprop(Inv A K ∗ owesE (F := F) c obAll ∗ Mine c ∗ Args A c ∗ (∃ f : Vec F S512x512 .f32, wh c cc0_stg5_0 f) ∗ Scr c)
      ⊢ iprop(((owesE (F := F) c [] ∗ Args A c ∗ wh c cc0_stg5_0 (outC A c) ∗ Scr c ∗ Shut c) -∗ Q ⟨⟩) -∗ WP c (cc0_body a0M h0 a1M h1 a2M h2 a3M h3 a4M h4 a5M h5 accM h6 stM h7 laM h8 seM h9 agM h10 cc0_scratch5 cc0_scratch6 cc0_scratch7 cc0_scratch8) Q) := by
  unfold Mine Args Scr Shut
  iintro ⟨#HI, HO, ⟨HC, HP, HTk, ⟨HT0, HT1⟩, ⟨HU0, HU1⟩, ⟨HW10, HW11⟩, HW30, HW31⟩, ⟨HX0, HX1, HX2, HX3, HX4⟩, ⟨%fo, HOut⟩, ⟨%fa, HAcc⟩, ⟨%fs, HSt⟩, ⟨%fl, HLa⟩, ⟨%fe, HSe⟩, ⟨%g, HAg⟩⟩ Hk
  ihave HG := (give_all c fl g) $$ [HLa HAg]
  · isplitl [HLa] <;> iassumption
  icases HG with ⟨HG, HK0, HK1⟩
  ihave HB := (bar_start c) $$ [HTk HG]
  · isplitl [HTk] <;> iassumption
  ihave HSt := (st_halves c fs).1 $$ HSt
  icases HSt with ⟨HSt0, HSt1⟩
  ihave HSe := (se_halves c fe).1 $$ HSe
  icases HSe with ⟨HSe0, HSe1⟩
  ihave HOut := (out_start A c fo) $$ HOut
  ihave HW10 := (pool_start _ (wOut A c 1 0)) $$ HW10
  ihave HW11 := (pool_start _ (wOut A c 1 1)) $$ HW11
  ihave HW30 := (pool_start _ (wOut A c 3 0)) $$ HW30
  ihave HW31 := (pool_start _ (wOut A c 3 1)) $$ HW31
  iapply (run_body A K c fs fe fa) $$ [HO HB HX0 HX1 HX2 HX3 HX4 HSt0 HSt1 HSe0 HSe1 HT0 HT1 HU0 HU1 HC HP HAcc HOut HW10 HW11 HW30 HW31]
  · isplitr; · iexact HI
    isplitl [HO]; · iexact HO
    isplitl [HB]; · iexact HB
    isplitl [HX0]; · iexact HX0
    isplitl [HX1]; · iexact HX1
    isplitl [HX2]; · iexact HX2
    isplitl [HX3]; · iexact HX3
    isplitl [HX4]; · iexact HX4
    isplitl [HSt0]; · iexact HSt0
    isplitl [HSt1]; · iexact HSt1
    isplitl [HSe0]; · iexact HSe0
    isplitl [HSe1]; · iexact HSe1
    isplitl [HT0]; · iexact HT0
    isplitl [HT1]; · iexact HT1
    isplitl [HU0]; · iexact HU0
    isplitl [HU1]; · iexact HU1
    isplitl [HC]; · iexact HC
    isplitl [HP]; · iexact HP
    isplitl [HAcc]; · iexact HAcc
    isplitl [HOut]; · iexact HOut
    isplitl [HW10]; · iexact HW10
    isplitl [HW11]; · iexact HW11
    isplitl [HW30]; · iexact HW30
    iexact HW31
  iintro ⟨HO, HX0, HX1, HX2, HX3, HX4, HW00, HW01, HW10, HW11, HW20, HW21, HW30, HW31, HAcc, HOut, HZ, HQ0, HQ1⟩
  ihave HW00 := (pool_shut A c 0 0) $$ HW00
  icases HW00 with ⟨HZ00, HW00⟩
  ihave HW01 := (pool_shut A c 0 1) $$ HW01
  icases HW01 with ⟨HZ01, HW01⟩
  ihave HW10 := (pool_shut A c 1 0) $$ HW10
  icases HW10 with ⟨HZ10, HW10⟩
  ihave HW11 := (pool_shut A c 1 1) $$ HW11
  icases HW11 with ⟨HZ11, HW11⟩
  ihave HW20 := (pool_shut A c 2 0) $$ HW20
  icases HW20 with ⟨HZ20, HW20⟩
  ihave HW21 := (pool_shut A c 2 1) $$ HW21
  icases HW21 with ⟨HZ21, HW21⟩
  ihave HW30 := (pool_shut A c 3 0) $$ HW30
  icases HW30 with ⟨HZ30, HW30⟩
  ihave HW31 := (pool_shut A c 3 1) $$ HW31
  icases HW31 with ⟨HZ31, HW31⟩
  ihave HSt := (st_join A c) $$ [HQ0 HQ1 HW00 HW01]
  · isplitl [HQ0 HW00]
    · isplitl [HQ0] <;> iassumption
    isplitl [HQ1] <;> iassumption
  ihave HLa := (la_join A c) $$ [HW10 HW11]
  · isplitl [HW10] <;> iassumption
  ihave HSe := (se_join A c) $$ [HW20 HW21]
  · isplitl [HW20] <;> iassumption
  ihave HAg := (ag_join A c g) $$ [HK0 HK1 HW30 HW31]
  · isplitl [HK0 HW30]
    · isplitl [HK0] <;> iassumption
    isplitl [HK1] <;> iassumption
  ihave HOut := (out_end A c) $$ HOut
  iapply Hk
  isplitl [HO]; · iexact HO
  isplitl [HX0 HX1 HX2 HX3 HX4]
  · isplitl [HX0]; · iexact HX0
    isplitl [HX1]; · iexact HX1
    isplitl [HX2]; · iexact HX2
    isplitl [HX3] <;> iassumption
  isplitl [HOut]; · iexact HOut
  isplitl [HAcc HSt HLa HSe HAg]
  · isplitl [HAcc]; · (iexists _; iexact HAcc)
    isplitl [HSt]; · iexact HSt
    isplitl [HLa]; · iexact HLa
    isplitl [HSe] <;> iassumption
  isplitl [HZ]; · iexact HZ
  isplitl [HZ00 HZ01]; · (isplitl [HZ00] <;> iassumption)
  isplitl [HZ10 HZ11]; · (isplitl [HZ10] <;> iassumption)
  isplitl [HZ20 HZ21]; · (isplitl [HZ20] <;> iassumption)
  isplitl [HZ30] <;> iassumption

end Cert.KernelIdeal.Hand

end
-- ==== Proof.IdGhost.lean ====
/-
Setting the protocol up: cells, tokens and credit dealt to the devices.
-/
module

public import proofs.«01_k».proof.Proof.IdEnds
public import proofs.«01_k».proof.Proof.Gen.KernelIdeal.Launch
public import Idealize.ShloMosaic.Lib.Pipeline.Launch
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 16384

variable (A : Ins F) (K : Dev nD × CI → ℕ) (c : Dev nD)

/-! ## Conjunctions over a device's cells -/

theorem univ_opt : (Finset.univ : Finset CI).erase none = (Finset.univ : Finset (Fin 4 × Fin 2 × Fin 7)).map Function.Embedding.some := by
  ext x
  cases x with
  | none => simp
  | some y => simp
theorem bigSep_opt (Φ : CI → sProp 𝕄) :
    bigSep Finset.univ Φ = iprop(Φ none ∗ bigSep Finset.univ fun x : Fin 4 × Fin 2 × Fin 7 => Φ (some x)) := by
  rw [bigSep_univ_at Φ none, univ_opt, bigSep_map]; rfl
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- All transfer cells: kind by kind, both streams of each. -/
def byKind (Φ : Fin 4 → Fin 2 → Fin 7 → sProp 𝕄) : sProp 𝕄 :=
  iprop((bigSep Finset.univ (Φ 0 0) ∗ bigSep Finset.univ (Φ 0 1)) ∗ (bigSep Finset.univ (Φ 1 0) ∗ bigSep Finset.univ (Φ 1 1))
    ∗ (bigSep Finset.univ (Φ 2 0) ∗ bigSep Finset.univ (Φ 2 1)) ∗ (bigSep Finset.univ (Φ 3 0) ∗ bigSep Finset.univ (Φ 3 1)))
theorem bigSep_kinds (Φ : Fin 4 → Fin 2 → Fin 7 → sProp 𝕄) :
    (bigSep Finset.univ fun x : Fin 4 × Fin 2 × Fin 7 => Φ x.1 x.2.1 x.2.2) = byKind Φ := by
  rw [bigSep_univ_prod, bigSep_four]
  unfold byKind
  simp only [bigSep_univ_prod, bigSep_two]

/-- Reindexing: at each place, the devices are the devices that many places on. -/
def spin : Dev nD × Fin 7 ≃ Dev nD × Fin 7 where
  toFun x := (pr x.1 x.2, x.2)
  invFun x := (bk x.1 x.2, x.2)
  left_inv x := Prod.ext (bk_pr x.1 x.2) rfl
  right_inv x := Prod.ext (pr_bk x.1 x.2) rfl
theorem bigSep_spin (Φ : Dev nD → Fin 7 → sProp 𝕄) :
    (bigSep Finset.univ fun c => bigSep Finset.univ fun r => Φ c r) = bigSep Finset.univ fun c => bigSep Finset.univ fun r => Φ (pr c r) r := by
  rw [← bigSep_univ_prod (fun x : Dev nD × Fin 7 => Φ x.1 x.2), ← bigSep_univ_prod (fun x : Dev nD × Fin 7 => Φ (pr x.1 x.2) x.2),
    bigSep_univ_equiv spin (fun x : Dev nD × Fin 7 => Φ x.1 x.2)]
  rfl

/-! ## The cells and their tokens as minted -/

theorem dsem_inj {k k' : Fin 4} {s s' : Fin 2} {r r' : Fin 7} (h : dsem k s r = dsem k' s' r') : k = k' ∧ s = s' ∧ r = r' := by
  have h := congrArg Fin.val h
  simp only [dsem] at h
  have := k.isLt; have := k'.isLt; have := s.isLt; have := s'.isLt; have := r.isLt; have := r'.isLt
  refine ⟨Fin.ext ?_, Fin.ext ?_, Fin.ext ?_⟩ <;> omega
theorem csem_inj : Function.Injective csem := by
  intro i j h
  rcases i with _ | ⟨k, s, r⟩ <;> rcases j with _ | ⟨k', s', r'⟩
  · rfl
  · cases h
  · cases h
  · have h : dsem k s r = dsem k' s' r' := by injection h
    obtain ⟨rfl, rfl, rfl⟩ := dsem_inj h
    rfl
theorem kcell_inj : Function.Injective kcell := by
  rintro ⟨c, i⟩ ⟨c', i'⟩ h
  have h1 : c = c' := congrArg (fun g : GSem nD τ sig => g.1.1) h
  have h2 : csem i = csem i' := congrArg Prod.snd h
  rw [h1, csem_inj h2]
def allCells : Finset (GSem nD τ sig) := Finset.univ.map ⟨kcell, kcell_inj⟩
/-- Tokens are minted for seven duties at every cell; a transfer cell uses the first. -/
def tokOf (x : (Dev nD × CI) × Fin 7) : GSem nD τ sig × ℕ × Fin 7 := (kcell x.1, 0, x.2)
theorem tokOf_inj : Function.Injective tokOf := by
  rintro ⟨a, r⟩ ⟨b, r'⟩ h
  have h1 : a = b := kcell_inj (congrArg Prod.fst h)
  have h2 : r = r' := congrArg (fun x : GSem nD τ sig × ℕ × Fin 7 => x.2.2) h
  rw [h1, h2]
def allToks : Finset (GSem nD τ sig × ℕ × Fin 7) := Finset.univ.map ⟨tokOf, tokOf_inj⟩

def u₀ : UU := (initOf (Pipeline.cells cfgs cellOf_inj) (Pipeline.launchToks cfgs cellOf_inj), initOf allCells allToks)

def toks : sProp 𝕄 := bigSep Finset.univ fun i : CI => bigSep Finset.univ fun r : Fin 7 => dutyTok ER (kcell (c, i)) 0 r
def G : sProp 𝕄 :=
  iprop((bigSep Finset.univ fun i : CI => roundState ER (Rd A) (kcell (c, i)) 0)
    ∗ (bigSep Finset.univ fun i : CI => iprop(atPos ER (kcell (c, i)) 0 ∅ 0 ∗ reached ER (kcell (c, i)) 0)) ∗ toks c)

theorem fund : BI.own (ER (initOf allCells allToks)) ⊢ (|==> bigSep Finset.univ (G A) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks
    rw [bigSep_map, bigSep_univ_prod, bigSep_univ_prod]; rfl
  iintro HX
  imod (Rounds.fund ER (Rd A) allCells allToks) $$ HX with ⟨Hst, Hr, Hat, Htok⟩
  imodintro
  ihave Hst := (Entails.of_eq (hX fun g => roundState ER (Rd A) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at launch -/

/-- The kernel's own semaphores: the transfer cells. -/
abbrev osem (x : Fin 4 × Fin 2 × Fin 7) : SemLoc sig := .dma (dsem x.1 x.2.1 x.2.2)
theorem ownSems0_kinds :
    (Pipeline.ownSems0 (Ix := Unit) (Name := ℕ) (U := UU) (Lvl := ℕ) (Val := Elt F) (τ := τ) osem c : sProp 𝕄)
      = byKind (fun k s r => semVal (dcell c k s r) 0) := by
  unfold Pipeline.ownSems0
  exact bigSep_kinds fun k s r => semVal (dcell c k s r) 0
theorem unscopedSems0_bar : (unscopedSems0 c : sProp 𝕄) = semVal (barCell c) 0 := by
  unfold unscopedSems0; rw [bigSep_eq_bigSepL_of_eq [SemLoc.reg barS] (by decide) (by decide)]; rfl
theorem sems0_eq :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_bar, bigSep_opt]
  unfold Pipeline.ownSems0
  iintro ⟨HS, HB⟩
  isplitl [HB]; · iexact HB
  iexact HS

theorem core_alloc :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun i => iprop(∃ κ : ℕ, cellInv ER (Rd A) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd A) (kcell (c, i)) 0)
      ⊢ (|={Set.univ}=> bigSep Finset.univ fun i => iprop(∃ κ : ℕ, cellInv ER (Rd A) κ (kcell (c, i))) : sProp 𝕄) from by
        rw [← bigSep_sep']
        exact (bigSep_mono fun i _ => (Rounds.body_intro ER (Rd A) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

/-- The tokens of device `c`'s own cells that are used: -/
def ownToks : sProp 𝕄 :=
  iprop((bigSep Finset.univ fun r : Fin 7 => dutyTok ER (barCell c) 0 r) ∗ byKind fun k s r => dutyTok ER (dcell c k s r) 0 0)
/-- the tokens of the duties it pays: a signal's and a landing's duty is at the receiving device's cell. -/
def payToks : sProp 𝕄 :=
  iprop((bigSep Finset.univ fun r : Fin 7 => dutyTok ER (barCell (pr c r)) 0 r)
    ∗ byKind fun k s r => dutyTok ER (dcell (if k = 1 ∨ k = 3 then pr c r else c) k s r) 0 0)

theorem toks_own : (toks c : sProp 𝕄) ⊢ ownToks c := by
  unfold toks ownToks
  rw [bigSep_opt, ← bigSep_kinds]
  exact BIClass.sep_mono (BI.Entails.refl _) (bigSep_mono fun x _ => bigSep_elim (Finset.mem_univ (0 : Fin 7)))

theorem toks_around : (bigSep Finset.univ fun c : Dev nD => (ownToks c : sProp 𝕄)) = bigSep Finset.univ fun c : Dev nD => payToks c := by
  unfold ownToks payToks byKind
  simp only [bigSep_sep']
  rw [bigSep_spin (fun c r => dutyTok ER (barCell c) 0 r), bigSep_spin (fun c r => dutyTok ER (dcell c 1 0 r) 0 0),
    bigSep_spin (fun c r => dutyTok ER (dcell c 1 1 r) 0 0), bigSep_spin (fun c r => dutyTok ER (dcell c 3 0 r) 0 0),
    bigSep_spin (fun c r => dutyTok ER (dcell c 3 1 r) 0 0)]
  rfl

def records : sProp 𝕄 :=
  iprop((bigSep Finset.univ fun ck : Dev nD × CI => cellInv ER (Rd A) (K ck) (kcell ck))
    ∗ bigSep Finset.univ fun ck : Dev nD × CI => reached ER (kcell ck) 0)
instance records_persistent : BI.Persistent (records A K) := by unfold records; infer_instance

/-- What stays with device `c`: its places and the tokens it pays with. -/
def places : sProp 𝕄 := iprop(atPos ER (barCell c) 0 ∅ 0 ∗ byKind fun k s r => atPos ER (dcell c k s r) 0 ∅ 0)
def G' : sProp 𝕄 := iprop(∃ K, records A K ∗ places c ∗ payToks c)

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_eq : (bigSep Finset.univ fun i : CI => (atPos ER (kcell (c, i)) 0 ∅ 0 : sProp 𝕄)) = places c := by
  unfold places
  rw [bigSep_opt, ← bigSep_kinds]; rfl

theorem regroup :
    (bigSep Finset.univ fun c : Dev nD => iprop((bigSep Finset.univ fun i => iprop(∃ κ : ℕ, cellInv ER (Rd A) κ (kcell (c, i))))
          ∗ (bigSep Finset.univ fun i => iprop(atPos ER (kcell (c, i)) 0 ∅ 0 ∗ reached ER (kcell (c, i)) 0)) ∗ toks c) : sProp 𝕄)
      ⊢ bigSep Finset.univ (G' A) := by
  simp only [bigSep_sep']
  rw [← bigSep_univ_prod (fun ck : Dev nD × CI => iprop(∃ κ : ℕ, cellInv ER (Rd A) κ (kcell ck))),
    ← bigSep_univ_prod (fun ck : Dev nD × CI => (reached ER (kcell ck) 0 : sProp 𝕄)),
    bigSep_congr (s := Finset.univ) (fun (c : Dev nD) _ => places_eq (F := F) c)]
  iintro ⟨HI, ⟨Hat, #HR⟩, Htok⟩
  ihave HK := (BI.bigSep_exists_pi Finset.univ (fun (ck : Dev nD × CI) (κ : ℕ) => (cellInv ER (Rd A) κ (kcell ck) : sProp 𝕄))) $$ HI
  icases HK with ⟨%K, #HI⟩
  ihave Htk := (show (bigSep Finset.univ fun c : Dev nD => (toks c : sProp 𝕄)) ⊢ bigSep Finset.univ fun c : Dev nD => payToks c from
    (bigSep_mono fun c _ => toks_own (F := F) c).trans (Entails.of_eq (toks_around (F := F)))) $$ Htok
  iapply (with_records (R := records A K) (Φ := fun c => iprop(places c ∗ payToks c)) fun c _ => (show iprop(records A K ∗ places c ∗ payToks c) ⊢ G' A c from by
    unfold G'; iintro H; iexists K; iexact H))
  isplitr
  · unfold records; isplitl; · iexact HI
    iexact HR
  · rw [bigSep_sep']
    isplitl [Hat]; · iexact Hat
    iexact Htk

/-- The one step that sets up every device's cells. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credit at launch -/

/-- The semaphore a payment raises, and the place of the device it raises it at. -/
def obSem : Ob → SemLoc sig
  | .bar _ => .reg barS
  | .rs s r => .dma (dsem 1 s r)
  | .ag s r => .dma (dsem 3 s r)
def obPlace : Ob → Fin 7
  | .bar r => r
  | .rs _ r => r
  | .ag _ r => r
theorem obCell_eq (d : Dev nD) (x : Ob) : obCell d x = ((pr d (obPlace x) : Thread nD τ), obSem x) := by cases x <;> rfl

theorem oSum_apply (d : Dev nD) (l : List Ob) (g : GSem nD τ sig) :
    oSum d l g () = (l.map fun x => if g = obCell d x then obAmt x else 0).sum := by
  induction l with
  | nil => rfl
  | cons x l ih =>
    unfold oSum
    rw [Pi.add_apply, Finsupp.add_apply, ih, tallyAt_apply, List.map_cons, List.sum_cons, Nat.add_comm]
    congr 1
    by_cases h : g = obCell d x
    · rw [if_pos ⟨h, rfl⟩, if_pos h]
    · rw [if_neg (fun h' => h h'.1), if_neg h]

theorem sum_one (sm : SemLoc sig) (x : Ob) (n : ℕ) :
    (∑ d : Dev nD, if (((c : Thread nD τ), sm) : GSem nD τ sig) = obCell d x then n else 0) = if sm = obSem x then n else 0 := by
  by_cases hs : sm = obSem x
  · rw [if_pos hs, Finset.sum_congr rfl (g := fun d : Dev nD => if d = bk c (obPlace x) then n else 0) (fun d _ => ?_),
      Finset.sum_ite_eq' Finset.univ (bk c (obPlace x)) fun _ => n, if_pos (Finset.mem_univ _)]
    rw [obCell_eq, hs]
    by_cases h : d = bk c (obPlace x)
    · rw [if_pos h, h, pr_bk, if_pos rfl]
    · rw [if_neg h, if_neg]
      intro h'
      refine h ?_
      have h1 : c = pr d (obPlace x) := congrArg (fun g : GSem nD τ sig => g.1.1) h'
      rw [h1, bk_pr]
  · rw [if_neg hs]
    refine Finset.sum_eq_zero fun d _ => if_neg fun h => hs ?_
    rw [obCell_eq] at h
    exact congrArg Prod.snd h

theorem sum_all (sm : SemLoc sig) (l : List Ob) :
    (∑ d : Dev nD, oSum d l ((c : Thread nD τ), sm) ()) = (l.map fun x => if sm = obSem x then obAmt x else 0).sum := by
  simp only [oSum_apply]
  induction l with
  | nil => simp
  | cons x l ih => simp only [List.map_cons, List.sum_cons, Finset.sum_add_distrib, ih, sum_one]

theorem sum_count (sm : SemLoc sig) (n : ℕ) (l : List Ob) (h : ∀ x ∈ l, sm = obSem x → obAmt x = n) :
    (l.map fun x => if sm = obSem x then obAmt x else 0).sum = l.countP (fun x => decide (sm = obSem x)) * n := by
  induction l with
  | nil => simp
  | cons x l ih =>
    rw [List.map_cons, List.sum_cons, ih fun y hy => h y (List.mem_cons_of_mem _ hy), List.countP_cons]
    by_cases hx : sm = obSem x
    · rw [if_pos hx, h x (List.mem_cons_self ..) hx, if_pos (decide_eq_true hx), Nat.add_mul, Nat.one_mul, Nat.add_comm]
    · rw [if_neg hx, if_neg (by simpa using hx), Nat.zero_add, Nat.add_zero]

theorem launch_cell (sm : SemLoc sig) (k n : ℕ) (h : ∀ x ∈ obAll, sm = obSem x → obAmt x = n)
    (hk : obAll.countP (fun x => decide (sm = obSem x)) = k) :
    tallyOn ((c : Thread nD τ), sm) (launchCredit (Pipeline.owing O₀) 0 ((c : Thread nD τ), sm))
      = (tallyAt ((c : Thread nD τ), sm) () (k * n) : CellTallies nD τ sig Unit) := by
  unfold tallyAt; refine congrArg _ (Finsupp.ext fun u => ?_); cases u
  rw [Pipeline.launchCredit_owing, Finsupp.single_eq_same]
  unfold O₀
  rw [sum_all, sum_count sm n obAll h, hk]

theorem amt_bar : ∀ x ∈ obAll, (SemLoc.reg barS : SemLoc sig) = obSem x → obAmt x = 1 := by
  intro x _ h; cases x with
  | bar r => rfl
  | rs s r => cases h
  | ag s r => cases h
theorem amt_dma (q : DmaSem sig) : ∀ x ∈ obAll, (SemLoc.dma q : SemLoc sig) = obSem x → obAmt x = N := by
  intro x _ h; cases x with
  | bar r => cases h
  | rs s r => rfl
  | ag s r => rfl
theorem count_bar : obAll.countP (fun x => decide ((SemLoc.reg barS : SemLoc sig) = obSem x)) = 7 := by decide
theorem count_rs : ∀ s r, obAll.countP (fun x => decide ((SemLoc.dma (dsem 1 s r) : SemLoc sig) = obSem x)) = 1 := by decide +kernel
theorem count_ag : ∀ s r, obAll.countP (fun x => decide ((SemLoc.dma (dsem 3 s r) : SemLoc sig) = obSem x)) = 1 := by decide +kernel

theorem launch_bar : tallyOn (barCell c) (launchCredit (Pipeline.owing O₀) 0 (barCell c)) = (tallyAt (barCell c) () 7 : CellTallies nD τ sig Unit) :=
  launch_cell c _ 7 1 amt_bar count_bar
theorem launch_rs (s r) : tallyOn (dcell c 1 s r) (launchCredit (Pipeline.owing O₀) 0 (dcell c 1 s r)) = (tallyAt (dcell c 1 s r) () N : CellTallies nD τ sig Unit) :=
  (launch_cell c _ 1 N (amt_dma _) (count_rs s r)).trans (by rw [Nat.one_mul])
theorem launch_ag (s r) : tallyOn (dcell c 3 s r) (launchCredit (Pipeline.owing O₀) 0 (dcell c 3 s r)) = (tallyAt (dcell c 3 s r) () N : CellTallies nD τ sig Unit) :=
  (launch_cell c _ 1 N (amt_dma _) (count_ag s r)).trans (by rw [Nat.one_mul])

/-- The credit device `c` waits with. -/
def Creds : sProp 𝕄 :=
  iprop(cred (tallyAt (barCell c) () 7)
    ∗ ((bigSep Finset.univ fun r => cred (tallyAt (dcell c 1 0 r) () N)) ∗ (bigSep Finset.univ fun r => cred (tallyAt (dcell c 1 1 r) () N)))
    ∗ ((bigSep Finset.univ fun r => cred (tallyAt (dcell c 3 0 r) () N)) ∗ (bigSep Finset.univ fun r => cred (tallyAt (dcell c 3 1 r) () N))))

theorem creds : (Pipeline.launchCred O₀ c : sProp 𝕄) ⊢ Creds c := by
  unfold Pipeline.launchCred
  refine (bigSep_subset (Finset.subset_univ (Finset.univ.map ⟨csem, csem_inj⟩))).trans ?_
  rw [bigSep_map]
  show (bigSep Finset.univ fun i : CI => cred (tallyOn ((c : Thread nD τ), csem i) (launchCredit (Pipeline.owing O₀) 0 ((c : Thread nD τ), csem i)))) ⊢ _
  rw [bigSep_opt]
  refine (BIClass.sep_mono (Entails.of_eq (congrArg cred (launch_bar c)))
    (Entails.of_eq (bigSep_kinds fun k s r => cred (tallyOn (dcell c k s r) (launchCredit (Pipeline.owing O₀) 0 (dcell c k s r)))))).trans ?_
  unfold byKind Creds
  simp only [launch_rs, launch_ag]
  iintro ⟨HB, -, H1, -, H3⟩
  isplitl [HB]; · iexact HB
  isplitl [H1] <;> iassumption

theorem mine_intro : iprop(places c ∗ payToks c ∗ Creds c) ⊢ (Mine c : sProp 𝕄) := by
  unfold places payToks Creds Mine byKind
  iintro ⟨⟨HP, ⟨A00, A01⟩, ⟨A10, A11⟩, ⟨A20, A21⟩, A30, A31⟩, ⟨HT, ⟨T00, T01⟩, ⟨T10, T11⟩, ⟨T20, T21⟩, T30, T31⟩, HC, ⟨C10, C11⟩, C30, C31⟩
  unfold tk wIn
  simp only [bigSep_sep']
  isplitl [HC]; · iexact HC
  isplitl [HP]; · iexact HP
  isplitl [HT]; · iexact HT
  isplitl [T00 T10 A00 T01 T11 A01]
  · isplitl [T00 T10 A00]
    · isplitl [T00]; · iexact T00
      isplitl [T10]; · iexact T10
      iexact A00
    isplitl [T01]; · iexact T01
    isplitl [T11]; · iexact T11
    iexact A01
  isplitl [T20 T30 A20 T21 T31 A21]
  · isplitl [T20 T30 A20]
    · isplitl [T20]; · iexact T20
      isplitl [T30]; · iexact T30
      iexact A20
    isplitl [T21]; · iexact T21
    isplitl [T31]; · iexact T31
    iexact A21
  isplitl [C10 A10 C11 A11]
  · isplitl [C10 A10]
    · isplitl [C10]; · iexact C10
      iexact A10
    isplitl [C11]; · iexact C11
    iexact A11
  isplitl [C30 A30]
  · isplitl [C30]; · iexact C30
    iexact A30
  isplitl [C31]; · iexact C31
  iexact A31

end Cert.KernelIdeal.Hand

end
-- ==== Proof.IdLaunch.lean ====
/-
The launch of the eight kernels: every run ends with the result array of each device at `outC`, the operands as they were and all counters at zero.
-/
module

public import proofs.«01_k».proof.Proof.IdGhost
public import proofs.«01_k».proof.Proof.Gen.KernelIdeal.Points
public import Idealize.ShloMosaic.Lib.Pipeline.Kit
public import Idealize.ShloMosaic.Lib.Pipeline.ValueKit
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

set_option maxRecDepth 16384

variable (m : (ℓ : Loc nD τ sig) → Buf (Elt F) ℓ) (ρ : Dev nD → PrngReg)

abbrev s₀ : MemSt nD τ sig (Elt F) := ⟨m, fun _ => 0, ρ⟩

/-- The operand blocks that memory `m` holds. -/
def insOf : Ins F where
  x c := (win0_0.blk (t0_0 : Fin grid0.N)).view.read (Elt F) (m ((c : Thread nD τ).loc main_arg0))
  w c := (win0_1.blk (t0_0 : Fin grid0.N)).view.read (Elt F) (m ((c : Thread nD τ).loc main_arg1))
  i c := (win0_2.blk (t0_0 : Fin grid0.N)).view.read (Elt F) (m ((c : Thread nD τ).loc main_arg2))
  e c := (win0_3.blk (t0_0 : Fin grid0.N)).view.read (Elt F) (m ((c : Thread nD τ).loc main_arg3))
  h c := (win0_4.blk (t0_0 : Fin grid0.N)).view.read (Elt F) (m ((c : Thread nD τ).loc main_arg4))

/-- What device `c` starts its body from: the records of all cells, its places, tokens and credit. -/
def start (c : Dev nD) : sProp 𝕄 := iprop(∃ K, Inv (insOf m) K ∗ Mine c)
def Φ₀ (c : Dev nD) : sProp 𝕄 := iprop(start m c ∗ Scr c)
def Φ₁ (c : Dev nD) : sProp 𝕄 := iprop(Scr (F := F) c ∗ Shut c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).w c
    | ⟨2, _⟩ => (insOf m).i c
    | ⟨3, _⟩ => (insOf m).e c
    | ⟨4, _⟩ => (insOf m).h c
    | ⟨5, _⟩ => outC (insOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`, as the pipeline states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_out (c : Dev nD) (b : Ref sig .tc) (X : b.ty.Contents (Elt F)) : stg c b X ⊢ (((c : Thread nD τ).loc b) ↦{fullShare} X : sProp 𝕄) := by
  iintro ⟨%f, %h, H⟩
  rw [← h]; iexact H
theorem stg_in (c : Dev nD) (b : Ref sig .tc) (X : b.ty.Contents (Elt F)) : (((c : Thread nD τ).loc b) ↦{fullShare} X : sProp 𝕄) ⊢ stg c b X := by
  iintro H
  iexists X; isplitr
  · ipureintro; rfl
  iexact H

theorem before_0 (c : Dev nD) (d) : (dats m ρ 0 c).before (0 : Fin 6) t0_0 d = (insOf m).x c := by
  unfold Dat.before; rw [if_pos (fetch0_0 t0_0)]; rfl
theorem before_1 (c : Dev nD) (d) : (dats m ρ 0 c).before (1 : Fin 6) t0_0 d = (insOf m).w c := by
  unfold Dat.before; rw [if_pos (fetch0_1 t0_0)]; rfl
theorem before_2 (c : Dev nD) (d) : (dats m ρ 0 c).before (2 : Fin 6) t0_0 d = (insOf m).i c := by
  unfold Dat.before; rw [if_pos (fetch0_2 t0_0)]; rfl
theorem before_3 (c : Dev nD) (d) : (dats m ρ 0 c).before (3 : Fin 6) t0_0 d = (insOf m).e c := by
  unfold Dat.before; rw [if_pos (fetch0_3 t0_0)]; rfl
theorem before_4 (c : Dev nD) (d) : (dats m ρ 0 c).before (4 : Fin 6) t0_0 d = (insOf m).h c := by
  unfold Dat.before; rw [if_pos (fetch0_4 t0_0)]; rfl

theorem owes_in (c : Dev nD) : (dats m ρ 0 c).owesAt () t0_0.castSucc ⊢ owesE (F := F) c obAll := by
  unfold Dat.owesAt Pipeline.owesWithin owesE
  iintro ⟨%W, %hW, H⟩
  iexists W; iexact H
theorem owes_out (c : Dev nD) : owesE (F := F) c [] ⊢ (dats m ρ 0 c).owesAt () t0_0.succ := by
  unfold Dat.owesAt Pipeline.owesWithin owesE
  iintro ⟨%W, H⟩
  iexists W; isplitr
  · ipureintro; exact fun _ _ => Or.inl trivial
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ (F := F) c ∗ (dats m ρ 0 c).owesAt () t0_0.succ
    ∗ stg c cc0_stg0_0 ((insOf m).x c) ∗ stg c cc0_stg1_0 ((insOf m).w c) ∗ stg c cc0_stg2_0 ((insOf m).i c)
    ∗ stg c cc0_stg3_0 ((insOf m).e c) ∗ stg c cc0_stg4_0 ((insOf m).h c) ∗ stg c cc0_stg5_0 (outC (insOf m) c))

theorem pre_split (c : Dev nD) :
    bodyPre m ρ c ⊢ iprop(∃ K, Inv (insOf m) K ∗ owesE (F := F) c obAll ∗ Mine c ∗ Args (insOf m) c ∗ (∃ f : Vec F S512x512 .f32, wh c cc0_stg5_0 f) ∗ Scr c) := by
  unfold bodyPre Φ₀ start Args
  simp only [before_0, before_1, before_2, before_3, before_4]
  iintro ⟨⟨⟨%K, HI, HM⟩, HS⟩, HO, ⟨%d0, H0⟩, ⟨%d1, H1⟩, ⟨%d2, H2⟩, ⟨%d3, H3⟩, ⟨%d4, H4⟩, %d5, %f, %hf, H5⟩
  iexists K
  isplitl [HI]; · iexact HI
  isplitl [HO]; · iapply (owes_in m ρ c) $$ HO
  isplitl [HM]; · iexact HM
  isplitl [H0 H1 H2 H3 H4]
  · isplitl [H0]; · iapply (stg_out c _ _) $$ H0
    isplitl [H1]; · iapply (stg_out c _ _) $$ H1
    isplitl [H2]; · iapply (stg_out c _ _) $$ H2
    isplitl [H3]; · iapply (stg_out c _ _) $$ H3
    iapply (stg_out c _ _) $$ H4
  isplitl [H5]
  · iexists f; iexact H5
  iexact HS
theorem post_join (c : Dev nD) :
    iprop(owesE (F := F) c [] ∗ Args (insOf m) c ∗ wh c cc0_stg5_0 (outC (insOf m) c) ∗ Scr c ∗ Shut c) ⊢ bodyPost m ρ c := by
  unfold bodyPost Φ₁ Args
  iintro ⟨HO, ⟨H0, H1, H2, H3, H4⟩, H5, HS, HZ⟩
  isplitl [HS HZ]
  · isplitl [HS] <;> iassumption
  isplitl [HO]; · iapply (owes_out m ρ c) $$ HO
  isplitl [H0]; · iapply (stg_in c _ _) $$ H0
  isplitl [H1]; · iapply (stg_in c _ _) $$ H1
  isplitl [H2]; · iapply (stg_in c _ _) $$ H2
  isplitl [H3]; · iapply (stg_in c _ _) $$ H3
  isplitl [H4]; · iapply (stg_in c _ _) $$ H4
  iapply (stg_in c _ _) $$ H5

/-- The body of one device, from what the launch hands it to what it hands back. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ c none) Set.univ
    (cc0_body (Memref.whole cc0_stg0_0) (hstage0_0 0) (Memref.whole cc0_stg1_0) (hstage0_1 0) (Memref.whole cc0_stg2_0) (hstage0_2 0)
      (Memref.whole cc0_stg3_0) (hstage0_3 0) (Memref.whole cc0_stg4_0) (hstage0_4 0) (Memref.whole cc0_stg5_0) (hstage0_5 0)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8) (fun _ => bodyPost m ρ c)
  iintro H
  ihave H := (pre_split m ρ c) $$ H
  icases H with ⟨%K, H⟩
  iapply (body_wp (insOf m) K c (Q := fun _ => bodyPost m ρ c)) $$ H
  iintro H
  iapply (post_join m ρ c) $$ H

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(start m c ∗ emp) := by
  unfold G' records start Inv
  iintro ⟨-, Hlev, Hcr, -, ⟨%K, ⟨HI, HR⟩, HP, HT⟩⟩
  ihave Hc := (creds (F := F) c) $$ Hcr
  imodintro
  isplitl
  · iexists K
    isplitl [HI HR Hlev]
    · isplitl [HI]; · iexact HI
      isplitl [HR]; · iexact HR
      iexact Hlev
    iapply (mine_intro c)
    isplitl [HP]; · iexact HP
    isplitl [HT]; · iexact HT
    iexact Hc
  · iempintro

theorem scr_eq (c : Dev nD) : (Pipeline.scopedRest cfg0.spec c : sProp 𝕄) = Scr c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems0_kinds, unscopedSems0_bar]
  unfold Φ₁ Shut shut byKind
  iintro ⟨Hr, HB, HZ⟩
  isplitl [HB]; · iexact HB
  isplitl [HZ]; · iexact HZ
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ obAll (by fin_cases w <;> fin_cases s <;> decide +kernel)
    · exact mayWait c _ [] (fun x hx => nomatch hx)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters the eight devices' programs terminate, with every array of every device at its
    stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      imod (fund (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_in (c : Dev nD) (w : Fin cfg0.W) (h : (cfg0.win w).isOut = false) : finalA m ρ c w = m ((cfg0.win w).arr.view.loc (c : Thread nD τ)) :=
  (dats m ρ 0 c).arrAt_in w h _

/-- Each device's result array ends holding the kernel's result. -/
theorem final_out (c : Dev nD) : finalA m ρ c (5 : Fin 6) = outC (insOf m) c := by
  unfold finalA
  refine (dats m ρ 0 c).arrAt_eq_of_after_last (5 : Fin 6) t0_0 (by decide +kernel) _ fun j => ?_
  rfl

end Cert.KernelIdeal.Hand

end
-- ==== Proof.IdRead.lean ====
/-
The kernel's result on a device, element by element, over the extended reals: the shared product plus the routed
expert's product scaled by its probability.
-/
module

public import proofs.«01_k».proof.Proof.IdVals
public import Idealize.ShloMosaic.Lib.Pointwise

@[expose] public section

set_option maxRecDepth 16384

noncomputable section

namespace Cert.KernelIdeal.Mix

open Cert.KernelIdeal Cert.KernelIdeal.Gen Cert.KernelIdeal.Hand
open Idealize.ShloMosaic Idealize.ShloMosaic.TcCoe

/-! ## The loads -/

/-- A coordinate of a load's rectangle, placed in the buffer. -/
theorem unit_idx {s : Shape} (off size : Fin s.rank → Nat) (inb) (j : (Rect.unit off size inb).shape.Idx) (a : Fin s.rank) :
    ((Rect.unit off size inb).toLoadRect.idx j a : Nat) = off a + j a := by
  show off a + 1 * (j a : Nat) = _; omega

section
variable (A : Ins Ideal) (c : Dev nD)

/-- The loads of whole operands read the operand. -/
theorem xL_at (n : Fin 512) (k : Fin 256) : xL A c (ix2 n k) = A.x c (ix2 n k) := by
  refine congrArg (A.x c) (funext fun a => ?_)
  fin_cases a <;> refine Fin.ext (Eq.trans (unit_idx _ _ _ _ _) ?_) <;> simp
theorem wL_at (n : Fin 256) (k : Fin 32) : wL A c (ix2 n k) = A.w c (ix2 n k) := by
  refine congrArg (A.w c) (funext fun a => ?_)
  fin_cases a <;> refine Fin.ext (Eq.trans (unit_idx _ _ _ _ _) ?_) <;> simp
theorem iL_at (n : Fin 512) : iL A c (ix2 n 0) = A.i c (ix2 n 0) := by
  refine congrArg (A.i c) (funext fun a => ?_)
  fin_cases a <;> refine Fin.ext (Eq.trans (unit_idx _ _ _ _ _) ?_) <;> simp
theorem hL_at (n : Fin 256) (k : Fin 512) : hL A c (ix2 n k) = A.h c (ix2 n k) := by
  refine congrArg (A.h c) (funext fun a => ?_)
  fin_cases a <;> refine Fin.ext (Eq.trans (unit_idx _ _ _ _ _) ?_) <;> simp

/-- Column `j` of half `s`. -/
def colOf (s : Fin 2) (j : Fin 256) : Fin 512 := ⟨256 * s.val + j.val, by omega⟩

/-- The load of a column half of one expert. -/
theorem eL_at (k : Fin 4) (s : Fin 2) (n j : Fin 256) : eL A c k s (ix3 0 n j) = A.e c (ix3 k n (colOf s j)) := by
  refine congrArg (A.e c) (funext fun a => ?_)
  fin_cases a <;> refine Fin.ext (Eq.trans (unit_idx _ _ _ _ _) ?_) <;> simp [colOf]
/-- The load of the device's own rows. -/
theorem xrL_at (n : Fin 64) (k : Fin 256) : xrL A c (ix2 n k) = A.x c (ix2 (rowOf c n) k) := by
  refine congrArg (A.x c) (funext fun a => ?_)
  fin_cases a <;> refine Fin.ext (Eq.trans (unit_idx _ _ _ _ _) ?_) <;> simp [rowOf]
theorem accL_at (s : Fin 2) (n : Fin 64) (j : Fin 256) : accL A c s (ix3 0 n j) = accC A c (ix3 s (rowOf c n) j) := by
  refine congrArg (accC A c) (funext fun a => ?_)
  fin_cases a <;> refine Fin.ext (Eq.trans (unit_idx _ _ _ _ _) ?_) <;> simp [rowOf]
theorem laL_at (s : Fin 2) (r : Fin 7) (n : Fin 64) (j : Fin 256) :
    laL A c s r (ix4 0 0 n j) = stC A (bk c r) (ix3 s (rowOf c n) j) := by
  have h : laL A c s r (ix4 0 0 n j) = laC A c (ix4 s r n j) := by
    refine congrArg (laC A c) (funext fun a => ?_)
    fin_cases a <;> refine Fin.ext (Eq.trans (unit_idx _ _ _ _ _) ?_) <;> simp
  rw [h, ix3_eq_valueIdx]; rfl
theorem agL_at (s : Fin 2) (t : Dev nD) (n : Fin 64) (j : Fin 256) :
    agL A s t (ix3 0 n j) = seC A t (ix3 s n j) := by
  have h : agL A s t (ix3 0 n j) = agC A (ix3 s (rowOf t n) j) := by
    refine congrArg (agC A) (funext fun a => ?_)
    fin_cases a <;> refine Fin.ext (Eq.trans (unit_idx _ _ _ _ _) ?_) <;> simp [rowOf]
  have e : ∀ (u : Dev nD) (m : Fin 64), u = t → m = n → seC A u (ValueIdx.ix3 s m j) = seC A t (ix3 s n j) := by
    rintro _ _ rfl rfl; rw [ix3_eq_valueIdx]
  rw [h]
  refine e _ _ (Fin.ext ?_) (Fin.ext ?_) <;> simp [rowOf] <;> omega

/-- The device's number is the group number the kernel reads. -/
theorem grp_eq : grp c = BitVec.ofNat 32 c.val := by
  revert c; decide

end

/-! ## The mathematics -/

section
variable (X : Vec Ideal S512x256 .bf16) (W : Vec Ideal S256x32 .bf16) (E : (⟨3, ![32, 256, 512]⟩ : Shape).Idx → Elt Ideal .bf16)
  (H : Vec Ideal S256x512 .bf16)

/-- The router's score of token `n` for expert `j`. -/
def score (n : Fin 512) (j : Fin 32) : EReal := ∑ k : Fin 256, X (ix2 n k) * W (ix2 k j)
/-- The exponential of the score less the row's greatest. -/
def wexp (n : Fin 512) (j : Fin 32) : EReal :=
  Ideal.exp (score X W n j - Finset.fold max (Ideal.ofBits FTy.f32 4286578688#32) (fun i : Fin 32 => score X W n i) Finset.univ)
/-- The router's probability of expert `j` for token `n`. -/
def prob (n : Fin 512) (j : Fin 32) : EReal := Ideal.div (wexp X W n j) (∑ i : Fin 32, wexp X W n i)
/-- Token `n` through expert `e`, column `h`. -/
def routed (e : Fin 32) (n h : Fin 512) : EReal := ∑ k : Fin 256, X (ix2 n k) * E (ix3 e k h)
/-- Token `n` through the shared expert. -/
def sharedAt (n h : Fin 512) : EReal := ∑ k : Fin 256, X (ix2 n k) * H (ix2 k h)
/-- The mixture for token `n` routed to expert `e`. -/
def mixAt (e : Fin 32) (n h : Fin 512) : EReal := sharedAt X H n h + prob X W n e * routed X E e n h
/-- What the holder of experts `4 d …` gives for token `n`. -/
def ownAt (e : Fin 32) (d : Dev nD) (n h : Fin 512) : EReal := if e.val / 4 = d.val then prob X W n e * routed X E e n h else 0

end

end Cert.KernelIdeal.Mix

end
-- ==== Proof.IdMix.lean ====
/-
The kernel's result, when all devices hold the same tokens, router, route and shared expert, and each its four experts
of the thirty-two: every device ends with the mixture, whatever row block or column half is read.
-/
module

public import proofs.«01_k».proof.Proof.IdRead

@[expose] public section

set_option maxRecDepth 16384

noncomputable section

namespace Cert.KernelIdeal.Mix

open Cert.KernelIdeal Cert.KernelIdeal.Gen Cert.KernelIdeal.Hand
open Idealize.ShloMosaic Idealize.ShloMosaic.TcCoe

/-- The number of the device's expert `k` among the thirty-two. -/
def exNo (d : Dev nD) (k : Fin 4) : Fin 32 := ⟨4 * d.val + k.val, by have := d.isLt; simp only [nD] at this; omega⟩

/-- The devices hold one problem: the same `X`, `W`, `H`, the route `r`, and their shares of the experts `E`. -/
structure Holds (A : Ins Ideal) (X : Vec Ideal S512x256 .bf16) (W : Vec Ideal S256x32 .bf16)
    (E : (⟨3, ![32, 256, 512]⟩ : Shape).Idx → Elt Ideal .bf16) (H : Vec Ideal S256x512 .bf16) (r : Fin 512 → Fin 32) : Prop where
  x : ∀ c, A.x c = X
  w : ∀ c, A.w c = W
  h : ∀ c, A.h c = H
  i : ∀ c n, A.i c (ix2 n 0) = BitVec.ofNat 32 (r n).val
  e : ∀ c k a b, A.e c (ix3 k a b) = E (ix3 (exNo c k) a b)

/-- A choice by the equality of two words that hold expert numbers is a choice by the numbers' equality. -/
theorem select_word (a b : Fin 32) (p q : EReal) :
    Scalar.select (IntOp.cmpi CmpIPredicate.eq (BitVec.ofNat 32 a.val) (BitVec.ofNat 32 b.val)) p q = if a = b then p else q := by
  by_cases h : a = b
  · subst h; simp [IntOp.cmpi, Scalar.select]
  · have hw : (BitVec.ofNat 32 a.val == BitVec.ofNat 32 b.val) = false := beq_eq_false_iff_ne.mpr fun h' => by
      have := congrArg BitVec.toNat h'
      simp only [BitVec.toNat_ofNat] at this
      exact h (Fin.ext (by omega))
    simp [IntOp.cmpi, Scalar.select, hw, h]

theorem two_of (s : Fin 2) : s = 0 ∨ s = 1 := by revert s; decide

section
variable {A : Ins Ideal} {X : Vec Ideal S512x256 .bf16} {W : Vec Ideal S256x32 .bf16}
    {E : (⟨3, ![32, 256, 512]⟩ : Shape).Idx → Elt Ideal .bf16} {H : Vec Ideal S256x512 .bf16} {r : Fin 512 → Fin 32}
    (hA : Holds A X W E H r)
include hA

/-- The router's chosen probability as the kernel computes it. -/
theorem top_at (c : Dev nD) (n : Fin 512) : k0_pay3 (xL A c) (wL A c) (iL A c) (ix2 n 0) = prob X W n (r n) := by
  pointwise [k0_pay3, k0_pay1, k0_pay2]
  simp only [xL_at, wL_at, iL_at, hA.x, hA.w, hA.i]
  rw [Finset.sum_eq_single (r n)]
  · rw [select_word, if_pos rfl]; rfl
  · intro j _ hj
    rw [select_word, if_neg hj]
  · intro h; exact absurd (Finset.mem_univ _) h

/-- A gate's comparison of the route with the number of the device's expert `k`. -/
theorem gate_cmp (c : Dev nD) (k : Fin 4) (e : Fin 32) (p : EReal) :
    Scalar.select (IntOp.cmpi CmpIPredicate.eq (BitVec.ofNat 32 e.val) (Scalar.addi (Scalar.muli (grp c) 4#32) (BitVec.ofNat 32 k.val))) p 0
      = if e = exNo c k then p else 0 := by
  have h : Scalar.addi (Scalar.muli (grp c) 4#32) (BitVec.ofNat 32 k.val) = BitVec.ofNat 32 (exNo c k).val := by
    clear hA; revert c k; decide
  rw [h, select_word]

/-- The gate of the device's expert `k`: the chosen probability where the token is routed to it, else zero. -/
theorem gate_at (c : Dev nD) (k : Fin 4) (n : Fin 512) :
    gate A c k (ix2 n 0) = if r n = exNo c k then prob X W n (r n) else 0 := by
  rw [← gate_cmp hA c k (r n)]
  fin_cases k
  · show k0_pay4 _ _ _ _ _ = _
    pointwise [k0_pay4, k0_pay2]
    simp only [iL_at, hA.i, top_at hA]
  · show k0_pay5 _ _ _ _ = _
    pointwise [k0_pay5, k0_pay2]
    simp only [iL_at, hA.i, top_at hA]
  · show k0_pay6 _ _ _ _ = _
    pointwise [k0_pay6, k0_pay2]
    simp only [iL_at, hA.i, top_at hA]
  · show k0_pay7 _ _ _ _ = _
    pointwise [k0_pay7, k0_pay2]
    simp only [iL_at, hA.i, top_at hA]

/-- The four gated products of a device add up to what it gives for the token. -/
theorem own_sum (c : Dev nD) (n h : Fin 512) (y : Fin 4 → EReal) (hy : ∀ k, y k = routed X E (exNo c k) n h) :
    gate A c 0 (ix2 n 0) * y 0 + gate A c 1 (ix2 n 0) * y 1 + gate A c 2 (ix2 n 0) * y 2 + gate A c 3 (ix2 n 0) * y 3
      = ownAt X W E (r n) c n h := by
  simp only [gate_at hA, hy, ownAt]
  by_cases hd : (r n).val / 4 = c.val
  · rw [if_pos hd]
    obtain ⟨k, hk⟩ : ∃ k : Fin 4, r n = exNo c k :=
      ⟨⟨(r n).val % 4, Nat.mod_lt _ (by decide)⟩, Fin.ext (by simp only [exNo]; omega)⟩
    rw [hk]
    have e : ∀ k' : Fin 4, (exNo c k = exNo c k') ↔ k = k' := fun k' => by
      simp only [exNo, Fin.mk.injEq]; rw [Fin.ext_iff]; omega
    simp only [e]
    fin_cases k <;> simp
  · rw [if_neg hd]
    have e : ∀ k : Fin 4, ¬ r n = exNo c k := fun k h => hd (by rw [h]; simp only [exNo]; omega)
    simp [e]

/-- The device's partial sums, both column halves. -/
theorem part0_at (c : Dev nD) (n : Fin 512) (j : Fin 256) : part0 A c (ix2 n j) = ownAt X W E (r n) c n (colOf 0 j) := by
  rw [← own_sum hA c n (colOf 0 j) (fun k => routed X E (exNo c k) n (colOf 0 j)) fun _ => rfl]
  pointwise [part0, k0_pay8, k0_pay1]
  simp only [xL_at, eL_at, hA.x, hA.e]; rfl
theorem part1_at (c : Dev nD) (n : Fin 512) (j : Fin 256) : part1 A c (ix2 n j) = ownAt X W E (r n) c n (colOf 1 j) := by
  rw [← own_sum hA c n (colOf 1 j) (fun k => routed X E (exNo c k) n (colOf 1 j)) fun _ => rfl]
  pointwise [part1, k0_pay13, k0_pay11, k0_pay12, k0_pay1]
  simp only [xL_at, eL_at, hA.x, hA.e]; rfl

/-- The stage and the accumulator hold them. -/
theorem stC_at (c : Dev nD) (s : Fin 2) (n : Fin 512) (j : Fin 256) : stC A c (ix3 s n j) = ownAt X W E (r n) c n (colOf s j) := by
  rcases two_of s with rfl | rfl
  · rw [← part0_at hA c n j]
    show stg0 A c (ValueIdx.ix3 0 n j) = _
    rw [← ix3_eq_valueIdx]
    pointwise [stg0, part0h, part0, k0_pay10, k0_pay9]
  · rw [← part1_at hA c n j]
    show stg1 A c (ValueIdx.ix3 0 n j) = _
    rw [← ix3_eq_valueIdx]
    pointwise [stg1, part1, k0_pay14]
theorem accC_at (c : Dev nD) (s : Fin 2) (n : Fin 512) (j : Fin 256) : accC A c (ix3 s n j) = ownAt X W E (r n) c n (colOf s j) := by
  rcases two_of s with rfl | rfl
  · rw [← part0_at hA c n j]
    show k0_pay15 (part0 A c) (ValueIdx.ix3 0 n j) = _
    rw [← ix3_eq_valueIdx]
    pointwise [k0_pay15]
  · rw [← part1_at hA c n j]
    show k0_pay16 (part1 A c) (ValueIdx.ix3 0 n j) = _
    rw [← ix3_eq_valueIdx]
    pointwise [k0_pay16]

omit hA in
/-- What a device and the seven before it on the ring give adds up to what the one that holds the expert gives. -/
theorem ring_sum (c : Dev nD) (e : Fin 32) (n h : Fin 512) :
    ownAt X W E e c n h + ∑ q : Fin 7, ownAt X W E e (bk c q) n h = prob X W n e * routed X E e n h := by
  have hd : e.val / 4 < nD := by simp only [nD]; omega
  rcases bk_cover c ⟨e.val / 4, hd⟩ with hc | ⟨q, hq⟩
  · have h0 : ∀ q : Fin 7, ownAt X W E e (bk c q) n h = 0 := fun q =>
      if_neg fun h => bk_ne c q (Eq.trans (Fin.ext h.symm) hc)
    have h1 : ownAt X W E e c n h = prob X W n e * routed X E e n h := if_pos (by rw [← hc])
    simp [h0, h1]
  · have h0 : ownAt X W E e c n h = 0 := if_neg fun h => bk_ne c q (by rw [hq]; exact Fin.ext h)
    have h1 : ownAt X W E e (bk c q) n h = prob X W n e * routed X E e n h := if_pos (by rw [hq])
    rw [h0, Finset.sum_eq_single q, h1, zero_add]
    · intro q' _ hne
      exact if_neg fun h => hne (bk_inj c q' q (by rw [hq]; exact Fin.ext h.symm))
    · intro h; exact absurd (Finset.mem_univ _) h

omit hA in
/-- The order in which the kernel adds: its own, the shared product, the seven landed. -/
theorem add_order (a b : EReal) (f : Fin 7 → EReal) :
    a + b + f 0 + f 1 + f 2 + f 3 + f 4 + f 5 + f 6 = b + (a + ∑ q : Fin 7, f q) := by
  rw [Fin.sum_univ_seven, add_comm a b]
  simp only [add_assoc]

/-- The total of the device's own rows is the mixture there. -/
theorem tot_at (c : Dev nD) (s : Fin 2) (n : Fin 64) (j : Fin 256) :
    tot A c s (ix2 n j) = mixAt X W E H (r (rowOf c n)) (rowOf c n) (colOf s j) := by
  rw [mixAt, ← ring_sum c]
  refine Eq.trans ?_ (add_order _ (sharedAt X H (rowOf c n) (colOf s j)) fun q => ownAt X W E (r (rowOf c n)) (bk c q) (rowOf c n) (colOf s j))
  rcases two_of s with rfl | rfl
  · show k0_pay24 (tot0e A c) (tot0f A c) (ix2 n j) = _
    pointwise [tot0f, tot0e, tot0d, tot0c, tot0b, tot0a, k0_pay24, k0_pay23, k0_pay22, k0_pay21, k0_pay20, k0_pay19, k0_pay18, k0_pay17]
    simp only [xrL_at, hL_at, accL_at, laL_at, accC_at hA, stC_at hA, hA.x, hA.h]
    have e : ∀ h : j.val < 512, (⟨j.val, h⟩ : Fin 512) = colOf 0 j := fun h => Fin.ext (by simp [colOf])
    rw [e]; rfl
  · show k0_pay30 (tot1d A c) (laL A c 1 6) (ix2 n j) = _
    pointwise [tot1d, tot1c, tot1b, tot1a, shared, k0_pay30, k0_pay29, k0_pay28, k0_pay27, k0_pay26, k0_pay17]
    simp only [xrL_at, hL_at, accL_at, laL_at, accC_at hA, stC_at hA, hA.x, hA.h]
    rfl

/-- The segment a device sends is its total. -/
theorem seC_at (c : Dev nD) (s : Fin 2) (n : Fin 64) (j : Fin 256) : seC A c (ix3 s n j) = tot A c s (ix2 n j) := by
  rcases two_of s with rfl | rfl
  · show seg0 A c (ValueIdx.ix3 0 n j) = tot A c 0 (ix2 n j)
    rw [← ix3_eq_valueIdx]
    pointwise [seg0, k0_pay25, tot]
  · show seg1 A c (ValueIdx.ix3 0 n j) = tot A c 1 (ix2 n j)
    rw [← ix3_eq_valueIdx]
    pointwise [seg1, k0_pay31, tot]

/-- Every block of the result is the total of the device whose rows it holds. -/
theorem outB_at (c : Dev nD) (s : Fin 2) (t : Dev nD) (n : Fin 64) (j : Fin 256) :
    outB A c s t (ix2 n j) = mixAt X W E H (r (rowOf t n)) (rowOf t n) (colOf s j) := by
  rw [outB]
  split
  · next h => subst h; exact tot_at hA t s n j
  · pointwise [k0_pay32]
    rw [agL_at, seC_at hA, tot_at hA]

/-- Every device's result is the mixture. -/
theorem outC_at (c : Dev nD) (n h : Fin 512) : outC A c (ix2 n h) = mixAt X W E H (r n) n h := by
  have key := outB_at hA c ⟨h.val / 256, by omega⟩ ⟨n.val / 64, by simp only [nD]; omega⟩
    ⟨n.val % 64, Nat.mod_lt _ (by decide)⟩ ⟨h.val % 256, Nat.mod_lt _ (by decide)⟩
  have e1 : rowOf ⟨n.val / 64, by simp only [nD]; omega⟩ ⟨n.val % 64, Nat.mod_lt _ (by decide)⟩ = n :=
    Fin.ext (by simp only [rowOf]; omega)
  have e2 : colOf ⟨h.val / 256, by omega⟩ ⟨h.val % 256, Nat.mod_lt _ (by decide)⟩ = h :=
    Fin.ext (by simp only [colOf]; omega)
  rw [e1, e2, ix2_eq_valueIdx] at key
  exact key

end

end Cert.KernelIdeal.Mix

end
-- ==== Proof.RefMix.lean ====
/-
The reference's result, element by element, over the extended reals, when every token is routed to one of the
thirty-two experts: the mixture.
-/
module

public import proofs.«01_k».proof.Proof.IdRead
public import proofs.«01_k».proof.Proof.Gen.ReferenceIdeal.Run
public import Idealize.ShloMosaic.Lib.ReduceAll

@[expose] public section

set_option maxRecDepth 16384

noncomputable section

namespace Cert.ReferenceIdeal.Hand

open Cert.ReferenceIdeal Cert.ReferenceIdeal.Gen
open Idealize.ShloMosaic Idealize.ShloMosaic.TcCoe

section
variable {α : Type}

/-- The experts' rows gathered by a vector of expert numbers: row `n` of the result is the expert that entry `n` names. -/
theorem gather_expert (x : S32x256x512.Idx → α) (idx : IVec S512x1 32) (n : Fin 512) (k : Fin 256) (h : Fin 512) (e : Fin 32)
    (he : idx (ix2 n 0) = BitVec.ofNat 32 e.val) :
    Host.gather gather_S32x256x512_S512x1_S512x256x512_12_0_n_n_0_1_1256512 x idx (ix3 n k h) = x (ix3 e k h) := by
  unfold Host.gather
  refine congrArg x (funext fun a => Fin.ext ?_)
  have e0 : (idx (ix2 n 0)).toInt.toNat = e.val := by rw [he]; clear he; revert e; decide
  fin_cases a
  · show gather_S32x256x512_S512x1_S512x256x512_12_0_n_n_0_1_1256512.start _ _ (0 : Fin 3) + 0 + 0 = e.val
    unfold GatherDims.start
    rw [dif_pos (show (0 : Fin 3) ∈ gather_S32x256x512_S512x1_S512x256x512_12_0_n_n_0_1_1256512.startIndexMap from List.mem_singleton.mpr rfl)]
    have hsi : ∀ q, gather_S32x256x512_S512x1_S512x256x512_12_0_n_n_0_1_1256512.siIdx (ix3 n k h) q = ix2 n 0 := fun q => by
      obtain rfl : q = ⟨0, Nat.one_pos⟩ := Subsingleton.elim (α := Fin 1) _ _
      funext b
      fin_cases b <;> rfl
    rw [hsi, e0]
    show min e.val (32 - 1) + 0 + 0 = e.val
    omega
  · show 0 + 0 + k.val = k.val
    omega
  · show 0 + 0 + h.val = h.val
    omega

/-- The entries of a table gathered along its rows: entry `n` of the result is row `n`'s entry at the column entry `n` names. -/
theorem gather_column (x : S512x32.Idx → α) (idx : IVec S512x1x1 32) (n : Fin 512) (e : Fin 32)
    (he : idx (ix3 n 0 0) = BitVec.ofNat 32 e.val) :
    Host.gather gather_S512x32_S512x1x1_S512x1_n_1_0_0_1_2_11 x idx (ix2 n 0) = x (ix2 n e) := by
  unfold Host.gather
  refine congrArg x (funext fun a => Fin.ext ?_)
  have e0 : (idx (ix3 n 0 0)).toInt.toNat = e.val := by rw [he]; clear he; revert e; decide
  fin_cases a
  · show 0 + n.val + 0 = n.val
    omega
  · show gather_S512x32_S512x1x1_S512x1_n_1_0_0_1_2_11.start _ _ (1 : Fin 2) + 0 + 0 = e.val
    unfold GatherDims.start
    rw [dif_pos (show (1 : Fin 2) ∈ gather_S512x32_S512x1x1_S512x1_n_1_0_0_1_2_11.startIndexMap from List.mem_singleton.mpr rfl)]
    have hsi : ∀ q, gather_S512x32_S512x1x1_S512x1_n_1_0_0_1_2_11.siIdx (ix2 n 0) q = ix3 n 0 0 := fun q => by
      obtain rfl : q = ⟨0, Nat.one_pos⟩ := Subsingleton.elim (α := Fin 1) _ _
      funext b
      fin_cases b <;> rfl
    rw [hsi, e0]
    show min e.val (32 - 1) + 0 + 0 = e.val
    omega

end

/-! ## The reference's values, in its own operations -/

section
variable (X : Vec Ideal S512x256 .bf16) (W : Vec Ideal S256x32 .bf16) (V : Vec Ideal S512x1 .i32)
  (E : Vec Ideal S32x256x512 .bf16) (H : Vec Ideal S256x512 .bf16)

/-- The router's scores. -/
def scores : FVec Ideal S512x32 .f32 :=
  Host.dotGeneral dot_S512x256_S256x32_S512x32_1_0_0_1_n_n none (extf .f32 X bitsLt_bf16_f32) (extf .f32 W bitsLt_bf16_f32)
/-- The exponentials of the scores less their row's greatest. -/
def exps : FVec Ideal S512x32 .f32 :=
  Host.exp (subf (scores X W) (broadcastInDim S512x32 ![0, 1] bcast_S512x1_S512x32_0_1 (broadcastInDim S512x1 ![0] bcast_S512_S512x1_0 (Host.reduce FloatOps.maximumf (scores X W) (constant S_ .f32 0xFF800000#32) reducesTo_S512x32_S512_d1 h_S_))))
/-- The router's probabilities. -/
def probs : FVec Ideal S512x32 .f32 :=
  Host.divf (exps X W) (broadcastInDim S512x32 ![0, 1] bcast_S512x1_S512x32_0_1 (broadcastInDim S512x1 ![0] bcast_S512_S512x1_0 (Host.reduceAdd (exps X W) (constant S_ .f32 0x00000000#32) reducesTo_S512x32_S512_d1 h_S_)))
/-- The route with a negative entry counted from the end. -/
def wrap : IVec S512x1 32 :=
  select (cmpi .slt V (broadcastInDim S512x1 ![] bcast_S_S512x1 (constantI S_ 32 0#32))) (addi V (broadcastInDim S512x1 ![] bcast_S_S512x1 (constantI S_ 32 32#32))) V
/-- The same, of the route as a vector. -/
def rows : IVec S512x1 32 :=
  broadcastInDim S512x1 ![0] bcast_S512_S512x1_0 (select (cmpi .slt (shapeCast _ V shapeCasts_S512x1_S512) (broadcastInDim S512 ![] bcast_S_S512 (constantI S_ 32 0#32))) (addi (shapeCast _ V shapeCasts_S512x1_S512) (broadcastInDim S512 ![] bcast_S_S512 (constantI S_ 32 32#32))) (shapeCast _ V shapeCasts_S512x1_S512))
/-- The chosen probabilities: what the wrapped route picks, an entry out of range giving no number. -/
def picked : FVec Ideal S512x1 .f32 :=
  select (Host.reduce IntOp.andi (andi (cmpi .sge (shapeCast _ (wrap V) shapeCasts_S512x1_S512x1x1) (broadcastInDim S512x1x1 ![] bcast_S_S512x1x1 (constantI S_ 32 0#32))) (cmpi .sle (shapeCast _ (wrap V) shapeCasts_S512x1_S512x1x1) (broadcastInDim S512x1x1 ![0, 1, 2] bcast_S1x1x1_S512x1x1_0_1_2 (broadcastInDim S1x1x1 ![2] bcast_S1_S1x1x1_2 (constantI S1 32 31#32))))) (constantI S_ 1 1#1) reducesTo_S512x1x1_S512x1_d2 h_S_) (Host.gather gather_S512x32_S512x1x1_S512x1_n_1_0_0_1_2_11 (probs X W) (shapeCast _ (wrap V) shapeCasts_S512x1_S512x1x1)) (broadcastInDim S512x1 ![] bcast_S_S512x1 (constant S_ .f32 0x7FC00000#32))
/-- The reference's result. -/
def refOf : FVec Ideal S512x512 .f32 :=
  addf (Host.dotGeneral dot_S512x256_S256x512_S512x512_1_0_0_1_n_n none (extf .f32 X bitsLt_bf16_f32) (extf .f32 H bitsLt_bf16_f32)) (mulf (broadcastInDim S512x512 ![0, 1] bcast_S512x1_S512x512_0_1 (picked X W V)) (Host.dotGeneral dot_S512x256_S512x256x512_S512x512_1_1_n_2_0_0 none (extf .f32 X bitsLt_bf16_f32) (Host.gather gather_S32x256x512_S512x1_S512x256x512_12_0_n_n_0_1_1256512 (extf .f32 E bitsLt_bf16_f32) (rows V))))

end

/-! ## Their elements -/

/-- An expert's number is not negative, so it is not wrapped, -/
theorem wrap_word (e : Fin 32) :
    Scalar.select (IntOp.cmpi CmpIPredicate.slt (BitVec.ofNat 32 e.val) 0#32) (IntOp.addi (BitVec.ofNat 32 e.val) 32#32) (BitVec.ofNat 32 e.val)
      = BitVec.ofNat 32 e.val := by
  revert e; decide
/-- and it is in range. -/
theorem range_word (e : Fin 32) :
    IntOp.andi (IntOp.cmpi CmpIPredicate.sge (BitVec.ofNat 32 e.val) 0#32) (IntOp.cmpi CmpIPredicate.sle (BitVec.ofNat 32 e.val) 31#32) = 1#1 := by
  revert e; decide

section
variable {X : Vec Ideal S512x256 .bf16} {W : Vec Ideal S256x32 .bf16} {V : Vec Ideal S512x1 .i32}
  {E : Vec Ideal S32x256x512 .bf16} {H : Vec Ideal S256x512 .bf16} {r : Fin 512 → Fin 32}

/-- An exponential, a probability: as the mixture's. -/
theorem exps_at (n : Fin 512) (j : Fin 32) : exps X W (ix2 n j) = KernelIdeal.Mix.wexp X W n j := by
  pointwise [exps, scores]
  rfl
theorem probs_at (n : Fin 512) (j : Fin 32) : probs X W (ix2 n j) = KernelIdeal.Mix.prob X W n j := by
  pointwise [probs]
  simp only [exps_at]; rfl

variable (hr : ∀ n, V (ix2 n 0) = BitVec.ofNat 32 (r n).val)
include hr

theorem wrap_at (n : Fin 512) : wrap V (ix2 n 0) = BitVec.ofNat 32 (r n).val := by
  pointwise [wrap]
  rw [hr, wrap_word]
theorem rows_at (n : Fin 512) : rows V (ix2 n 0) = BitVec.ofNat 32 (r n).val := by
  pointwise [rows]
  rw [hr, wrap_word]
/-- The chosen probability is that of the expert the token is routed to. -/
theorem picked_at (n : Fin 512) : picked X W V (ix2 n 0) = KernelIdeal.Mix.prob X W n (r n) := by
  pointwise [picked]
  rw [gather_column _ _ n (r n) (by pointwise; exact wrap_at hr n), probs_at]
  simp only [wrap_at hr, range_word]
  rfl

/-- The reference's result is the mixture. -/
theorem refOf_at (n h : Fin 512) : refOf X W V E H (ix2 n h) = KernelIdeal.Mix.mixAt X W E H (r n) n h := by
  pointwise [refOf]
  simp only [picked_at hr, gather_expert _ _ n _ h (r n) (rows_at hr n)]
  rfl

end

end Cert.ReferenceIdeal.Hand

end
-- ==== Proof.Equal.lean ====
/-
What ties the kernel's memory to the reference's: the operand blocks read the arguments, the precondition names an expert
for every token, and the two results are one array.
-/
module

public import proofs.«01_k».proof.Defs
public import proofs.«01_k».proof.Proof.IdLaunch
public import proofs.«01_k».proof.Proof.IdMix
public import proofs.«01_k».proof.Proof.RefMix

@[expose] public section

set_option maxRecDepth 16384

noncomputable section

namespace Cert.KernelIdeal.Mix

open Cert.KernelIdeal Cert.KernelIdeal.Gen Cert.KernelIdeal.Hand
open Idealize.ShloMosaic Idealize.ShloMosaic.TcCoe

section
variable (m : (ℓ : Loc nD τ sig) → Buf (Elt Ideal) ℓ) (c : Dev nD)

/-- Each operand block is its argument array. -/
theorem insOf_x : (insOf m).x c = m ((c : Thread nD τ).loc main_arg0) :=
  funext fun i => congrArg (m ((c : Thread nD τ).loc main_arg0)) (funext fun a => Fin.ext (Pipeline.Window.rect_emb_val_of_index_zero win0_0 t0_0 a rfl i))
theorem insOf_w : (insOf m).w c = m ((c : Thread nD τ).loc main_arg1) :=
  funext fun i => congrArg (m ((c : Thread nD τ).loc main_arg1)) (funext fun a => Fin.ext (Pipeline.Window.rect_emb_val_of_index_zero win0_1 t0_0 a rfl i))
theorem insOf_i : (insOf m).i c = m ((c : Thread nD τ).loc main_arg2) :=
  funext fun i => congrArg (m ((c : Thread nD τ).loc main_arg2)) (funext fun a => Fin.ext (Pipeline.Window.rect_emb_val_of_index_zero win0_2 t0_0 a rfl i))
theorem insOf_e : (insOf m).e c = m ((c : Thread nD τ).loc main_arg3) :=
  funext fun i => congrArg (m ((c : Thread nD τ).loc main_arg3)) (funext fun a => Fin.ext (Pipeline.Window.rect_emb_val_of_index_zero win0_3 t0_0 a rfl i))
theorem insOf_h : (insOf m).h c = m ((c : Thread nD τ).loc main_arg4) :=
  funext fun i => congrArg (m ((c : Thread nD τ).loc main_arg4)) (funext fun a => Fin.ext (Pipeline.Window.rect_emb_val_of_index_zero win0_4 t0_0 a rfl i))

end

/-- The device's block of the experts: expert `k` of block `c` is expert `4 c + k`. -/
theorem block_at {α : Type} (c : Dev nD) (E : (⟨3, ![32, 256, 512]⟩ : Shape).Idx → α) (k : Fin 4) (a : Fin 256) (b : Fin 512) :
    (Layout.block ⟨3, ![4, 256, 512]⟩ ⟨3, ![32, 256, 512]⟩ 0 8 c E) (ix3 k a b) = E (ix3 (exNo c k) a b) := by
  rw [Layout.block_apply]
  refine congrArg E (funext fun d => Fin.ext ?_)
  rw [Layout.Tiles.idx_val]
  fin_cases d
  · show c.val * 4 + k.val = 4 * c.val + k.val
    omega
  · rfl
  · rfl

/-- A word at least 0 and below 32, both read signed, is an expert's number. -/
theorem expert_of (v : BitVec 32) (h : IntOp.andi (IntOp.cmpi CmpIPredicate.sge v 0#32) (IntOp.cmpi CmpIPredicate.slt v 32#32) = 1#1) :
    ∃ e : Fin 32, v = BitVec.ofNat 32 e.val := by
  obtain ⟨h1, h2⟩ := IntOp.andi_eq_one.1 h
  have h3 : v.toNat < 32 := by
    have hb : ∀ b : Bool, BitVec.ofBool b = 1#1 → b = true := by decide
    have h1 := of_decide_eq_true (hb _ h1)
    have h2 := of_decide_eq_true (hb _ h2)
    have e0 : (0#32).toInt = 0 := by decide
    have e1 : (32#32).toInt = 32 := by decide
    rw [e0] at h1
    rw [e1] at h2
    have hv := BitVec.toInt_eq_toNat_cond v
    have hl := v.isLt
    split at hv <;> omega
  exact ⟨⟨v.toNat, h3⟩, BitVec.eq_of_toNat_eq (by simp)⟩

end Cert.KernelIdeal.Mix

namespace Cert.Proof

open Idealize.ShloMosaic Idealize.SL.Sem

instance facts_pre_kernel : Cert.Pre_expert_valid_KernelIdeal.Facts := ⟨by decide⟩
instance facts_pre_reference : Cert.Pre_expert_valid_ReferenceIdeal.Facts := ⟨by decide⟩

/-- The precondition names an expert for every token. -/
theorem route_of (m : (ℓ : Loc Cert.KernelIdeal.nD Cert.KernelIdeal.τ Cert.KernelIdeal.sig) → Buf (Elt Ideal) ℓ)
    (hp : Cert.Pre_KernelIdeal_expert_valid_KernelIdeal m) (c : Dev Cert.KernelIdeal.nD) :
    ∃ r : Fin 512 → Fin 32, ∀ n,
      m ((c.tc : Thread Cert.KernelIdeal.nD Cert.KernelIdeal.τ).loc Cert.KernelIdeal.main_arg2) (ix2 n 0) = BitVec.ofNat 32 (r n).val := by
  refine Classical.skolem.1 fun n => Cert.KernelIdeal.Mix.expert_of _ ?_
  have h := congrFun (hp c) (ix2 n 0)
  pointwise [Cert.Pre_expert_valid_KernelIdeal.fn] at h
  exact h

end Cert.Proof

end
-- ==== Proof.lean ====
/- The proof of the certificate: the runs of the kernel and of its reference, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.BtLaunch
public import proofs.«01_k».proof.Proof.IdLaunch
public import proofs.«01_k».proof.Proof.Equal
public import Idealize.ShloMosaic.Adequacy
public import Idealize.ShloMosaic.Init

@[expose] public section

noncomputable section

namespace Cert.Proof

open Idealize.ShloMosaic Idealize.SL.Sem

/-- The kernel on machine floats terminates on all eight devices, leaves its operands as they were and all counters at zero. -/
theorem frame_kernel : Cert.quiescent_Kernel := fun m ρ _ =>
  θ_run_mono (Cert.Kernel.Hand.run_main (F := Bits) m ρ) fun _ h =>
    ⟨fun c => ⟨(h.1 c (0 : Fin 6)).trans (Cert.Kernel.Hand.final_in m ρ c (0 : Fin 6) rfl), (h.1 c (1 : Fin 6)).trans (Cert.Kernel.Hand.final_in m ρ c (1 : Fin 6) rfl),
      (h.1 c (2 : Fin 6)).trans (Cert.Kernel.Hand.final_in m ρ c (2 : Fin 6) rfl), (h.1 c (3 : Fin 6)).trans (Cert.Kernel.Hand.final_in m ρ c (3 : Fin 6) rfl),
      (h.1 c (4 : Fin 6)).trans (Cert.Kernel.Hand.final_in m ρ c (4 : Fin 6) rfl)⟩, h.2⟩

/-- The kernel on extended reals terminates on all eight devices with the result array of each at `outC`, its operands as
    they were and all counters at zero. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      (∀ c : Dev Cert.KernelIdeal.nD,
        r.2.mem ((c.tc : Thread Cert.KernelIdeal.nD Cert.KernelIdeal.τ).loc Cert.KernelIdeal.main_v1) = Cert.KernelIdeal.Hand.outC (Cert.KernelIdeal.Hand.insOf m) c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  θ_run_mono (Cert.KernelIdeal.Hand.run_main (F := Ideal) m ρ) fun _ h =>
    ⟨fun c => ⟨(h.1 c (5 : Fin 6)).trans (Cert.KernelIdeal.Hand.final_out m ρ c),
      (h.1 c (0 : Fin 6)).trans (Cert.KernelIdeal.Hand.final_in m ρ c (0 : Fin 6) rfl), (h.1 c (1 : Fin 6)).trans (Cert.KernelIdeal.Hand.final_in m ρ c (1 : Fin 6) rfl),
      (h.1 c (2 : Fin 6)).trans (Cert.KernelIdeal.Hand.final_in m ρ c (2 : Fin 6) rfl), (h.1 c (3 : Fin 6)).trans (Cert.KernelIdeal.Hand.final_in m ρ c (3 : Fin 6) rfl),
      (h.1 c (4 : Fin 6)).trans (Cert.KernelIdeal.Hand.final_in m ρ c (4 : Fin 6) rfl)⟩, h.2⟩

theorem frame_ideal : Cert.quiescent_KernelIdeal := fun m ρ _ =>
  θ_run_mono (run_ideal m ρ) fun _ h => ⟨fun c => (h.1 c).2, h.2⟩

/-- The reference terminates and leaves its arguments as they were; it has no counters. -/
theorem frame_reference : Cert.quiescent_ReferenceIdeal := fun m ρ _ =>
  θ_run_mono (Cert.ReferenceIdeal.Value.run (F := Ideal) m ρ) fun _ h =>
    ⟨fun c => (h c).2, funext fun g => by
      rcases g.2 with q | q <;> exact q.elim0⟩

/-- From memories that hold one problem, every token routed to one of the thirty-two experts, each device's result array
    and the reference's end as one array. -/
theorem equal : Cert.algebraic_KernelIdeal_ReferenceIdeal_pre_expert_valid_KernelIdeal := fun m g m' g' hp hm => by
  obtain ⟨r, hr⟩ := route_of m hp 0
  have hA : Cert.KernelIdeal.Mix.Holds (Cert.KernelIdeal.Hand.insOf m) _ _ _ _ r :=
    ⟨fun c => (Cert.KernelIdeal.Mix.insOf_x m c).trans (hm c).1,
     fun c => (Cert.KernelIdeal.Mix.insOf_w m c).trans (hm c).2.1,
     fun c => (Cert.KernelIdeal.Mix.insOf_h m c).trans (hm c).2.2.2.2,
     fun c n => (congrFun (((Cert.KernelIdeal.Mix.insOf_i m c).trans (hm c).2.2.1).trans (hm 0).2.2.1.symm) _).trans (hr n),
     fun c k a b => (congrFun ((Cert.KernelIdeal.Mix.insOf_e m c).trans (hm c).2.2.2.1) _).trans (Cert.KernelIdeal.Mix.block_at c _ k a b)⟩
  refine ⟨Cert.ReferenceIdeal.Hand.refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    θ_run_mono (run_ideal m g) fun _ h c => ⟨(h.1 c).1.trans ?_, (h.1 c).2⟩,
    θ_run_mono (Cert.ReferenceIdeal.Value.run (F := Ideal) m' g') fun _ h => ⟨(h 0).1.trans ?_, (h 0).2⟩⟩
  · funext i
    obtain ⟨a, b, rfl⟩ : ∃ (a b : Fin 512), i = ix2 a b := ⟨i 0, i 1, eq_ix2 i⟩
    exact (Cert.KernelIdeal.Mix.outC_at hA c a b).trans
      (Cert.ReferenceIdeal.Hand.refOf_at (fun n => (congrFun (hm 0).2.2.1.symm _).trans (hr n)) a b).symm
  · rfl

theorem claim : Cert.Claim := ⟨Cert.Kernel.Gen.facts, Cert.KernelIdeal.Gen.facts, Cert.ReferenceIdeal.Gen.facts, facts_pre_kernel, facts_pre_reference,
  frame_kernel, frame_ideal, fun m ρ _ => frame_ideal m ρ trivial, frame_reference, fun m ρ _ => frame_reference m ρ trivial, trivial, equal⟩

end Cert.Proof

end
